-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 4096]⟩ ⟨2, ![4096, 4096]⟩ 0 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![4096, 128]⟩ ⟨2, ![4096, 2048]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![4096, 128]⟩ ⟨2, ![4096, 2048]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x4096 : Shape := ⟨2, ![256, 4096]⟩
abbrev S4096x128 : Shape := ⟨2, ![4096, 128]⟩
abbrev S3x256x4096 : Shape := ⟨3, ![3, 256, 4096]⟩
abbrev S4x256x4096 : Shape := ⟨3, ![4, 256, 4096]⟩
abbrev S2x256x4096 : Shape := ⟨3, ![2, 256, 4096]⟩
abbrev S8x128 : Shape := ⟨2, ![8, 128]⟩
abbrev S15x8x128 : Shape := ⟨3, ![15, 8, 128]⟩
abbrev S4 : Shape := ⟨1, ![4]⟩
abbrev S3 : Shape := ⟨1, ![3]⟩
abbrev S15 : Shape := ⟨1, ![15]⟩
abbrev S_ : Shape := ⟨0, ![]⟩
abbrev S1 : Shape := ⟨1, ![1]⟩
abbrev S1x256x4096 : Shape := ⟨3, ![1, 256, 4096]⟩
abbrev S256x128 : Shape := ⟨2, ![256, 128]⟩
abbrev S1x256x128 : Shape := ⟨3, ![1, 256, 128]⟩
abbrev S1x1x1 : Shape := ⟨3, ![1, 1, 1]⟩
abbrev S1x8x128 : Shape := ⟨3, ![1, 8, 128]⟩

abbrev nBuf : Space → Nat
  | .hbm => 3
  | .vmem => 11
  | .smem => 0
  | _ => 0

abbrev bufTy : (tb : Table) → Fin (tcTables nBuf tb) → BufTy
  | .hbm, ⟨0, _⟩ => ⟨S256x4096, .f32⟩
  | .hbm, ⟨1, _⟩ => ⟨S4096x128, .f32⟩
  | .hbm, ⟨2, _⟩ => ⟨S4096x128, .f32⟩
  | .local _ .vmem, ⟨0, _⟩ => ⟨S256x4096, .f32⟩
  | .local _ .vmem, ⟨1, _⟩ => ⟨S4096x128, .f32⟩
  | .local _ .vmem, ⟨2, _⟩ => ⟨S4096x128, .f32⟩
  | .local _ .vmem, ⟨3, _⟩ => ⟨S256x4096, .bf16⟩
  | .local _ .vmem, ⟨4, _⟩ => ⟨S4096x128, .bf16⟩
  | .local _ .vmem, ⟨5, _⟩ => ⟨S3x256x4096, .bf16⟩
  | .local _ .vmem, ⟨6, _⟩ => ⟨S4x256x4096, .bf16⟩
  | .local _ .vmem, ⟨7, _⟩ => ⟨S4x256x4096, .bf16⟩
  | .local _ .vmem, ⟨8, _⟩ => ⟨S2x256x4096, .bf16⟩
  | .local _ .vmem, ⟨9, _⟩ => ⟨S8x128, .f32⟩
  | .local _ .vmem, ⟨10, _⟩ => ⟨S15x8x128, .f32⟩
  | _, _ => ⟨S256x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 3 → Bool
  | ⟨0, _⟩ => true
  | ⟨1, _⟩ => true
  | ⟨2, _⟩ => false
  | _ => false

abbrev dmaSemScoped : Fin 68 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | _ => false

abbrev sig : RefSig :=
  (ofTc nBuf bufTy 3 68 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_scratch7 : Ref sig .tc := ⟨.vmem, 10, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_46 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_45 : BitVec 32 := 1#32
  let v68 : BitVec 32 := Scalar.muli v24 c1_i32_45
  let v69 : BitVec 32 := Scalar.addi c0_i32_46 v68
  v69.toNat
def k0_dev2 (d0 : Dev nD) : Nat :=
  let c0_i32_49 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_48 : BitVec 32 := 1#32
  let v70 : BitVec 32 := Scalar.muli v28 c1_i32_48
  let v71 : BitVec 32 := Scalar.addi c0_i32_49 v70
  v71.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_50 : BitVec 32 := 3#32
  let v72 : BitVec 1 := Scalar.cmpi .slt v20 c3_i32_50
  let v73 : BitVec 32 := Scalar.extui v72
  let c0_i32_51 : BitVec 32 := 0#32
  let v74 : BitVec 1 := Scalar.cmpi .ne v73 c0_i32_51
  v74

def k0_dev3 (d0 : Dev nD) : Nat :=
  let c0_i32_1017 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_31 : BitVec 32 := 1#32
  let v47 : BitVec 32 := Scalar.addi v20 c1_i32_31
  let c3_i32_32 : BitVec 32 := 3#32
  let v48 : BitVec 32 := Scalar.minsi v47 c3_i32_32
  let v49 : BitVec 32 := Scalar.muli c4_i32_33 v48
  let c4_i32 : BitVec 32 := 4#32
  let v3 : BitVec 32 := Scalar.remsi v2 c4_i32
  let v50 : BitVec 32 := Scalar.addi v49 v3
  let c1_i32_1016 : BitVec 32 := 1#32
  let v1127 : BitVec 32 := Scalar.muli v50 c1_i32_1016
  let v1128 : BitVec 32 := Scalar.addi c0_i32_1017 v1127
  v1128.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_52 : BitVec 32 := 0#32
  let v75 : BitVec 1 := Scalar.cmpi .sgt v20 c0_i32_52
  let v76 : BitVec 32 := Scalar.extui v75
  let c0_i32_53 : BitVec 32 := 0#32
  let v77 : BitVec 1 := Scalar.cmpi .ne v76 c0_i32_53
  v77

def k0_dev4 (d0 : Dev nD) : Nat :=
  let c0_i32_1017 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_34 : BitVec 32 := 1#32
  let v51 : BitVec 32 := Scalar.subi v20 c1_i32_34
  let c0_i32_35 : BitVec 32 := 0#32
  let v52 : BitVec 32 := Scalar.maxsi v51 c0_i32_35
  let v53 : BitVec 32 := Scalar.muli c4_i32_36 v52
  let c4_i32 : BitVec 32 := 4#32
  let v3 : BitVec 32 := Scalar.remsi v2 c4_i32
  let v54 : BitVec 32 := Scalar.addi v53 v3
  let c1_i32_1016 : BitVec 32 := 1#32
  let v1127 : BitVec 32 := Scalar.muli v54 c1_i32_1016
  let v1128 : BitVec 32 := Scalar.addi c0_i32_1017 v1127
  v1128.toNat
def k0_amt1 (d0 : Dev nD) : BitVec 32 :=
  let c2_i32_57 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_54 : BitVec 32 := 0#32
  let v78 : BitVec 1 := Scalar.cmpi .sgt v20 c0_i32_54
  let c1_i32_55 : BitVec 32 := 1#32
  let c0_i32_56 : BitVec 32 := 0#32
  let v79 : BitVec 32 := Scalar.select v78 c1_i32_55 c0_i32_56
  let v80 : BitVec 32 := Scalar.addi c2_i32_57 v79
  let c3_i32_58 : BitVec 32 := 3#32
  let v81 : BitVec 1 := Scalar.cmpi .slt v20 c3_i32_58
  let c1_i32_59 : BitVec 32 := 1#32
  let c0_i32_60 : BitVec 32 := 0#32
  let v82 : BitVec 32 := Scalar.select v81 c1_i32_59 c0_i32_60
  let v83 : BitVec 32 := Scalar.addi v80 v82
  v83

def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_64 : BitVec 32 := 3#32
  let v87 : BitVec 1 := Scalar.cmpi .slt v20 c3_i32_64
  let v88 : BitVec 32 := Scalar.extui v87
  let c0_i32_66 : BitVec 32 := 0#32
  let v89 : BitVec 1 := Scalar.cmpi .ne v88 c0_i32_66
  v89

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_61 : BitVec 32 := 2#32
  let v84 : BitVec 32 := Scalar.minsi v20 c2_i32_61
  ![v84.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_61 : BitVec 32 := 2#32
  let v84 : BitVec 32 := Scalar.minsi v20 c2_i32_61
  let c0_i32_1017 : BitVec 32 := 0#32
  let c0_i32_1018 : BitVec 32 := 0#32
  ![v84.toNat, 0, 0]
def k0_dev5 (d0 : Dev nD) : Nat :=
  let c0_i32_1016 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_31 : BitVec 32 := 1#32
  let v47 : BitVec 32 := Scalar.addi v20 c1_i32_31
  let c3_i32_32 : BitVec 32 := 3#32
  let v48 : BitVec 32 := Scalar.minsi v47 c3_i32_32
  let v49 : BitVec 32 := Scalar.muli c4_i32_33 v48
  let c4_i32 : BitVec 32 := 4#32
  let v3 : BitVec 32 := Scalar.remsi v2 c4_i32
  let v50 : BitVec 32 := Scalar.addi v49 v3
  let c1_i32_1015 : BitVec 32 := 1#32
  let v1127 : BitVec 32 := Scalar.muli v50 c1_i32_1015
  let v1128 : BitVec 32 := Scalar.addi c0_i32_1016 v1127
  v1128.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_67 : BitVec 32 := 0#32
  let v90 : BitVec 1 := Scalar.cmpi .sgt v20 c0_i32_67
  let v91 : BitVec 32 := Scalar.extui v90
  let c0_i32_69 : BitVec 32 := 0#32
  let v92 : BitVec 1 := Scalar.cmpi .ne v91 c0_i32_69
  v92

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_62 : BitVec 32 := 1#32
  let v85 : BitVec 32 := Scalar.subi v20 c1_i32_62
  let c0_i32_63 : BitVec 32 := 0#32
  let v86 : BitVec 32 := Scalar.maxsi v85 c0_i32_63
  ![v86.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_62 : BitVec 32 := 1#32
  let v85 : BitVec 32 := Scalar.subi v20 c1_i32_62
  let c0_i32_63 : BitVec 32 := 0#32
  let v86 : BitVec 32 := Scalar.maxsi v85 c0_i32_63
  let c0_i32_1017 : BitVec 32 := 0#32
  let c0_i32_1018 : BitVec 32 := 0#32
  ![v86.toNat, 0, 0]
def k0_dev6 (d0 : Dev nD) : Nat :=
  let c0_i32_1016 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_34 : BitVec 32 := 1#32
  let v51 : BitVec 32 := Scalar.subi v20 c1_i32_34
  let c0_i32_35 : BitVec 32 := 0#32
  let v52 : BitVec 32 := Scalar.maxsi v51 c0_i32_35
  let v53 : BitVec 32 := Scalar.muli c4_i32_36 v52
  let c4_i32 : BitVec 32 := 4#32
  let v3 : BitVec 32 := Scalar.remsi v2 c4_i32
  let v54 : BitVec 32 := Scalar.addi v53 v3
  let c1_i32_1015 : BitVec 32 := 1#32
  let v1127 : BitVec 32 := Scalar.muli v54 c1_i32_1015
  let v1128 : BitVec 32 := Scalar.addi c0_i32_1016 v1127
  v1128.toNat
def k0_dev7 (d0 : Dev nD) : Nat :=
  let c0_i32_74 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_73 : BitVec 32 := 1#32
  let v93 : BitVec 32 := Scalar.muli v24 c1_i32_73
  let v94 : BitVec 32 := Scalar.addi c0_i32_74 v93
  v94.toNat
def k0_dev8 (d0 : Dev nD) : Nat :=
  let c0_i32_81 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_80 : BitVec 32 := 1#32
  let v101 : BitVec 32 := Scalar.muli v28 c1_i32_80
  let v102 : BitVec 32 := Scalar.addi c0_i32_81 v101
  v102.toNat
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c256_i32 : BitVec 32 := 256#32
  let v114 : BitVec 32 := Scalar.muli v2 c256_i32
  let v115 : Index := Scalar.indexCast v114
  let c0_89 : Index := 0#32
  ![v115.toNat, 0]
def k0_off6 (d0 : Dev nD) (c1_i32_16 : BitVec 32) (c0_i32_15 : BitVec 32) (c1_i32_13 : BitVec 32) (c2_i32_14 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_12 : BitVec 32 := 1#32
  let v30 : BitVec 1 := Scalar.cmpi .eq v20 c1_i32_12
  let c2_i32 : BitVec 32 := 2#32
  let v31 : BitVec 1 := Scalar.cmpi .eq v20 c2_i32
  let v32 : BitVec 32 := Scalar.select v31 c1_i32_13 c2_i32_14
  let v33 : BitVec 32 := Scalar.select v30 c0_i32_15 v32
  let v34 : BitVec 32 := Scalar.select v29 c1_i32_16 v33
  let v122 : BitVec 1 := Scalar.cmpi .slt v34 v20
  let c1_i32_92 : BitVec 32 := 1#32
  let v123 : BitVec 32 := Scalar.subi v34 c1_i32_92
  let v124 : BitVec 32 := Scalar.select v122 v34 v123
  ![v124.toNat]
def k0_off6_at (r : Fin 2) : BitVec 32 × BitVec 32 × BitVec 32 × BitVec 32 :=
  if r.val < 1 then
    (1#32, 0#32, 1#32, 2#32)
  else
    (3#32, 3#32, 0#32, 0#32)
def k0_off7 (d0 : Dev nD) (c1_i32_16 : BitVec 32) (c0_i32_15 : BitVec 32) (c1_i32_13 : BitVec 32) (c2_i32_14 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_12 : BitVec 32 := 1#32
  let v30 : BitVec 1 := Scalar.cmpi .eq v20 c1_i32_12
  let c2_i32 : BitVec 32 := 2#32
  let v31 : BitVec 1 := Scalar.cmpi .eq v20 c2_i32
  let v32 : BitVec 32 := Scalar.select v31 c1_i32_13 c2_i32_14
  let v33 : BitVec 32 := Scalar.select v30 c0_i32_15 v32
  let v34 : BitVec 32 := Scalar.select v29 c1_i32_16 v33
  let v122 : BitVec 1 := Scalar.cmpi .slt v34 v20
  let c1_i32_92 : BitVec 32 := 1#32
  let v123 : BitVec 32 := Scalar.subi v34 c1_i32_92
  let v124 : BitVec 32 := Scalar.select v122 v34 v123
  let c0_i32_96 : BitVec 32 := 0#32
  let c0_i32_97 : BitVec 32 := 0#32
  ![v124.toNat, 0, 0]
def k0_off7_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let v140 : BitVec 1 := Scalar.cmpi .slt v34 v20
  let c3_i32_103 : BitVec 32 := 3#32
  let v141 : BitVec 1 := Scalar.cmpi .slt v20 c3_i32_103
  let v142 : BitVec 1 := Scalar.andi v140 v141
  let v146 : BitVec 32 := Scalar.extui v142
  let c0_i32_106 : BitVec 32 := 0#32
  let v147 : BitVec 1 := Scalar.cmpi .ne v146 c0_i32_106
  v147

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let c2_i32_99 : BitVec 32 := 2#32
  let v134 : BitVec 32 := Scalar.minsi v34 c2_i32_99
  ![v134.toNat]
def k0_off9 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let c2_i32_99 : BitVec 32 := 2#32
  let v134 : BitVec 32 := Scalar.minsi v34 c2_i32_99
  let c0_i32_1017 : BitVec 32 := 0#32
  let c0_i32_1018 : BitVec 32 := 0#32
  ![v134.toNat, 0, 0]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let v131 : BitVec 1 := Scalar.cmpi .slt v34 v20
  let c1_i32_98 : BitVec 32 := 1#32
  let v132 : BitVec 32 := Scalar.subi v34 c1_i32_98
  let v133 : BitVec 32 := Scalar.select v131 v34 v132
  let c0_i32_1019 : BitVec 32 := 0#32
  let c0_i32_1020 : BitVec 32 := 0#32
  ![v133.toNat, 0, 0]
def k0_dev9 (d0 : Dev nD) : Nat :=
  let c0_i32_1016 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_31 : BitVec 32 := 1#32
  let v47 : BitVec 32 := Scalar.addi v20 c1_i32_31
  let c3_i32_32 : BitVec 32 := 3#32
  let v48 : BitVec 32 := Scalar.minsi v47 c3_i32_32
  let v49 : BitVec 32 := Scalar.muli c4_i32_33 v48
  let c4_i32 : BitVec 32 := 4#32
  let v3 : BitVec 32 := Scalar.remsi v2 c4_i32
  let v50 : BitVec 32 := Scalar.addi v49 v3
  let c1_i32_1015 : BitVec 32 := 1#32
  let v1127 : BitVec 32 := Scalar.muli v50 c1_i32_1015
  let v1128 : BitVec 32 := Scalar.addi c0_i32_1016 v1127
  v1128.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let v143 : BitVec 1 := Scalar.cmpi .sgt v34 v20
  let c0_i32_104 : BitVec 32 := 0#32
  let v144 : BitVec 1 := Scalar.cmpi .sgt v20 c0_i32_104
  let v145 : BitVec 1 := Scalar.andi v143 v144
  let v148 : BitVec 32 := Scalar.extui v145
  let c0_i32_108 : BitVec 32 := 0#32
  let v149 : BitVec 1 := Scalar.cmpi .ne v148 c0_i32_108
  v149

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let c1_i32_101 : BitVec 32 := 1#32
  let v138 : BitVec 32 := Scalar.subi v34 c1_i32_101
  let c0_i32_102 : BitVec 32 := 0#32
  let v139 : BitVec 32 := Scalar.maxsi v138 c0_i32_102
  ![v139.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let c1_i32_101 : BitVec 32 := 1#32
  let v138 : BitVec 32 := Scalar.subi v34 c1_i32_101
  let c0_i32_102 : BitVec 32 := 0#32
  let v139 : BitVec 32 := Scalar.maxsi v138 c0_i32_102
  let c0_i32_1017 : BitVec 32 := 0#32
  let c0_i32_1018 : BitVec 32 := 0#32
  ![v139.toNat, 0, 0]
def k0_off13 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let v135 : BitVec 1 := Scalar.cmpi .slt v34 v20
  let c1_i32_100 : BitVec 32 := 1#32
  let v136 : BitVec 32 := Scalar.subi v34 c1_i32_100
  let v137 : BitVec 32 := Scalar.select v135 v34 v136
  let c0_i32_1019 : BitVec 32 := 0#32
  let c0_i32_1020 : BitVec 32 := 0#32
  ![v137.toNat, 0, 0]
def k0_dev10 (d0 : Dev nD) : Nat :=
  let c0_i32_1016 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_34 : BitVec 32 := 1#32
  let v51 : BitVec 32 := Scalar.subi v20 c1_i32_34
  let c0_i32_35 : BitVec 32 := 0#32
  let v52 : BitVec 32 := Scalar.maxsi v51 c0_i32_35
  let v53 : BitVec 32 := Scalar.muli c4_i32_36 v52
  let c4_i32 : BitVec 32 := 4#32
  let v3 : BitVec 32 := Scalar.remsi v2 c4_i32
  let v54 : BitVec 32 := Scalar.addi v53 v3
  let c1_i32_1015 : BitVec 32 := 1#32
  let v1127 : BitVec 32 := Scalar.muli v54 c1_i32_1015
  let v1128 : BitVec 32 := Scalar.addi c0_i32_1016 v1127
  v1128.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_109 : BitVec 32 := 1#32
  let v150 : BitVec 1 := Scalar.cmpi .sge v20 c1_i32_109
  let c2_i32_110 : BitVec 32 := 2#32
  let v151 : BitVec 1 := Scalar.cmpi .sle v20 c2_i32_110
  let v152 : BitVec 1 := Scalar.andi v150 v151
  let v168 : BitVec 32 := Scalar.extui v152
  let c0_i32_120 : BitVec 32 := 0#32
  let v169 : BitVec 1 := Scalar.cmpi .ne v168 c0_i32_120
  v169

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v1127 : BitVec 1 := Scalar.cmpi .slt v40 v20
  let c1_i32_1015 : BitVec 32 := 1#32
  let v1128 : BitVec 32 := Scalar.subi v40 c1_i32_1015
  let v1129 : BitVec 32 := Scalar.select v1127 v40 v1128
  ![v1129.toNat]
def k0_off15 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v1127 : BitVec 1 := Scalar.cmpi .slt v40 v20
  let c1_i32_1015 : BitVec 32 := 1#32
  let v1128 : BitVec 32 := Scalar.subi v40 c1_i32_1015
  let v1129 : BitVec 32 := Scalar.select v1127 v40 v1128
  let c0_i32_1019 : BitVec 32 := 0#32
  let c0_i32_1020 : BitVec 32 := 0#32
  ![v1129.toNat, 0, 0]
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v162 : BitVec 1 := Scalar.cmpi .slt v40 v20
  let c3_i32_116 : BitVec 32 := 3#32
  let v163 : BitVec 1 := Scalar.cmpi .slt v20 c3_i32_116
  let v164 : BitVec 1 := Scalar.andi v162 v163
  let v1136 : BitVec 32 := Scalar.extui v164
  let c0_i32_1021 : BitVec 32 := 0#32
  let v1137 : BitVec 1 := Scalar.cmpi .ne v1136 c0_i32_1021
  v1137

def k0_off16 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let c2_i32_112 : BitVec 32 := 2#32
  let v156 : BitVec 32 := Scalar.minsi v40 c2_i32_112
  ![v156.toNat]
def k0_off17 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let c2_i32_112 : BitVec 32 := 2#32
  let v156 : BitVec 32 := Scalar.minsi v40 c2_i32_112
  let c0_i32_1025 : BitVec 32 := 0#32
  let c0_i32_1026 : BitVec 32 := 0#32
  ![v156.toNat, 0, 0]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v153 : BitVec 1 := Scalar.cmpi .slt v40 v20
  let c1_i32_111 : BitVec 32 := 1#32
  let v154 : BitVec 32 := Scalar.subi v40 c1_i32_111
  let v155 : BitVec 32 := Scalar.select v153 v40 v154
  let c0_i32_1027 : BitVec 32 := 0#32
  let c0_i32_1028 : BitVec 32 := 0#32
  ![v155.toNat, 0, 0]
def k0_dev11 (d0 : Dev nD) : Nat :=
  let c0_i32_1024 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_31 : BitVec 32 := 1#32
  let v47 : BitVec 32 := Scalar.addi v20 c1_i32_31
  let c3_i32_32 : BitVec 32 := 3#32
  let v48 : BitVec 32 := Scalar.minsi v47 c3_i32_32
  let v49 : BitVec 32 := Scalar.muli c4_i32_33 v48
  let c4_i32 : BitVec 32 := 4#32
  let v3 : BitVec 32 := Scalar.remsi v2 c4_i32
  let v50 : BitVec 32 := Scalar.addi v49 v3
  let c1_i32_1023 : BitVec 32 := 1#32
  let v1140 : BitVec 32 := Scalar.muli v50 c1_i32_1023
  let v1141 : BitVec 32 := Scalar.addi c0_i32_1024 v1140
  v1141.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v165 : BitVec 1 := Scalar.cmpi .sgt v40 v20
  let c0_i32_117 : BitVec 32 := 0#32
  let v166 : BitVec 1 := Scalar.cmpi .sgt v20 c0_i32_117
  let v167 : BitVec 1 := Scalar.andi v165 v166
  let v1138 : BitVec 32 := Scalar.extui v167
  let c0_i32_1022 : BitVec 32 := 0#32
  let v1139 : BitVec 1 := Scalar.cmpi .ne v1138 c0_i32_1022
  v1139

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let c1_i32_114 : BitVec 32 := 1#32
  let v160 : BitVec 32 := Scalar.subi v40 c1_i32_114
  let c0_i32_115 : BitVec 32 := 0#32
  let v161 : BitVec 32 := Scalar.maxsi v160 c0_i32_115
  ![v161.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let c1_i32_114 : BitVec 32 := 1#32
  let v160 : BitVec 32 := Scalar.subi v40 c1_i32_114
  let c0_i32_115 : BitVec 32 := 0#32
  let v161 : BitVec 32 := Scalar.maxsi v160 c0_i32_115
  let c0_i32_1025 : BitVec 32 := 0#32
  let c0_i32_1026 : BitVec 32 := 0#32
  ![v161.toNat, 0, 0]
def k0_off21 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v157 : BitVec 1 := Scalar.cmpi .slt v40 v20
  let c1_i32_113 : BitVec 32 := 1#32
  let v158 : BitVec 32 := Scalar.subi v40 c1_i32_113
  let v159 : BitVec 32 := Scalar.select v157 v40 v158
  let c0_i32_1027 : BitVec 32 := 0#32
  let c0_i32_1028 : BitVec 32 := 0#32
  ![v159.toNat, 0, 0]
def k0_dev12 (d0 : Dev nD) : Nat :=
  let c0_i32_1024 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_34 : BitVec 32 := 1#32
  let v51 : BitVec 32 := Scalar.subi v20 c1_i32_34
  let c0_i32_35 : BitVec 32 := 0#32
  let v52 : BitVec 32 := Scalar.maxsi v51 c0_i32_35
  let v53 : BitVec 32 := Scalar.muli c4_i32_36 v52
  let c4_i32 : BitVec 32 := 4#32
  let v3 : BitVec 32 := Scalar.remsi v2 c4_i32
  let v54 : BitVec 32 := Scalar.addi v53 v3
  let c1_i32_1023 : BitVec 32 := 1#32
  let v1140 : BitVec 32 := Scalar.muli v54 c1_i32_1023
  let v1141 : BitVec 32 := Scalar.addi c0_i32_1024 v1140
  v1141.toNat
def k0_dev13 (d0 : Dev nD) : Nat :=
  let c0_i32_140 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_139 : BitVec 32 := 1#32
  let v185 : BitVec 32 := Scalar.muli v24 c1_i32_139
  let v186 : BitVec 32 := Scalar.addi c0_i32_140 v185
  v186.toNat
def k0_dev14 (d0 : Dev nD) : Nat :=
  let c0_i32_149 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_148 : BitVec 32 := 1#32
  let v195 : BitVec 32 := Scalar.muli v28 c1_i32_148
  let v196 : BitVec 32 := Scalar.addi c0_i32_149 v195
  v196.toNat
def k0_off22 (d0 : Dev nD) (c3_i32_155 : BitVec 32) : Fin 2 → Nat :=
  let c4_i32_154 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v205 : BitVec 32 := Scalar.muli c4_i32_154 v20
  let c4_i32 : BitVec 32 := 4#32
  let v3 : BitVec 32 := Scalar.remsi v2 c4_i32
  let v206 : BitVec 32 := Scalar.addi v3 c3_i32_155
  let c4_i32_156 : BitVec 32 := 4#32
  let v207 : BitVec 32 := Scalar.remsi v206 c4_i32_156
  let v208 : BitVec 32 := Scalar.addi v205 v207
  let c256_i32_164 : BitVec 32 := 256#32
  let v215 : BitVec 32 := Scalar.muli v208 c256_i32_164
  let v216 : Index := Scalar.indexCast v215
  let c0_165 : Index := 0#32
  ![v216.toNat, 0]
def k0_off23 (d0 : Dev nD) (c1_i32_16 : BitVec 32) (c0_i32_15 : BitVec 32) (c1_i32_13 : BitVec 32) (c2_i32_14 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_12 : BitVec 32 := 1#32
  let v30 : BitVec 1 := Scalar.cmpi .eq v20 c1_i32_12
  let c2_i32 : BitVec 32 := 2#32
  let v31 : BitVec 1 := Scalar.cmpi .eq v20 c2_i32
  let v32 : BitVec 32 := Scalar.select v31 c1_i32_13 c2_i32_14
  let v33 : BitVec 32 := Scalar.select v30 c0_i32_15 v32
  let v34 : BitVec 32 := Scalar.select v29 c1_i32_16 v33
  let v243 : BitVec 1 := Scalar.cmpi .slt v34 v20
  let c1_i32_181 : BitVec 32 := 1#32
  let v244 : BitVec 32 := Scalar.subi v34 c1_i32_181
  let v245 : BitVec 32 := Scalar.select v243 v34 v244
  let v246 : Index := Scalar.indexCast v245
  let c0_182 : Index := 0#32
  let c0_183 : Index := 0#32
  ![v246.toNat, 0, 0]
def k0_off23_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_off24 (d0 : Dev nD) (c1_i32_16 : BitVec 32) (c0_i32_15 : BitVec 32) (c1_i32_13 : BitVec 32) (c2_i32_14 : BitVec 32) : Fin 2 → Nat :=
  let c4_i32_180 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_12 : BitVec 32 := 1#32
  let v30 : BitVec 1 := Scalar.cmpi .eq v20 c1_i32_12
  let c2_i32 : BitVec 32 := 2#32
  let v31 : BitVec 1 := Scalar.cmpi .eq v20 c2_i32
  let v32 : BitVec 32 := Scalar.select v31 c1_i32_13 c2_i32_14
  let v33 : BitVec 32 := Scalar.select v30 c0_i32_15 v32
  let v34 : BitVec 32 := Scalar.select v29 c1_i32_16 v33
  let v241 : BitVec 32 := Scalar.muli c4_i32_180 v34
  let c4_i32 : BitVec 32 := 4#32
  let v3 : BitVec 32 := Scalar.remsi v2 c4_i32
  let v242 : BitVec 32 := Scalar.addi v241 v3
  let c256_i32_188 : BitVec 32 := 256#32
  let v253 : BitVec 32 := Scalar.muli v242 c256_i32_188
  let v254 : Index := Scalar.indexCast v253
  let c0_189 : Index := 0#32
  ![v254.toNat, 0]
def k0_off24_at (r : Fin 3) : BitVec 32 × BitVec 32 × BitVec 32 × BitVec 32 :=
  if r.val < 1 then
    (1#32, 0#32, 1#32, 2#32)
  else
    if r.val < 2 then
      (2#32, 2#32, 3#32, 1#32)
    else
      (3#32, 3#32, 0#32, 0#32)
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_109 : BitVec 32 := 1#32
  let v150 : BitVec 1 := Scalar.cmpi .sge v20 c1_i32_109
  let c2_i32_110 : BitVec 32 := 2#32
  let v151 : BitVec 1 := Scalar.cmpi .sle v20 c2_i32_110
  let v152 : BitVec 1 := Scalar.andi v150 v151
  let true_191 : BitVec 1 := 1#1
  let v261 : BitVec 1 := Scalar.xori v152 true_191
  let v262 : BitVec 32 := Scalar.extui v261
  let c0_i32_192 : BitVec 32 := 0#32
  let v263 : BitVec 1 := Scalar.cmpi .ne v262 c0_i32_192
  v263

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v1127 : BitVec 1 := Scalar.cmpi .slt v40 v20
  let c1_i32_1015 : BitVec 32 := 1#32
  let v1128 : BitVec 32 := Scalar.subi v40 c1_i32_1015
  let v1129 : BitVec 32 := Scalar.select v1127 v40 v1128
  ![v1129.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v1127 : BitVec 1 := Scalar.cmpi .slt v40 v20
  let c1_i32_1015 : BitVec 32 := 1#32
  let v1128 : BitVec 32 := Scalar.subi v40 c1_i32_1015
  let v1129 : BitVec 32 := Scalar.select v1127 v40 v1128
  let c0_i32_1019 : BitVec 32 := 0#32
  let c0_i32_1020 : BitVec 32 := 0#32
  ![v1129.toNat, 0, 0]
def k0_dev15 (d0 : Dev nD) : Nat :=
  let c0_i32_216 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_215 : BitVec 32 := 1#32
  let v283 : BitVec 32 := Scalar.muli v24 c1_i32_215
  let v284 : BitVec 32 := Scalar.addi c0_i32_216 v283
  v284.toNat
def k0_dev16 (d0 : Dev nD) : Nat :=
  let c0_i32_225 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_224 : BitVec 32 := 1#32
  let v293 : BitVec 32 := Scalar.muli v28 c1_i32_224
  let v294 : BitVec 32 := Scalar.addi c0_i32_225 v293
  v294.toNat
def k0_off27 (d0 : Dev nD) (c1_i32_16 : BitVec 32) (c0_i32_15 : BitVec 32) (c1_i32_13 : BitVec 32) (c2_i32_14 : BitVec 32) (c3_i32_231 : BitVec 32) : Fin 2 → Nat :=
  let c4_i32_230 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_12 : BitVec 32 := 1#32
  let v30 : BitVec 1 := Scalar.cmpi .eq v20 c1_i32_12
  let c2_i32 : BitVec 32 := 2#32
  let v31 : BitVec 1 := Scalar.cmpi .eq v20 c2_i32
  let v32 : BitVec 32 := Scalar.select v31 c1_i32_13 c2_i32_14
  let v33 : BitVec 32 := Scalar.select v30 c0_i32_15 v32
  let v34 : BitVec 32 := Scalar.select v29 c1_i32_16 v33
  let v303 : BitVec 32 := Scalar.muli c4_i32_230 v34
  let c4_i32 : BitVec 32 := 4#32
  let v3 : BitVec 32 := Scalar.remsi v2 c4_i32
  let v304 : BitVec 32 := Scalar.addi v3 c3_i32_231
  let c4_i32_232 : BitVec 32 := 4#32
  let v305 : BitVec 32 := Scalar.remsi v304 c4_i32_232
  let v306 : BitVec 32 := Scalar.addi v303 v305
  let c256_i32_239 : BitVec 32 := 256#32
  let v313 : BitVec 32 := Scalar.muli v306 c256_i32_239
  let v314 : Index := Scalar.indexCast v313
  let c0_240 : Index := 0#32
  ![v314.toNat, 0]
def k0_off27_at (r : Fin 9) : BitVec 32 × BitVec 32 × BitVec 32 × BitVec 32 × BitVec 32 :=
  if r.val < 4 then
    if r.val < 2 then
      if r.val < 1 then
        (1#32, 0#32, 1#32, 2#32, 3#32)
      else
        (1#32, 0#32, 1#32, 2#32, 1#32)
    else
      if r.val < 3 then
        (2#32, 2#32, 3#32, 1#32, 3#32)
      else
        (2#32, 2#32, 3#32, 1#32, 1#32)
  else
    if r.val < 6 then
      if r.val < 5 then
        (3#32, 3#32, 0#32, 0#32, 3#32)
      else
        (3#32, 3#32, 0#32, 0#32, 1#32)
    else
      if r.val < 7 then
        (1#32, 0#32, 1#32, 2#32, 2#32)
      else
        if r.val < 8 then
          (2#32, 2#32, 3#32, 1#32, 2#32)
        else
          (3#32, 3#32, 0#32, 0#32, 2#32)
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let v377 : BitVec 1 := Scalar.cmpi .slt v46 v20
  let c3_i32_277 : BitVec 32 := 3#32
  let v378 : BitVec 1 := Scalar.cmpi .slt v20 c3_i32_277
  let v379 : BitVec 1 := Scalar.andi v377 v378
  let v383 : BitVec 32 := Scalar.extui v379
  let c0_i32_280 : BitVec 32 := 0#32
  let v384 : BitVec 1 := Scalar.cmpi .ne v383 c0_i32_280
  v384

def k0_off28 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let c2_i32_273 : BitVec 32 := 2#32
  let v371 : BitVec 32 := Scalar.minsi v46 c2_i32_273
  ![v371.toNat]
def k0_off29 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let c2_i32_273 : BitVec 32 := 2#32
  let v371 : BitVec 32 := Scalar.minsi v46 c2_i32_273
  let c0_i32_1017 : BitVec 32 := 0#32
  let c0_i32_1018 : BitVec 32 := 0#32
  ![v371.toNat, 0, 0]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let v368 : BitVec 1 := Scalar.cmpi .slt v46 v20
  let c1_i32_272 : BitVec 32 := 1#32
  let v369 : BitVec 32 := Scalar.subi v46 c1_i32_272
  let v370 : BitVec 32 := Scalar.select v368 v46 v369
  let c0_i32_1019 : BitVec 32 := 0#32
  let c0_i32_1020 : BitVec 32 := 0#32
  ![v370.toNat, 0, 0]
def k0_dev17 (d0 : Dev nD) : Nat :=
  let c0_i32_1016 : BitVec 32 := 0#32
  let c4_i32_33 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_31 : BitVec 32 := 1#32
  let v47 : BitVec 32 := Scalar.addi v20 c1_i32_31
  let c3_i32_32 : BitVec 32 := 3#32
  let v48 : BitVec 32 := Scalar.minsi v47 c3_i32_32
  let v49 : BitVec 32 := Scalar.muli c4_i32_33 v48
  let c4_i32 : BitVec 32 := 4#32
  let v3 : BitVec 32 := Scalar.remsi v2 c4_i32
  let v50 : BitVec 32 := Scalar.addi v49 v3
  let c1_i32_1015 : BitVec 32 := 1#32
  let v1127 : BitVec 32 := Scalar.muli v50 c1_i32_1015
  let v1128 : BitVec 32 := Scalar.addi c0_i32_1016 v1127
  v1128.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let v380 : BitVec 1 := Scalar.cmpi .sgt v46 v20
  let c0_i32_278 : BitVec 32 := 0#32
  let v381 : BitVec 1 := Scalar.cmpi .sgt v20 c0_i32_278
  let v382 : BitVec 1 := Scalar.andi v380 v381
  let v385 : BitVec 32 := Scalar.extui v382
  let c0_i32_282 : BitVec 32 := 0#32
  let v386 : BitVec 1 := Scalar.cmpi .ne v385 c0_i32_282
  v386

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let c1_i32_275 : BitVec 32 := 1#32
  let v375 : BitVec 32 := Scalar.subi v46 c1_i32_275
  let c0_i32_276 : BitVec 32 := 0#32
  let v376 : BitVec 32 := Scalar.maxsi v375 c0_i32_276
  ![v376.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let c1_i32_275 : BitVec 32 := 1#32
  let v375 : BitVec 32 := Scalar.subi v46 c1_i32_275
  let c0_i32_276 : BitVec 32 := 0#32
  let v376 : BitVec 32 := Scalar.maxsi v375 c0_i32_276
  let c0_i32_1017 : BitVec 32 := 0#32
  let c0_i32_1018 : BitVec 32 := 0#32
  ![v376.toNat, 0, 0]
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let v372 : BitVec 1 := Scalar.cmpi .slt v46 v20
  let c1_i32_274 : BitVec 32 := 1#32
  let v373 : BitVec 32 := Scalar.subi v46 c1_i32_274
  let v374 : BitVec 32 := Scalar.select v372 v46 v373
  let c0_i32_1019 : BitVec 32 := 0#32
  let c0_i32_1020 : BitVec 32 := 0#32
  ![v374.toNat, 0, 0]
def k0_dev18 (d0 : Dev nD) : Nat :=
  let c0_i32_1016 : BitVec 32 := 0#32
  let c4_i32_36 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_34 : BitVec 32 := 1#32
  let v51 : BitVec 32 := Scalar.subi v20 c1_i32_34
  let c0_i32_35 : BitVec 32 := 0#32
  let v52 : BitVec 32 := Scalar.maxsi v51 c0_i32_35
  let v53 : BitVec 32 := Scalar.muli c4_i32_36 v52
  let c4_i32 : BitVec 32 := 4#32
  let v3 : BitVec 32 := Scalar.remsi v2 c4_i32
  let v54 : BitVec 32 := Scalar.addi v53 v3
  let c1_i32_1015 : BitVec 32 := 1#32
  let v1127 : BitVec 32 := Scalar.muli v54 c1_i32_1015
  let v1128 : BitVec 32 := Scalar.addi c0_i32_1016 v1127
  v1128.toNat
def k0_dev19 (d0 : Dev nD) : Nat :=
  let c0_i32_306 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_305 : BitVec 32 := 1#32
  let v406 : BitVec 32 := Scalar.muli v24 c1_i32_305
  let v407 : BitVec 32 := Scalar.addi c0_i32_306 v406
  v407.toNat
def k0_dev20 (d0 : Dev nD) : Nat :=
  let c0_i32_315 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_314 : BitVec 32 := 1#32
  let v416 : BitVec 32 := Scalar.muli v28 c1_i32_314
  let v417 : BitVec 32 := Scalar.addi c0_i32_315 v416
  v417.toNat
def k0_dev21 (d0 : Dev nD) : Nat :=
  let c0_i32_404 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_403 : BitVec 32 := 1#32
  let v534 : BitVec 32 := Scalar.muli v24 c1_i32_403
  let v535 : BitVec 32 := Scalar.addi c0_i32_404 v534
  v535.toNat
def k0_dev22 (d0 : Dev nD) : Nat :=
  let c0_i32_414 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_413 : BitVec 32 := 1#32
  let v544 : BitVec 32 := Scalar.muli v28 c1_i32_413
  let v545 : BitVec 32 := Scalar.addi c0_i32_414 v544
  v545.toNat
def k0_dev23 (d0 : Dev nD) : Nat :=
  let c0_i32_444 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_443 : BitVec 32 := 1#32
  let v580 : BitVec 32 := Scalar.muli v28 c1_i32_443
  let v581 : BitVec 32 := Scalar.addi c0_i32_444 v580
  v581.toNat
def k0_dev24 (d0 : Dev nD) : Nat :=
  let c0_i32_452 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_451 : BitVec 32 := 1#32
  let v582 : BitVec 32 := Scalar.muli v24 c1_i32_451
  let v583 : BitVec 32 := Scalar.addi c0_i32_452 v582
  v583.toNat
def k0_dev25 (d0 : Dev nD) : Nat :=
  let c0_i32_482 : BitVec 32 := 0#32
  let c4_i32_6 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v21 : BitVec 32 := Scalar.muli c4_i32_6 v20
  let c4_i32 : BitVec 32 := 4#32
  let v3 : BitVec 32 := Scalar.remsi v2 c4_i32
  let c1_i32_7 : BitVec 32 := 1#32
  let v22 : BitVec 32 := Scalar.addi v3 c1_i32_7
  let c4_i32_8 : BitVec 32 := 4#32
  let v23 : BitVec 32 := Scalar.remsi v22 c4_i32_8
  let v24 : BitVec 32 := Scalar.addi v21 v23
  let c1_i32_481 : BitVec 32 := 1#32
  let v618 : BitVec 32 := Scalar.muli v24 c1_i32_481
  let v619 : BitVec 32 := Scalar.addi c0_i32_482 v618
  v619.toNat
def k0_dev26 (d0 : Dev nD) : Nat :=
  let c0_i32_490 : BitVec 32 := 0#32
  let c4_i32_9 : BitVec 32 := 4#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let v25 : BitVec 32 := Scalar.muli c4_i32_9 v20
  let c4_i32 : BitVec 32 := 4#32
  let v3 : BitVec 32 := Scalar.remsi v2 c4_i32
  let c3_i32 : BitVec 32 := 3#32
  let v26 : BitVec 32 := Scalar.addi v3 c3_i32
  let c4_i32_10 : BitVec 32 := 4#32
  let v27 : BitVec 32 := Scalar.remsi v26 c4_i32_10
  let v28 : BitVec 32 := Scalar.addi v25 v27
  let c1_i32_489 : BitVec 32 := 1#32
  let v620 : BitVec 32 := Scalar.muli v28 c1_i32_489
  let v621 : BitVec 32 := Scalar.addi c0_i32_490 v620
  v621.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_541 : BitVec 32 := 3#32
  let v682 : BitVec 1 := Scalar.cmpi .slt v20 c3_i32_541
  let v683 : BitVec 32 := Scalar.extui v682
  let c0_i32_543 : BitVec 32 := 0#32
  let v684 : BitVec 1 := Scalar.cmpi .ne v683 c0_i32_543
  v684

def k0_off34 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_61 : BitVec 32 := 2#32
  let v84 : BitVec 32 := Scalar.minsi v20 c2_i32_61
  let c0_i32_1016 : BitVec 32 := 0#32
  let c0_i32_1017 : BitVec 32 := 0#32
  ![v84.toNat, 0, 0]
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_544 : BitVec 32 := 0#32
  let v685 : BitVec 1 := Scalar.cmpi .sgt v20 c0_i32_544
  let v686 : BitVec 32 := Scalar.extui v685
  let c0_i32_546 : BitVec 32 := 0#32
  let v687 : BitVec 1 := Scalar.cmpi .ne v686 c0_i32_546
  v687

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_62 : BitVec 32 := 1#32
  let v85 : BitVec 32 := Scalar.subi v20 c1_i32_62
  let c0_i32_63 : BitVec 32 := 0#32
  let v86 : BitVec 32 := Scalar.maxsi v85 c0_i32_63
  let c0_i32_1016 : BitVec 32 := 0#32
  let c0_i32_1017 : BitVec 32 := 0#32
  ![v86.toNat, 0, 0]
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let v140 : BitVec 1 := Scalar.cmpi .slt v34 v20
  let c3_i32_103 : BitVec 32 := 3#32
  let v141 : BitVec 1 := Scalar.cmpi .slt v20 c3_i32_103
  let v142 : BitVec 1 := Scalar.andi v140 v141
  let v688 : BitVec 32 := Scalar.extui v142
  let c0_i32_548 : BitVec 32 := 0#32
  let v689 : BitVec 1 := Scalar.cmpi .ne v688 c0_i32_548
  v689

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let v131 : BitVec 1 := Scalar.cmpi .slt v34 v20
  let c1_i32_98 : BitVec 32 := 1#32
  let v132 : BitVec 32 := Scalar.subi v34 c1_i32_98
  let v133 : BitVec 32 := Scalar.select v131 v34 v132
  let c0_i32_1016 : BitVec 32 := 0#32
  let c0_i32_1017 : BitVec 32 := 0#32
  ![v133.toNat, 0, 0]
def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let c2_i32_99 : BitVec 32 := 2#32
  let v134 : BitVec 32 := Scalar.minsi v34 c2_i32_99
  let c0_i32_1018 : BitVec 32 := 0#32
  let c0_i32_1019 : BitVec 32 := 0#32
  ![v134.toNat, 0, 0]
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let v143 : BitVec 1 := Scalar.cmpi .sgt v34 v20
  let c0_i32_104 : BitVec 32 := 0#32
  let v144 : BitVec 1 := Scalar.cmpi .sgt v20 c0_i32_104
  let v145 : BitVec 1 := Scalar.andi v143 v144
  let v690 : BitVec 32 := Scalar.extui v145
  let c0_i32_550 : BitVec 32 := 0#32
  let v691 : BitVec 1 := Scalar.cmpi .ne v690 c0_i32_550
  v691

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let v135 : BitVec 1 := Scalar.cmpi .slt v34 v20
  let c1_i32_100 : BitVec 32 := 1#32
  let v136 : BitVec 32 := Scalar.subi v34 c1_i32_100
  let v137 : BitVec 32 := Scalar.select v135 v34 v136
  let c0_i32_1016 : BitVec 32 := 0#32
  let c0_i32_1017 : BitVec 32 := 0#32
  ![v137.toNat, 0, 0]
def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_11 : BitVec 32 := 0#32
  let v29 : BitVec 1 := Scalar.cmpi .eq v20 c0_i32_11
  let c1_i32_16 : BitVec 32 := 1#32
  let c1_i32_12 : BitVec 32 := 1#32
  let v30 : BitVec 1 := Scalar.cmpi .eq v20 c1_i32_12
  let c0_i32_15 : BitVec 32 := 0#32
  let c2_i32 : BitVec 32 := 2#32
  let v31 : BitVec 1 := Scalar.cmpi .eq v20 c2_i32
  let c1_i32_13 : BitVec 32 := 1#32
  let c2_i32_14 : BitVec 32 := 2#32
  let v32 : BitVec 32 := Scalar.select v31 c1_i32_13 c2_i32_14
  let v33 : BitVec 32 := Scalar.select v30 c0_i32_15 v32
  let v34 : BitVec 32 := Scalar.select v29 c1_i32_16 v33
  let c1_i32_101 : BitVec 32 := 1#32
  let v138 : BitVec 32 := Scalar.subi v34 c1_i32_101
  let c0_i32_102 : BitVec 32 := 0#32
  let v139 : BitVec 32 := Scalar.maxsi v138 c0_i32_102
  let c0_i32_1018 : BitVec 32 := 0#32
  let c0_i32_1019 : BitVec 32 := 0#32
  ![v139.toNat, 0, 0]
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v162 : BitVec 1 := Scalar.cmpi .slt v40 v20
  let c3_i32_116 : BitVec 32 := 3#32
  let v163 : BitVec 1 := Scalar.cmpi .slt v20 c3_i32_116
  let v164 : BitVec 1 := Scalar.andi v162 v163
  let v692 : BitVec 32 := Scalar.extui v164
  let c0_i32_552 : BitVec 32 := 0#32
  let v693 : BitVec 1 := Scalar.cmpi .ne v692 c0_i32_552
  v693

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v153 : BitVec 1 := Scalar.cmpi .slt v40 v20
  let c1_i32_111 : BitVec 32 := 1#32
  let v154 : BitVec 32 := Scalar.subi v40 c1_i32_111
  let v155 : BitVec 32 := Scalar.select v153 v40 v154
  let c0_i32_1016 : BitVec 32 := 0#32
  let c0_i32_1017 : BitVec 32 := 0#32
  ![v155.toNat, 0, 0]
def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let c2_i32_112 : BitVec 32 := 2#32
  let v156 : BitVec 32 := Scalar.minsi v40 c2_i32_112
  let c0_i32_1018 : BitVec 32 := 0#32
  let c0_i32_1019 : BitVec 32 := 0#32
  ![v156.toNat, 0, 0]
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v165 : BitVec 1 := Scalar.cmpi .sgt v40 v20
  let c0_i32_117 : BitVec 32 := 0#32
  let v166 : BitVec 1 := Scalar.cmpi .sgt v20 c0_i32_117
  let v167 : BitVec 1 := Scalar.andi v165 v166
  let v694 : BitVec 32 := Scalar.extui v167
  let c0_i32_554 : BitVec 32 := 0#32
  let v695 : BitVec 1 := Scalar.cmpi .ne v694 c0_i32_554
  v695

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let v157 : BitVec 1 := Scalar.cmpi .slt v40 v20
  let c1_i32_113 : BitVec 32 := 1#32
  let v158 : BitVec 32 := Scalar.subi v40 c1_i32_113
  let v159 : BitVec 32 := Scalar.select v157 v40 v158
  let c0_i32_1016 : BitVec 32 := 0#32
  let c0_i32_1017 : BitVec 32 := 0#32
  ![v159.toNat, 0, 0]
def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_17 : BitVec 32 := 0#32
  let v35 : BitVec 1 := Scalar.cmpi .eq v20 c0_i32_17
  let c2_i32_23 : BitVec 32 := 2#32
  let c1_i32_18 : BitVec 32 := 1#32
  let v36 : BitVec 1 := Scalar.cmpi .eq v20 c1_i32_18
  let c2_i32_22 : BitVec 32 := 2#32
  let c2_i32_19 : BitVec 32 := 2#32
  let v37 : BitVec 1 := Scalar.cmpi .eq v20 c2_i32_19
  let c3_i32_20 : BitVec 32 := 3#32
  let c1_i32_21 : BitVec 32 := 1#32
  let v38 : BitVec 32 := Scalar.select v37 c3_i32_20 c1_i32_21
  let v39 : BitVec 32 := Scalar.select v36 c2_i32_22 v38
  let v40 : BitVec 32 := Scalar.select v35 c2_i32_23 v39
  let c1_i32_114 : BitVec 32 := 1#32
  let v160 : BitVec 32 := Scalar.subi v40 c1_i32_114
  let c0_i32_115 : BitVec 32 := 0#32
  let v161 : BitVec 32 := Scalar.maxsi v160 c0_i32_115
  let c0_i32_1018 : BitVec 32 := 0#32
  let c0_i32_1019 : BitVec 32 := 0#32
  ![v161.toNat, 0, 0]
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let v377 : BitVec 1 := Scalar.cmpi .slt v46 v20
  let c3_i32_277 : BitVec 32 := 3#32
  let v378 : BitVec 1 := Scalar.cmpi .slt v20 c3_i32_277
  let v379 : BitVec 1 := Scalar.andi v377 v378
  let v696 : BitVec 32 := Scalar.extui v379
  let c0_i32_556 : BitVec 32 := 0#32
  let v697 : BitVec 1 := Scalar.cmpi .ne v696 c0_i32_556
  v697

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let v368 : BitVec 1 := Scalar.cmpi .slt v46 v20
  let c1_i32_272 : BitVec 32 := 1#32
  let v369 : BitVec 32 := Scalar.subi v46 c1_i32_272
  let v370 : BitVec 32 := Scalar.select v368 v46 v369
  let c0_i32_1016 : BitVec 32 := 0#32
  let c0_i32_1017 : BitVec 32 := 0#32
  ![v370.toNat, 0, 0]
def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let c2_i32_273 : BitVec 32 := 2#32
  let v371 : BitVec 32 := Scalar.minsi v46 c2_i32_273
  let c0_i32_1018 : BitVec 32 := 0#32
  let c0_i32_1019 : BitVec 32 := 0#32
  ![v371.toNat, 0, 0]
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let v380 : BitVec 1 := Scalar.cmpi .sgt v46 v20
  let c0_i32_278 : BitVec 32 := 0#32
  let v381 : BitVec 1 := Scalar.cmpi .sgt v20 c0_i32_278
  let v382 : BitVec 1 := Scalar.andi v380 v381
  let v698 : BitVec 32 := Scalar.extui v382
  let c0_i32_558 : BitVec 32 := 0#32
  let v699 : BitVec 1 := Scalar.cmpi .ne v698 c0_i32_558
  v699

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let v372 : BitVec 1 := Scalar.cmpi .slt v46 v20
  let c1_i32_274 : BitVec 32 := 1#32
  let v373 : BitVec 32 := Scalar.subi v46 c1_i32_274
  let v374 : BitVec 32 := Scalar.select v372 v46 v373
  let c0_i32_1016 : BitVec 32 := 0#32
  let c0_i32_1017 : BitVec 32 := 0#32
  ![v374.toNat, 0, 0]
def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_24 : BitVec 32 := 0#32
  let v41 : BitVec 1 := Scalar.cmpi .eq v20 c0_i32_24
  let c3_i32_30 : BitVec 32 := 3#32
  let c1_i32_25 : BitVec 32 := 1#32
  let v42 : BitVec 1 := Scalar.cmpi .eq v20 c1_i32_25
  let c3_i32_29 : BitVec 32 := 3#32
  let c2_i32_26 : BitVec 32 := 2#32
  let v43 : BitVec 1 := Scalar.cmpi .eq v20 c2_i32_26
  let c0_i32_27 : BitVec 32 := 0#32
  let c0_i32_28 : BitVec 32 := 0#32
  let v44 : BitVec 32 := Scalar.select v43 c0_i32_27 c0_i32_28
  let v45 : BitVec 32 := Scalar.select v42 c3_i32_29 v44
  let v46 : BitVec 32 := Scalar.select v41 c3_i32_30 v45
  let c1_i32_275 : BitVec 32 := 1#32
  let v375 : BitVec 32 := Scalar.subi v46 c1_i32_275
  let c0_i32_276 : BitVec 32 := 0#32
  let v376 : BitVec 32 := Scalar.maxsi v375 c0_i32_276
  let c0_i32_1018 : BitVec 32 := 0#32
  let c0_i32_1019 : BitVec 32 := 0#32
  ![v376.toNat, 0, 0]
def k0_dev27 (d0 : Dev nD) : Nat :=
  let c0_i32_663 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_657 : BitVec 32 := 1#32
  let v772 : BitVec 32 := Scalar.addi v2 c1_i32_657
  let c16_i32_658 : BitVec 32 := 16#32
  let v773 : BitVec 32 := Scalar.remsi v772 c16_i32_658
  let c1_i32_662 : BitVec 32 := 1#32
  let v774 : BitVec 32 := Scalar.muli v773 c1_i32_662
  let v775 : BitVec 32 := Scalar.addi c0_i32_663 v774
  v775.toNat
def k0_dev28 (d0 : Dev nD) : Nat :=
  let c0_i32_672 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_666 : BitVec 32 := 2#32
  let v782 : BitVec 32 := Scalar.addi v2 c2_i32_666
  let c16_i32_667 : BitVec 32 := 16#32
  let v783 : BitVec 32 := Scalar.remsi v782 c16_i32_667
  let c1_i32_671 : BitVec 32 := 1#32
  let v784 : BitVec 32 := Scalar.muli v783 c1_i32_671
  let v785 : BitVec 32 := Scalar.addi c0_i32_672 v784
  v785.toNat
def k0_dev29 (d0 : Dev nD) : Nat :=
  let c0_i32_681 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_675 : BitVec 32 := 3#32
  let v792 : BitVec 32 := Scalar.addi v2 c3_i32_675
  let c16_i32_676 : BitVec 32 := 16#32
  let v793 : BitVec 32 := Scalar.remsi v792 c16_i32_676
  let c1_i32_680 : BitVec 32 := 1#32
  let v794 : BitVec 32 := Scalar.muli v793 c1_i32_680
  let v795 : BitVec 32 := Scalar.addi c0_i32_681 v794
  v795.toNat
def k0_dev30 (d0 : Dev nD) : Nat :=
  let c0_i32_690 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_684 : BitVec 32 := 4#32
  let v802 : BitVec 32 := Scalar.addi v2 c4_i32_684
  let c16_i32_685 : BitVec 32 := 16#32
  let v803 : BitVec 32 := Scalar.remsi v802 c16_i32_685
  let c1_i32_689 : BitVec 32 := 1#32
  let v804 : BitVec 32 := Scalar.muli v803 c1_i32_689
  let v805 : BitVec 32 := Scalar.addi c0_i32_690 v804
  v805.toNat
def k0_dev31 (d0 : Dev nD) : Nat :=
  let c0_i32_698 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v812 : BitVec 32 := Scalar.addi v2 c5_i32
  let c16_i32_693 : BitVec 32 := 16#32
  let v813 : BitVec 32 := Scalar.remsi v812 c16_i32_693
  let c1_i32_697 : BitVec 32 := 1#32
  let v814 : BitVec 32 := Scalar.muli v813 c1_i32_697
  let v815 : BitVec 32 := Scalar.addi c0_i32_698 v814
  v815.toNat
def k0_dev32 (d0 : Dev nD) : Nat :=
  let c0_i32_706 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v822 : BitVec 32 := Scalar.addi v2 c6_i32
  let c16_i32_701 : BitVec 32 := 16#32
  let v823 : BitVec 32 := Scalar.remsi v822 c16_i32_701
  let c1_i32_705 : BitVec 32 := 1#32
  let v824 : BitVec 32 := Scalar.muli v823 c1_i32_705
  let v825 : BitVec 32 := Scalar.addi c0_i32_706 v824
  v825.toNat
def k0_dev33 (d0 : Dev nD) : Nat :=
  let c0_i32_714 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v832 : BitVec 32 := Scalar.addi v2 c7_i32
  let c16_i32_709 : BitVec 32 := 16#32
  let v833 : BitVec 32 := Scalar.remsi v832 c16_i32_709
  let c1_i32_713 : BitVec 32 := 1#32
  let v834 : BitVec 32 := Scalar.muli v833 c1_i32_713
  let v835 : BitVec 32 := Scalar.addi c0_i32_714 v834
  v835.toNat
def k0_dev34 (d0 : Dev nD) : Nat :=
  let c0_i32_722 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v842 : BitVec 32 := Scalar.addi v2 c8_i32
  let c16_i32_717 : BitVec 32 := 16#32
  let v843 : BitVec 32 := Scalar.remsi v842 c16_i32_717
  let c1_i32_721 : BitVec 32 := 1#32
  let v844 : BitVec 32 := Scalar.muli v843 c1_i32_721
  let v845 : BitVec 32 := Scalar.addi c0_i32_722 v844
  v845.toNat
def k0_dev35 (d0 : Dev nD) : Nat :=
  let c0_i32_730 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v852 : BitVec 32 := Scalar.addi v2 c9_i32
  let c16_i32_725 : BitVec 32 := 16#32
  let v853 : BitVec 32 := Scalar.remsi v852 c16_i32_725
  let c1_i32_729 : BitVec 32 := 1#32
  let v854 : BitVec 32 := Scalar.muli v853 c1_i32_729
  let v855 : BitVec 32 := Scalar.addi c0_i32_730 v854
  v855.toNat
def k0_dev36 (d0 : Dev nD) : Nat :=
  let c0_i32_738 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v862 : BitVec 32 := Scalar.addi v2 c10_i32
  let c16_i32_733 : BitVec 32 := 16#32
  let v863 : BitVec 32 := Scalar.remsi v862 c16_i32_733
  let c1_i32_737 : BitVec 32 := 1#32
  let v864 : BitVec 32 := Scalar.muli v863 c1_i32_737
  let v865 : BitVec 32 := Scalar.addi c0_i32_738 v864
  v865.toNat
def k0_dev37 (d0 : Dev nD) : Nat :=
  let c0_i32_746 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v872 : BitVec 32 := Scalar.addi v2 c11_i32
  let c16_i32_741 : BitVec 32 := 16#32
  let v873 : BitVec 32 := Scalar.remsi v872 c16_i32_741
  let c1_i32_745 : BitVec 32 := 1#32
  let v874 : BitVec 32 := Scalar.muli v873 c1_i32_745
  let v875 : BitVec 32 := Scalar.addi c0_i32_746 v874
  v875.toNat
def k0_dev38 (d0 : Dev nD) : Nat :=
  let c0_i32_754 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v882 : BitVec 32 := Scalar.addi v2 c12_i32
  let c16_i32_749 : BitVec 32 := 16#32
  let v883 : BitVec 32 := Scalar.remsi v882 c16_i32_749
  let c1_i32_753 : BitVec 32 := 1#32
  let v884 : BitVec 32 := Scalar.muli v883 c1_i32_753
  let v885 : BitVec 32 := Scalar.addi c0_i32_754 v884
  v885.toNat
def k0_dev39 (d0 : Dev nD) : Nat :=
  let c0_i32_762 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v892 : BitVec 32 := Scalar.addi v2 c13_i32
  let c16_i32_757 : BitVec 32 := 16#32
  let v893 : BitVec 32 := Scalar.remsi v892 c16_i32_757
  let c1_i32_761 : BitVec 32 := 1#32
  let v894 : BitVec 32 := Scalar.muli v893 c1_i32_761
  let v895 : BitVec 32 := Scalar.addi c0_i32_762 v894
  v895.toNat
def k0_dev40 (d0 : Dev nD) : Nat :=
  let c0_i32_770 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v902 : BitVec 32 := Scalar.addi v2 c14_i32
  let c16_i32_765 : BitVec 32 := 16#32
  let v903 : BitVec 32 := Scalar.remsi v902 c16_i32_765
  let c1_i32_769 : BitVec 32 := 1#32
  let v904 : BitVec 32 := Scalar.muli v903 c1_i32_769
  let v905 : BitVec 32 := Scalar.addi c0_i32_770 v904
  v905.toNat
def k0_dev41 (d0 : Dev nD) : Nat :=
  let c0_i32_778 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v912 : BitVec 32 := Scalar.addi v2 c15_i32
  let c16_i32_773 : BitVec 32 := 16#32
  let v913 : BitVec 32 := Scalar.remsi v912 c16_i32_773
  let c1_i32_777 : BitVec 32 := 1#32
  let v914 : BitVec 32 := Scalar.muli v913 c1_i32_777
  let v915 : BitVec 32 := Scalar.addi c0_i32_778 v914
  v915.toNat
abbrev stage0_0 : Fin 1 → Memref sig .tc .vmem S256x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩
abbrev S1x4096x2048 : Shape := ⟨3, ![1, 4096, 2048]⟩
abbrev S1 : Shape := ⟨1, ![1]⟩
abbrev S1x1x1 : Shape := ⟨3, ![1, 1, 1]⟩

abbrev nBuf : Space → Nat
  | .hbm => 7
  | .vmem => 2
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S4096x2048, .f32⟩
  | .hbm, ⟨5, _⟩ => ⟨S4096x2048, .f32⟩
  | .hbm, ⟨6, _⟩ => ⟨S4096x2048, .f32⟩
  | .local _ .vmem, ⟨0, _⟩ => ⟨S4096x2048, .f32⟩
  | .local _ .vmem, ⟨1, _⟩ => ⟨S4096x2048, .f32⟩
  | _, _ => ⟨S4096x4096, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4096x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.Mesh.lean ====
module

public import Mathlib.Data.Fintype.Basic
public import Mathlib.Data.Fintype.Sum
public import Mathlib.Data.List.FinRange
public import Idealize.ShloMosaic.Lib.Ring

/-!
# The exchange on the sixteen devices, as tables

Device `c` sits in plane `c / 4` at place `c % 4` of a ring of four.  A block is named by the device it comes from.
A device holds sixteen *places* a block may sit in (numbered `4 * kind + w`, `w < 4`): kind 0 its own block and its column's other three in
the order it takes them, kind 1 what comes round the ring from the previous device, kind 2 what comes from the next, kind 3 what comes
from two away.  It makes twenty block *transfers* (numbered `4 * kind + w`): kind 0 up the column, 1 down it, 2 to the
next device of the ring, 3 to the previous, 4 the second hop (even `w` to the next, odd `w` to the previous).  The program's effects are
numbered in program order; what is held when is read off these numbers.  Small tables are written as numbers, their entries read from
the right.
-/

@[expose] public section

namespace Cert.Mesh

abbrev Dv := Fin 16
abbrev Tx := Fin 20
abbrev Pl := Fin 16

/-- Entry `i` of a table of digits, of a table of pairs of digits. -/
def dig (t i : ℕ) : ℕ := t / 10 ^ i % 10
def dig2 (t i : ℕ) : ℕ := t / 100 ^ i % 100

/-- The planes in the order plane `z` takes its column's blocks; when plane `z` takes plane `o`'s block. -/
def zz (z w : ℕ) : ℕ := dig 0123031232013210 (4 * z + w)
def zi (z o : ℕ) : ℕ := dig 0123201332013210 (4 * z + o)

theorem zz_lt (z w : Fin 4) : zz z w < 4 := by revert z w; decide +kernel
theorem zi_lt (z o : Fin 4) : zi z o < 4 := by revert z o; decide +kernel

def md (n : ℕ) : Dv := ⟨n % 16, Nat.mod_lt _ (by decide)⟩
def nxt (c : Dv) : Dv := md (4 * (c.val / 4) + (c.val + 1) % 4)
def prv (c : Dv) : Dv := md (4 * (c.val / 4) + (c.val + 3) % 4)
def upd (c : Dv) : Dv := md (c.val + 4)
def dnd (c : Dv) : Dv := md (c.val + 12)

/-- Transfer `i` takes place in plane `z`. -/
def actN (z i : ℕ) : Bool :=
  bif Nat.blt i 4 then Nat.blt z 3 && Nat.ble (zz z i) z
  else bif Nat.blt i 8 then Nat.blt 0 z && Nat.ble z (zz z (i - 4))
  else true
def act (c : Dv) (i : Tx) : Bool := actN (c.val / 4) i.val

/-- The place transfer `i` reads. -/
def srcN (i : ℕ) : ℕ := bif Nat.blt i 16 then i % 4 else bif Nat.beq (i % 2) 0 then 4 + i % 4 else 8 + i % 4
theorem srcN_lt (i : ℕ) : srcN i < 16 := by unfold srcN; cases Nat.blt i 16 <;> cases Nat.beq (i % 2) 0 <;> simp <;> omega
def src (i : Tx) : Pl := ⟨srcN i.val, srcN_lt _⟩

/-- The device transfer `i` of `c` goes to. -/
def peer (c : Dv) (i : Tx) : Dv :=
  bif Nat.blt i.val 4 then upd c else bif Nat.blt i.val 8 then dnd c else bif Nat.blt i.val 12 then nxt c
  else bif Nat.blt i.val 16 then prv c else bif Nat.beq (i.val % 2) 0 then nxt c else prv c

/-- The place of that device it goes to. -/
def dpl (c : Dv) (i : Tx) : Pl :=
  bif Nat.blt i.val 4 then md (zi (c.val / 4 + 1) (zz (c.val / 4) i.val))
  else bif Nat.blt i.val 8 then md (zi (c.val / 4 - 1) (zz (c.val / 4) (i.val - 4)))
  else md (4 * (i.val / 4 - 1) + i.val % 4)

/-- The device the block at place `p` of device `c` comes from. -/
def org (c : Dv) (p : Pl) : Dv :=
  md (4 * zz (c.val / 4) (p.val % 4) + (c.val % 4 + dig 2130 (p.val / 4)) % 4)

/-- The device whose transfer fills place `p` of `c`, and which transfer of its it is. -/
def frm (c : Dv) (p : Pl) : Dv × Tx :=
  bif Nat.blt p.val 4 then
    bif Nat.blt (zz (c.val / 4) p.val) (c.val / 4) then (dnd c, ⟨zi (c.val / 4 - 1) (zz (c.val / 4) p.val) % 20, Nat.mod_lt _ (by decide)⟩)
    else (upd c, ⟨(4 + zi (c.val / 4 + 1) (zz (c.val / 4) p.val)) % 20, Nat.mod_lt _ (by decide)⟩)
  else bif Nat.blt p.val 8 then (prv c, ⟨p.val + 4, by omega⟩) else bif Nat.blt p.val 12 then (nxt c, ⟨p.val + 4, by omega⟩)
  else ((bif Nat.beq (p.val % 2) 0 then prv c else nxt c), ⟨p.val + 4, by omega⟩)

/-- The place of `c` that gets the block of device `e`. -/
def plOf (c e : Dv) : Pl := md (4 * dig 1320 ((e.val + 4 - c.val % 4) % 4) + zi (c.val / 4) (e.val / 4))

/-- The slot of the column buffer place `w` (`0 < w < 4`) of device `c` is. -/
def colN (z w : ℕ) : ℕ := (bif Nat.blt (zz z w) z then zz z w else zz z w - 1) % 3
def col (c : Dv) (w : ℕ) : Fin 3 := ⟨colN (c.val / 4) w, Nat.mod_lt _ (by decide)⟩

/-! ## When -/

def tSend (i : ℕ) : ℕ := dig2 4339353431241909302318082715120726141106 i
def tDone (i : ℕ) : ℕ := dig2 6564636261595755605856545351494752504846 i
def tGot (i : ℕ) : ℕ := bif Nat.beq i 18 then 38 else bif Nat.beq i 19 then 42 else 5
/-- The two inner planes. -/
def inner (z : ℕ) : Bool := Nat.beq z 1 || Nat.beq z 2
def tRecv (z p : ℕ) : ℕ :=
  bif Nat.beq p 2 then (bif inner z then 13 else 20) else dig2 45444036332922173228211625131000 p
/-- Place `p` is the device's own, before anything came there, while the effect's number is below this. -/
def tGive (z p : ℕ) : ℕ :=
  bif Nat.beq p 0 then 1 else bif Nat.blt p 4 then (bif Nat.blt z (zz z p) then 4 else 5) else dig 0023222233330000 p
def tFree (p : ℕ) : ℕ := bif Nat.beq p 12 then 37 else bif Nat.beq p 13 then 41 else 1000

/-! ## The semaphores of a device, numbered

0 the barrier; `1 … 15` where place `p`'s block arrives; `16 + i` where transfer `i` has been read out; 36, 37 the two credits;
`38 + d` and `53 + d` the departures and arrivals of the fifteen maxima. -/

abbrev Ce := Fin 68
def ceR (p : Pl) : Ce := ⟨p.val, by omega⟩
def ceS (i : Tx) : Ce := ⟨16 + i.val, by omega⟩
def ceC (k : Fin 2) : Ce := ⟨36 + k.val, by omega⟩
def ceMS (d : Fin 15) : Ce := ⟨38 + d.val, by omega⟩
def ceMR (d : Fin 15) : Ce := ⟨53 + d.val, by omega⟩

/-- The slot of the maxima's buffer on device `o` that device `e` writes. -/
def sl (o e : Dv) : Fin 15 := ⟨(o.val + 15 - e.val) % 16 % 15, Nat.mod_lt _ (by decide)⟩

/-- Semaphore `k` of a device of plane `z` as the program numbers it: the DMA semaphores from 3 to 67, then the credits at
    68 and 69, the barrier at 70. -/
def locN (z k : ℕ) : ℕ :=
  bif Nat.beq k 0 then 70 else bif Nat.blt k 4 then 11 + colN z k else bif Nat.blt k 8 then 14 + k else bif Nat.blt k 12 then 18 + k
  else bif Nat.blt k 16 then 22 + k else bif Nat.blt k 24 then k - 13 else bif Nat.blt k 28 then k - 10 else bif Nat.blt k 32 then k - 6
  else bif Nat.blt k 36 then k - 2 else bif Nat.blt k 38 then k + 32 else k

/-- What a device owes: its four barrier signals (to the next, the previous, the upper and the lower device), its transfers, its two
    credits, its fifteen maxima. -/
abbrev Ob := Fin 4 ⊕ Tx ⊕ Fin 2 ⊕ Fin 15

def mpeer (c : Dv) (d : Fin 15) : Dv := md (c.val + d.val + 1)
def mfrom (c : Dv) (d : Fin 15) : Dv := md (c.val + 15 - d.val)

def bactN (z t : ℕ) : Bool := bif Nat.beq t 2 then Nat.blt z 3 else bif Nat.beq t 3 then Nat.blt 0 z else true
def bact (c : Dv) (t : Fin 4) : Bool := bactN (c.val / 4) t.val
def bpeer (c : Dv) (t : Fin 4) : Dv :=
  bif Nat.beq t.val 0 then nxt c else bif Nat.beq t.val 1 then prv c else bif Nat.beq t.val 2 then upd c else dnd c

/-- The signal a device answers signal `t` with. -/
def opp (t : Fin 4) : Fin 4 := ⟨dig 2301 t.val % 4, Nat.mod_lt _ (by decide)⟩

def oact (c : Dv) : Ob → Bool
  | .inl t => bact c t
  | .inr (.inl i) => act c i
  | _ => true
def otime : Ob → ℕ
  | .inl t => 1 + t.val
  | .inr (.inl i) => tSend i.val
  | .inr (.inr (.inl k)) => 37 + 4 * k.val
  | .inr (.inr (.inr d)) => 67 + d.val
/-- The device and the semaphore it is owed to. -/
def otgt (c : Dv) : Ob → Dv × Ce
  | .inl t => (bpeer c t, 0)
  | .inr (.inl i) => (peer c i, ceR (dpl c i))
  | .inr (.inr (.inl k)) => ((bif Nat.beq k.val 0 then prv c else nxt c), ceC k)
  | .inr (.inr (.inr d)) => (mpeer c d, ceMR d)

/-- Levels: what a device still owes when it waits sits strictly above what it waits for. -/
def lvN (z k : ℕ) : ℕ :=
  bif Nat.blt k 16 then
    (bif Nat.beq k 2 then (bif inner z then 3 else 5) else bif Nat.beq k 3 then (bif inner z then 7 else 8)
      else dig2 16151311100906041009060400000201 k)
  else bif Nat.blt k 36 then 0 else bif Nat.beq k 36 then 12 else bif Nat.beq k 37 then 14 else bif Nat.blt k 53 then 0 else 17
def lvC (c : Dv) (k : Ce) : ℕ := lvN (c.val / 4) k.val

/-- Device `e'` is one whose slot of the block's origin travels on with the block through place `p` of `e`. -/
def inSub (e : Dv) (p : Pl) (e' : Dv) : Bool :=
  bif Nat.beq p.val 0 then !Nat.beq e'.val e.val
  else bif Nat.blt p.val 4 then
    (bif Nat.blt (zz (e.val / 4) p.val) (e.val / 4) then Nat.ble (e.val / 4) (e'.val / 4) else Nat.ble (e'.val / 4) (e.val / 4))
  else bif Nat.blt p.val 8 then Nat.beq e'.val e.val || (Nat.beq (p.val % 2) 0 && Nat.beq e'.val (nxt e).val)
  else bif Nat.blt p.val 12 then Nat.beq e'.val e.val || (Nat.beq (p.val % 2) 1 && Nat.beq e'.val (prv e).val)
  else Nat.beq e'.val e.val
/-- The transfer out of place `p` of `e` it leaves with (20: it stays). -/
def hop (e : Dv) (p : Pl) (e' : Dv) : ℕ :=
  bif Nat.beq e'.val e.val then 20
  else bif Nat.blt p.val 4 then
    bif Nat.beq (e'.val / 4) (e.val / 4) then
      (bif Nat.beq e'.val (nxt e).val then 8 + p.val else bif Nat.beq e'.val (prv e).val then 12 + p.val
        else bif Nat.beq (p.val % 2) 0 then 8 + p.val else 12 + p.val)
    else bif Nat.blt (e.val / 4) (e'.val / 4) then p.val else 4 + p.val
  else 16 + p.val % 4

/-! ## What a device holds before each effect -/

/-- The things a device may hold: eight families over its transfers, five over its places, ten over the fifteen maxima, and single ones. -/
abbrev Res := (Fin 8 × Tx) ⊕ (Fin 5 × Pl) ⊕ (Fin 10 × Fin 15) ⊕ Fin 15

/-- Which of them are held once the effects below `n` are over: by plane, family and index. -/
def liveT (z n k i : ℕ) : Bool :=
  bif Nat.ble k 1 then actN z i && Nat.ble n (tSend i)
  else bif Nat.beq k 2 then actN z i && Nat.blt (tSend i) n && Nat.ble n (tDone i)
  else bif Nat.beq k 3 then Nat.ble n (tDone i)
  else bif Nat.beq k 4 then Nat.blt (tDone i) n
  else bif Nat.beq k 5 then actN z i && Nat.blt (tGot i) n && Nat.ble n (tSend i)
  else bif Nat.beq k 6 then Nat.blt (tRecv z (srcN i)) n && !(actN z i && Nat.blt (tSend i) n && Nat.ble n (tDone i))
  else actN z i && Nat.blt (tRecv z (srcN i)) n && Nat.ble n (tSend i)
def liveP (z n k p : ℕ) : Bool :=
  bif Nat.beq k 0 then !Nat.beq p 0 && Nat.ble n (tRecv z p)
  else bif Nat.beq k 1 then !Nat.beq p 0 && Nat.blt (tRecv z p) n
  else bif Nat.beq k 2 then Nat.blt n (tGive z p)
  else bif Nat.beq k 3 then Nat.blt (tRecv z p) n && Nat.ble n (tFree p)
  else !Nat.beq p 0 && Nat.blt (tRecv z p) n && Nat.ble n 66
def liveM (n k d : ℕ) : Bool :=
  bif Nat.ble k 1 then Nat.ble n (67 + d)
  else bif Nat.beq k 2 then Nat.blt 66 n && Nat.ble n (67 + d)
  else bif Nat.beq k 3 then Nat.blt (67 + d) n && Nat.ble n (97 + d)
  else bif Nat.beq k 4 then Nat.ble n (97 + d)
  else bif Nat.beq k 5 then Nat.blt (97 + d) n
  else bif Nat.beq k 6 then Nat.blt 66 n && !(Nat.blt (67 + d) n && Nat.ble n (97 + d))
  else bif Nat.beq k 7 then Nat.ble n (82 + d)
  else Nat.blt (82 + d) n
def liveO (z n k : ℕ) : Bool :=
  bif Nat.blt k 4 then bactN z k && Nat.ble n (1 + k)
  else bif Nat.beq k 4 then Nat.ble n 5
  else bif Nat.beq k 5 then Nat.blt 5 n
  else bif Nat.blt k 8 then Nat.ble n (37 + 4 * (k - 6))
  else bif Nat.blt k 10 then Nat.ble n (38 + 4 * (k - 8))
  else bif Nat.blt k 12 then Nat.blt (38 + 4 * (k - 10)) n
  else bif Nat.beq k 12 then Nat.ble n 66
  else bif Nat.beq k 13 then Nat.blt 66 n
  else Nat.beq n 0
/-- The same by name; at a device. -/
def liveZ (z n : ℕ) : Res → Bool
  | .inl (k, i) => liveT z n k.val i.val
  | .inr (.inl (k, p)) => liveP z n k.val p.val
  | .inr (.inr (.inl (k, d))) => liveM n k.val d.val
  | .inr (.inr (.inr k)) => liveO z n k.val
def live (c : Dv) (n : ℕ) : Res → Bool := liveZ (c.val / 4) n

/-- A name of a thing as one number, to compare names by. -/
def code : Res → ℕ
  | .inl (k, i) => 100 * k.val + i.val
  | .inr (.inl (k, p)) => 1000 + 100 * k.val + p.val
  | .inr (.inr (.inl (k, d))) => 2000 + 100 * k.val + d.val
  | .inr (.inr (.inr k)) => 4000 + k.val

theorem code_inj : Function.Injective code := by
  rintro (⟨k, i⟩ | ⟨k, i⟩ | ⟨k, i⟩ | k) (⟨k', i'⟩ | ⟨k', i'⟩ | ⟨k', i'⟩ | k') h <;> simp only [code] at h <;>
    first
      | (exfalso; omega)
      | (obtain rfl : k = k' := Fin.ext (by omega); obtain rfl : i = i' := Fin.ext (by omega); rfl)
      | (obtain rfl : k = k' := Fin.ext (by omega); rfl)

/-- A property of the numbers below `n`. -/
def upto : ℕ → (ℕ → Bool) → Bool
  | 0, _ => true
  | n + 1, f => f n && upto n f

theorem upto_iff {n : ℕ} {f : ℕ → Bool} (h : upto n f = true) (i : Fin n) : f i.val = true := by
  induction n with
  | zero => exact i.elim0
  | succ n ih =>
    simp only [upto, Bool.and_eq_true] at h
    rcases Nat.lt_succ_iff_lt_or_eq.1 i.isLt with hi | hi
    · exact ih h.2 ⟨i.val, hi⟩
    · rw [hi]; exact h.1

def memN (l : List ℕ) (r : ℕ) : Bool := l.any fun s => Nat.beq s r

theorem memN_iff {l : List Res} {r : Res} : memN (l.map code) (code r) = true ↔ r ∈ l := by
  simp only [memN, List.any_map, List.any_eq_true, Function.comp_apply, Nat.beq_eq]
  exact ⟨fun ⟨s, hs, h⟩ => code_inj h ▸ hs, fun h => ⟨r, h, rfl⟩⟩

def okAt (a b : Bool) (rem add : List ℕ) (r : ℕ) : Bool :=
  bif b then (bif memN add r then true else a && !memN rem r) else true
def stepN (z n : ℕ) (rem add : List ℕ) : Bool :=
  upto 8 (fun k => upto 20 fun i => okAt (liveT z n k i) (liveT z (n + 1) k i) rem add (100 * k + i))
  && upto 5 (fun k => upto 16 fun i => okAt (liveP z n k i) (liveP z (n + 1) k i) rem add (1000 + 100 * k + i))
  && upto 10 (fun k => upto 15 fun i => okAt (liveM n k i) (liveM (n + 1) k i) rem add (2000 + 100 * k + i))
  && upto 15 (fun k => okAt (liveO z n k) (liveO z (n + 1) k) rem add (4000 + k))
/-- Handing over `rem` and receiving `add` at effect `n` leads from what is held before it to what is held after it. -/
def stepZ (z n : ℕ) (rem add : List Res) : Bool := stepN z n (rem.map code) (add.map code) && rem.all (liveZ z n)
def stepOK (c : Dv) (n : ℕ) (rem add : List Res) : Bool := stepZ (c.val / 4) n rem add
def pz (c : Dv) : Fin 4 := ⟨c.val / 4, by omega⟩

theorem step_iff {c : Dv} {n : ℕ} {rem add : List Res} (h : stepOK c n rem add = true) :
    (∀ r ∈ rem, live c n r = true) ∧ ∀ r, live c (n + 1) r = true → r ∈ add ∨ (live c n r = true ∧ r ∉ rem) := by
  simp only [stepOK, stepZ, stepN, Bool.and_eq_true, List.all_eq_true] at h
  obtain ⟨⟨⟨⟨h1, h2⟩, h3⟩, h4⟩, h5⟩ := h
  refine ⟨h5, fun r hr => ?_⟩
  have key : okAt (live c n r) (live c (n + 1) r) (rem.map code) (add.map code) (code r) = true := by
    rcases r with ⟨k, i⟩ | ⟨k, i⟩ | ⟨k, i⟩ | k
    exacts [upto_iff (upto_iff h1 k) i, upto_iff (upto_iff h2 k) i, upto_iff (upto_iff h3 k) i, upto_iff h4 k]
  rw [okAt, hr] at key
  by_cases hm : r ∈ add
  · exact .inl hm
  · rw [cond_true, Bool.eq_false_iff.2 fun h' => hm (memN_iff.1 h'), cond_false, Bool.and_eq_true, Bool.not_eq_true'] at key
    exact .inr ⟨key.1, fun h' => by rw [memN_iff.2 h'] at key; exact absurd key.2 (by decide)⟩

abbrev tokS (i : Tx) : Res := .inl (0, i)
abbrev tokR (i : Tx) : Res := .inl (1, i)
abbrev crdS (i : Tx) : Res := .inl (2, i)
abbrev posS (i : Tx) : Res := .inl (3, i)
abbrev valS (i : Tx) : Res := .inl (4, i)
abbrev dst (i : Tx) : Res := .inl (5, i)
abbrev srct (i : Tx) : Res := .inl (6, i)
abbrev slts (i : Tx) : Res := .inl (7, i)
abbrev posR (p : Pl) : Res := .inr (.inl (0, p))
abbrev valR (p : Pl) : Res := .inr (.inl (1, p))
abbrev raw (p : Pl) : Res := .inr (.inl (2, p))
abbrev keep (p : Pl) : Res := .inr (.inl (3, p))
abbrev slt (p : Pl) : Res := .inr (.inl (4, p))
abbrev mtokS (d : Fin 15) : Res := .inr (.inr (.inl (0, d)))
abbrev mtokR (d : Fin 15) : Res := .inr (.inr (.inl (1, d)))
abbrev mdst (d : Fin 15) : Res := .inr (.inr (.inl (2, d)))
abbrev mcrd (d : Fin 15) : Res := .inr (.inr (.inl (3, d)))
abbrev mposS (d : Fin 15) : Res := .inr (.inr (.inl (4, d)))
abbrev mvalS (d : Fin 15) : Res := .inr (.inr (.inl (5, d)))
abbrev msrc (d : Fin 15) : Res := .inr (.inr (.inl (6, d)))
abbrev mposR (d : Fin 15) : Res := .inr (.inr (.inl (7, d)))
abbrev mvalR (d : Fin 15) : Res := .inr (.inr (.inl (8, d)))
abbrev mgot (d : Fin 15) : Res := .inr (.inr (.inl (9, d)))
abbrev btok (t : Fin 4) : Res := .inr (.inr (.inr ⟨t.val, by omega⟩))
abbrev bpos : Res := .inr (.inr (.inr 4))
abbrev bval : Res := .inr (.inr (.inr 5))
abbrev ctok (k : Fin 2) : Res := .inr (.inr (.inr ⟨6 + k.val, by omega⟩))
abbrev cpos (k : Fin 2) : Res := .inr (.inr (.inr ⟨8 + k.val, by omega⟩))
abbrev cval (k : Fin 2) : Res := .inr (.inr (.inr ⟨10 + k.val, by omega⟩))
abbrev araw : Res := .inr (.inr (.inr 12))
abbrev akeep : Res := .inr (.inr (.inr 13))
abbrev oslt : Res := .inr (.inr (.inr 14))

/-- The transfers out of a place; those of them that take place. -/
def outs (p : Pl) : List Tx := (List.finRange 20).filter fun i => Nat.beq (srcN i.val) p.val
def outsN (z : ℕ) (p : Pl) : List Tx := (List.finRange 20).filter fun i => Nat.beq (srcN i.val) p.val && actN z i.val
def outsA (c : Dv) (p : Pl) : List Tx := outsN (c.val / 4) p

/-- Whose barrier signal hands over what transfer `i` writes. -/
def via (i : Tx) : Fin 4 := ⟨dig 01010000111122223333 i.val % 4, by omega⟩
def givenN (z : ℕ) (t : Fin 4) : List Pl := (List.finRange 16).filter fun p => Nat.beq (tGive z p.val) (2 + t.val)
def givenBy (c : Dv) (t : Fin 4) : List Pl := givenN (c.val / 4) t
def getsN (z : ℕ) : List Tx := (List.finRange 20).filter fun i => actN z i.val && Nat.beq (tGot i.val) 5
def gets (c : Dv) : List Tx := getsN (c.val / 4)
def getsBy (c : Dv) (t : Fin 4) : List Tx := (gets c).filter fun i => Nat.beq (via i).val t.val

/-- A device that owes something later than effect `n` owes it above semaphore `k`. -/
def waitAt (c : Dv) (n : ℕ) (l : ℕ) (ob : Ob) : Bool :=
  bif oact c ob && Nat.ble n (otime ob) then Nat.blt l (lvC (otgt c ob).1 (otgt c ob).2) else true
def waitOK (c : Dv) (n : ℕ) (k : Ce) : Bool :=
  (List.finRange 4).all (fun t => waitAt c n (lvC c k) (.inl t)) && (List.finRange 20).all (fun t => waitAt c n (lvC c k) (.inr (.inl t)))
    && (List.finRange 2).all (fun t => waitAt c n (lvC c k) (.inr (.inr (.inl t))))
    && (List.finRange 15).all (fun t => waitAt c n (lvC c k) (.inr (.inr (.inr t))))

theorem wait_iff {c : Dv} {n : ℕ} {k : Ce} (h : waitOK c n k = true) (ob : Ob) (ha : oact c ob = true) (hn : n ≤ otime ob) :
    lvC c k < lvC (otgt c ob).1 (otgt c ob).2 := by
  simp only [waitOK, Bool.and_eq_true, List.all_eq_true, List.mem_finRange, true_implies] at h
  have key : waitAt c n (lvC c k) ob = true := by
    rcases ob with t | t | t | t
    exacts [h.1.1.1 t, h.1.1.2 t, h.1.2 t, h.2 t]
  rw [waitAt, ha, Bool.true_and, Nat.ble_eq_true_of_le hn, cond_true] at key
  simpa using key

end Cert.Mesh

end
-- ==== Proof.MeshT1.lean ====
module

public import proofs.«01_k».proof.Proof.Mesh

/-! What an effect takes from and adds to what a device holds, checked plane by plane: transfers and arrivals. -/

@[expose] public section

namespace Cert.Mesh

set_option maxRecDepth 4000

theorem step_sendZ : ∀ (z : Fin 4) (i : Tx), actN z i.val = true → stepZ z.val (tSend i.val) [tokS i, tokR i, dst i, srct i, slts i] [crdS i] = true := by decide +kernel
theorem step_send : ∀ (c : Dv) (i : Tx), act c i = true → stepOK c (tSend i.val) [tokS i, tokR i, dst i, srct i, slts i] [crdS i] = true := fun c i h => step_sendZ (pz c) i h
theorem step_nosendZ : ∀ (z : Fin 4) (i : Tx), actN z i.val = false → stepZ z.val (tSend i.val) [] [] = true := by decide +kernel
theorem step_nosend : ∀ (c : Dv) (i : Tx), act c i = false → stepOK c (tSend i.val) [] [] = true := fun c i h => step_nosendZ (pz c) i h
theorem step_recvZ : ∀ (z : Fin 4) (p : Pl), p ≠ 0 → stepZ z.val (tRecv z.val p.val) [posR p] (valR p :: slt p :: keep p :: (outs p).map srct ++ (outsN z.val p).map slts) = true := by decide +kernel
theorem step_recv : ∀ (c : Dv) (p : Pl), p ≠ 0 → stepOK c (tRecv (c.val / 4) p.val) [posR p] (valR p :: slt p :: keep p :: (outs p).map srct ++ (outsA c p).map slts) = true := fun c p h => step_recvZ (pz c) p h

end Cert.Mesh

end
-- ==== Proof.MeshT2.lean ====
module

public import proofs.«01_k».proof.Proof.Mesh

/-! What an effect takes from and adds to what a device holds, checked plane by plane: the rest. -/

@[expose] public section

namespace Cert.Mesh

set_option maxRecDepth 4000

theorem step_norecvZ : ∀ (z : Fin 4), stepZ z.val (bif inner z.val then 20 else 13) [] [] = true := by decide +kernel
theorem step_norecv : ∀ (c : Dv), stepOK c (bif inner (c.val / 4) then 20 else 13) [] [] = true := fun c => step_norecvZ (pz c)
theorem step_doneZ : ∀ (z : Fin 4) (i : Tx), actN z i.val = true → stepZ z.val (tDone i.val) [posS i, crdS i] [valS i, srct i] = true := by decide +kernel
theorem step_done : ∀ (c : Dv) (i : Tx), act c i = true → stepOK c (tDone i.val) [posS i, crdS i] [valS i, srct i] = true := fun c i h => step_doneZ (pz c) i h
theorem step_nodoneZ : ∀ (z : Fin 4) (i : Tx), actN z i.val = false → stepZ z.val (tDone i.val) [posS i] [valS i] = true := by decide +kernel
theorem step_nodone : ∀ (c : Dv) (i : Tx), act c i = false → stepOK c (tDone i.val) [posS i] [valS i] = true := fun c i h => step_nodoneZ (pz c) i h
theorem step_putZ : ∀ (z : Fin 4), stepZ z.val (0) [raw 0, oslt] (keep 0 :: (outs 0).map srct ++ (outsN z.val 0).map slts) = true := by decide +kernel
theorem step_put : ∀ (c : Dv), stepOK c (0) [raw 0, oslt] (keep 0 :: (outs 0).map srct ++ (outsA c 0).map slts) = true := fun c => step_putZ (pz c)
theorem step_sigZ : ∀ (z : Fin 4) (t : Fin 4), bactN z t.val = true → stepZ z.val (1 + t.val) (btok t :: (givenN z.val t).map raw) [] = true := by decide +kernel
theorem step_sig : ∀ (c : Dv) (t : Fin 4), bact c t = true → stepOK c (1 + t.val) (btok t :: (givenBy c t).map raw) [] = true := fun c t h => step_sigZ (pz c) t h
theorem step_nosigZ : ∀ (z : Fin 4) (t : Fin 4), bactN z t.val = false → stepZ z.val (1 + t.val) [] [] = true := by decide +kernel
theorem step_nosig : ∀ (c : Dv) (t : Fin 4), bact c t = false → stepOK c (1 + t.val) [] [] = true := fun c t h => step_nosigZ (pz c) t h
theorem step_barZ : ∀ (z : Fin 4), stepZ z.val (5) [bpos] (bval :: (getsN z.val).map dst) = true := by decide +kernel
theorem step_bar : ∀ (c : Dv), stepOK c (5) [bpos] (bval :: (gets c).map dst) = true := fun c => step_barZ (pz c)
theorem step_cpayZ : ∀ (z : Fin 4) (k : Fin 2), stepZ z.val (37 + 4 * k.val) [ctok k, keep ⟨12 + k.val, by omega⟩] [] = true := by decide +kernel
theorem step_cpay : ∀ (c : Dv) (k : Fin 2), stepOK c (37 + 4 * k.val) [ctok k, keep ⟨12 + k.val, by omega⟩] [] = true := fun c k => step_cpayZ (pz c) k
theorem step_cgetZ : ∀ (z : Fin 4) (k : Fin 2), stepZ z.val (38 + 4 * k.val) [cpos k] [cval k, dst ⟨18 + k.val, by omega⟩] = true := by decide +kernel
theorem step_cget : ∀ (c : Dv) (k : Fin 2), stepOK c (38 + 4 * k.val) [cpos k] [cval k, dst ⟨18 + k.val, by omega⟩] = true := fun c k => step_cgetZ (pz c) k
theorem step_amaxZ : ∀ (z : Fin 4), stepZ z.val (66) (araw :: ((List.finRange 16).filter (· != 0)).map slt) (akeep :: (List.finRange 15).map msrc ++ (List.finRange 15).map mdst) = true := by decide +kernel
theorem step_amax : ∀ (c : Dv), stepOK c (66) (araw :: ((List.finRange 16).filter (· != 0)).map slt) (akeep :: (List.finRange 15).map msrc ++ (List.finRange 15).map mdst) = true := fun c => step_amaxZ (pz c)
theorem step_msendZ : ∀ (z : Fin 4) (d : Fin 15), stepZ z.val (67 + d.val) [mtokS d, mtokR d, mdst d, msrc d] [mcrd d] = true := by decide +kernel
theorem step_msend : ∀ (c : Dv) (d : Fin 15), stepOK c (67 + d.val) [mtokS d, mtokR d, mdst d, msrc d] [mcrd d] = true := fun c d => step_msendZ (pz c) d
theorem step_mrecvZ : ∀ (z : Fin 4) (d : Fin 15), stepZ z.val (82 + d.val) [mposR d] [mvalR d, mgot d] = true := by decide +kernel
theorem step_mrecv : ∀ (c : Dv) (d : Fin 15), stepOK c (82 + d.val) [mposR d] [mvalR d, mgot d] = true := fun c d => step_mrecvZ (pz c) d
theorem step_mdoneZ : ∀ (z : Fin 4) (d : Fin 15), stepZ z.val (97 + d.val) [mposS d, mcrd d] [mvalS d, msrc d] = true := by decide +kernel
theorem step_mdone : ∀ (c : Dv) (d : Fin 15), stepOK c (97 + d.val) [mposS d, mcrd d] [mvalS d, msrc d] = true := fun c d => step_mdoneZ (pz c) d

end Cert.Mesh

end
-- ==== Proof.MeshT3.lean ====
module

public import proofs.«01_k».proof.Proof.Mesh

/-! The order the devices wait in, and how the tables of the devices fit together. -/

@[expose] public section

namespace Cert.Mesh

set_option maxRecDepth 4000

theorem wait_bar : ∀ c, waitOK c 5 0 = true := by decide +kernel
theorem wait_recv : ∀ (c : Dv) (p : Pl), p ≠ 0 → waitOK c (tRecv (c.val / 4) p.val) (ceR p) = true := by decide +kernel
theorem wait_done : ∀ (c : Dv) (i : Tx), waitOK c (tDone i.val) (ceS i) = true := by decide +kernel
theorem wait_credit : ∀ (c : Dv) (k : Fin 2), waitOK c (38 + 4 * k.val) (ceC k) = true := by decide +kernel
theorem wait_mrecv : ∀ (c : Dv) (d : Fin 15), waitOK c (82 + d.val) (ceMR d) = true := by decide +kernel
theorem wait_mdone : ∀ (c : Dv) (d : Fin 15), waitOK c (97 + d.val) (ceMS d) = true := by decide +kernel

/-- Each obligation falls due at a number of its own. -/
theorem otime_inj : ∀ o o' : Ob, otime o = otime o' → o = o' := by decide +kernel

theorem frm_peer : ∀ (c : Dv) (i : Tx), act c i = true → frm (peer c i) (dpl c i) = (c, i) ∧ dpl c i ≠ 0 ∧ org (peer c i) (dpl c i) = org c (src i) := by decide +kernel
theorem frm_act : ∀ (c : Dv) (p : Pl), p ≠ 0 → act (frm c p).1 (frm c p).2 = true ∧ peer (frm c p).1 (frm c p).2 = c ∧ dpl (frm c p).1 (frm c p).2 = p := by decide +kernel
/-- What a device hands over with a barrier signal is what the receiver's transfers write. -/
theorem given_mem : ∀ (c : Dv) (t : Fin 4), bact c t = true → ∀ i ∈ getsBy (bpeer c t) t, peer (bpeer c t) i = c ∧ dpl (bpeer c t) i ∈ givenBy c t := by decide +kernel
theorem given_inj : ∀ (c : Dv) (t : Fin 4), ∀ i ∈ getsBy c t, ∀ j ∈ getsBy c t, dpl c i = dpl c j → i = j := by decide +kernel
theorem via_act : ∀ (c : Dv), ∀ i ∈ gets c, i ∈ getsBy c (via i) := by decide +kernel
theorem org_ne : ∀ (c : Dv) (p : Pl), p ≠ 0 → org c p ≠ c := by decide +kernel
theorem org_zero : ∀ c : Dv, org c 0 = c := by decide +kernel
theorem org_inj : ∀ (c : Dv) (p q : Pl), org c p = org c q → p = q := by decide +kernel
theorem mpeer_mfrom : ∀ (c : Dv) (d : Fin 15), mpeer (mfrom c d) d = c ∧ mfrom (mpeer c d) d = c := by decide +kernel
theorem org_plOf : ∀ (c e : Dv), org c (plOf c e) = e ∧ (plOf c e = 0 ↔ e = c) := by decide +kernel
theorem mpeer_ne : ∀ (c : Dv) (d : Fin 15), mpeer c d ≠ c := by decide +kernel
theorem mpeer_inj : ∀ (c : Dv) (d d' : Fin 15), mpeer c d = mpeer c d' → d = d' := by decide +kernel
theorem sl_mpeer : ∀ (c : Dv) (d : Fin 15), sl (mpeer c d) c = d := by decide +kernel
theorem locN_inj : ∀ (z : Fin 4) (k k' : Ce), locN z.val k.val = locN z.val k'.val → k = k' := by decide +kernel
theorem locN_lt : ∀ (z : Fin 4) (k : Ce), locN z.val k.val < 71 := by decide +kernel
theorem locN_surj : ∀ (z : Fin 4) (j : Fin 67), ∃ k : Ce, k ≠ 0 ∧ locN z.val k.val = j.val + 3 := by decide +kernel

end Cert.Mesh

end
-- ==== Proof.MeshT4.lean ====
module

public import proofs.«01_k».proof.Proof.Mesh

/-! How the slots travel on with a block: each by one transfer, or staying where it is. -/

@[expose] public section

namespace Cert.Mesh

set_option maxRecDepth 4000

theorem hop_stay : ∀ (c : Dv) (p : Pl) (e : Dv), (inSub c p e && Nat.beq (hop c p e) 20) = (Nat.beq e.val c.val && !Nat.beq p.val 0) := by decide +kernel
theorem hop_leave : ∀ (c : Dv) (p : Pl) (e : Dv), inSub c p e = true → hop c p e ≠ 20 →
    ∃ i : Tx, i ∈ outsA c p ∧ i.val = hop c p e ∧ inSub (peer c i) (dpl c i) e = true := by decide +kernel
theorem sub_outs : ∀ (c : Dv) (i : Tx) (e : Dv), act c i = true → inSub (peer c i) (dpl c i) e = true → inSub c (src i) e = true ∧ hop c (src i) e = i.val := by decide +kernel

end Cert.Mesh

end
-- ==== Proof.MeshT5.lean ====
module

public import proofs.«01_k».proof.Proof.Mesh

/-! The numbers of the effects that are no obligation, and what the barrier signals fit. -/

@[expose] public section

namespace Cert.Mesh

set_option maxRecDepth 4000

theorem nt_recv : ∀ (z : Fin 4) (p : Pl) (o : Ob), p ≠ 0 → otime o ≠ tRecv z.val p.val := by decide +kernel
theorem nt_norecv : ∀ (z : Fin 4) (o : Ob), otime o ≠ bif inner z.val then 20 else 13 := by decide +kernel
theorem nt_done : ∀ (i : Tx) (o : Ob), otime o ≠ tDone i.val := by decide +kernel
theorem nt_cget : ∀ (k : Fin 2) (o : Ob), otime o ≠ 38 + 4 * k.val := by decide +kernel
theorem nt_mrecv : ∀ (d : Fin 15) (o : Ob), otime o ≠ 82 + d.val := by decide +kernel
theorem nt_mdone : ∀ (d : Fin 15) (o : Ob), otime o ≠ 97 + d.val := by decide +kernel
theorem nt_one : ∀ o : Ob, otime o ≠ 0 ∧ otime o ≠ 5 ∧ otime o ≠ 66 := by decide +kernel
theorem via_opp : ∀ (c : Dv), ∀ i ∈ gets c, bact c (opp (via i)) = true := by decide +kernel
theorem credit_peer : ∀ (c : Dv) (k : Fin 2), peer (bif Nat.beq k.val 0 then prv c else nxt c) ⟨18 + k.val, by omega⟩ = c ∧ dpl (bif Nat.beq k.val 0 then prv c else nxt c) ⟨18 + k.val, by omega⟩ = ⟨14 + k.val, by omega⟩ := by decide +kernel
theorem outs_nodup : ∀ p : Pl, (outs p).Nodup := by decide +kernel
theorem outsN_nodup : ∀ (z : Fin 4) (p : Pl), (outsN z.val p).Nodup := by decide +kernel
theorem getsN_nodup : ∀ z : Fin 4, (getsN z.val).Nodup := by decide +kernel
theorem given_nodup : ∀ (z : Fin 4) (t : Fin 4), (((givenN z.val t).map raw).map code).Nodup ∧ (givenN z.val t).Nodup := by decide +kernel
theorem opp_bpeer : ∀ (c : Dv) (t : Fin 4), bact c t = true → bact (bpeer c t) (opp t) = true := by decide +kernel

end Cert.Mesh

end
-- ==== Proof.MeshT6.lean ====
module

public import proofs.«01_k».proof.Proof.Mesh

/-! What each device pays with and what it is credited at the start, and what it holds at the two ends. -/

@[expose] public section

namespace Cert.Mesh

set_option maxRecDepth 8000

/-- The tokens a device pays with: for what it owes, for its transfers' departures, for its maxima's departures. -/
abbrev Tk := Ob ⊕ Tx ⊕ Fin 15
def tact (c : Dv) : Tk → Bool
  | .inl o => oact c o
  | .inr (.inl i) => act c i
  | .inr (.inr _) => true
def tnum : Tk → Fin 4
  | .inl (.inl t) => t
  | _ => 0
def tk (x : Dv × Tk) : (Dv × Ce) × Fin 4 :=
  ((match x.2 with | .inl o => otgt x.1 o | .inr (.inl i) => (x.1, ceS i) | .inr (.inr d) => (x.1, ceMS d)), tnum x.2)

/-- Whose obligation fills semaphore `k` of device `c`, the barrier aside. -/
def obOf (c : Dv) (k : ℕ) : Dv × Ob :=
  bif Nat.blt k 16 then ((frm c ⟨k % 16, by omega⟩).1, .inr (.inl (frm c ⟨k % 16, by omega⟩).2))
  else bif Nat.blt k 53 then ((bif Nat.beq k 36 then nxt c else prv c), .inr (.inr (.inl ⟨k % 2, by omega⟩)))
  else (mfrom c ⟨(k - 53) % 15, by omega⟩, .inr (.inr (.inr ⟨(k - 53) % 15, by omega⟩)))
def tkInv (y : (Dv × Ce) × Fin 4) : Dv × Tk :=
  bif Nat.beq y.1.2.val 0 then (bpeer y.1.1 (opp y.2), .inl (.inl y.2))
  else bif Nat.ble 16 y.1.2.val && Nat.blt y.1.2.val 36 then (y.1.1, .inr (.inl ⟨(y.1.2.val - 16) % 20, Nat.mod_lt _ (by decide)⟩))
  else bif Nat.ble 38 y.1.2.val && Nat.blt y.1.2.val 53 then (y.1.1, .inr (.inr ⟨(y.1.2.val - 38) % 15, Nat.mod_lt _ (by decide)⟩))
  else ((obOf y.1.1 y.1.2.val).1, .inl (obOf y.1.1 y.1.2.val).2)
theorem tk_inv : ∀ (c : Dv) (t : Tk), tact c t = true → tkInv (tk (c, t)) = (c, t) := by decide +kernel

/-- A semaphore another device fills, the barrier aside. -/
def filled (k : ℕ) : Bool := (Nat.ble 1 k && Nat.blt k 16) || (Nat.ble 36 k && Nat.blt k 38) || Nat.ble 53 k
theorem ob_of : ∀ (c : Dv) (o : Ob), oact c o = true → (otgt c o).2 ≠ 0 → obOf (otgt c o).1 (otgt c o).2.val = (c, o) := by decide +kernel
theorem ob_to : ∀ (c : Dv) (k : Ce), filled k.val = true → oact (obOf c k.val).1 (obOf c k.val).2 = true ∧ otgt (obOf c k.val).1 (obOf c k.val).2 = (c, k) := by decide +kernel
theorem ob_bar : ∀ (c : Dv) (o : Ob), (otgt c o).2 = 0 → oact c o = true → ∃ t : Fin 4, o = .inl t := by decide +kernel
theorem bar_count : ∀ c : Dv, (Finset.univ.filter fun x : Dv × Fin 4 => bact x.1 x.2 = true ∧ bpeer x.1 x.2 = c).card
    = (Finset.univ.filter fun t : Fin 4 => bact c (opp t) = true).card := by decide +kernel

/-! ## At the start -/

theorem l0_tx : ∀ (c : Dv) (i : Tx), live c 0 (tokS i) = act c i ∧ live c 0 (tokR i) = act c i ∧ live c 0 (crdS i) = false ∧ live c 0 (posS i) = true
    ∧ live c 0 (valS i) = false ∧ live c 0 (dst i) = false ∧ live c 0 (srct i) = false ∧ live c 0 (slts i) = false := by decide +kernel
theorem l0_pl : ∀ (c : Dv) (p : Pl), live c 0 (posR p) = (!Nat.beq p.val 0) ∧ live c 0 (valR p) = false ∧ live c 0 (raw p) = Nat.blt p.val 14
    ∧ live c 0 (keep p) = false ∧ live c 0 (slt p) = false := by decide +kernel
theorem l0_m : ∀ (c : Dv) (d : Fin 15), live c 0 (mtokS d) = true ∧ live c 0 (mtokR d) = true ∧ live c 0 (mdst d) = false ∧ live c 0 (mcrd d) = false
    ∧ live c 0 (mposS d) = true ∧ live c 0 (mvalS d) = false ∧ live c 0 (msrc d) = false ∧ live c 0 (mposR d) = true ∧ live c 0 (mvalR d) = false
    ∧ live c 0 (mgot d) = false := by decide +kernel
theorem l0_b : ∀ (c : Dv) (t : Fin 4), live c 0 (btok t) = bact c t := by decide +kernel
theorem l0_o : ∀ (c : Dv), live c 0 bpos = true ∧ live c 0 bval = false ∧ live c 0 (ctok 0) = true ∧ live c 0 (ctok 1) = true ∧ live c 0 (cpos 0) = true
    ∧ live c 0 (cpos 1) = true ∧ live c 0 (cval 0) = false ∧ live c 0 (cval 1) = false ∧ live c 0 araw = true ∧ live c 0 akeep = false
    ∧ live c 0 oslt = true := by decide +kernel

/-! ## At the end -/

theorem l1_tx : ∀ (c : Dv) (i : Tx), live c 112 (tokS i) = false ∧ live c 112 (tokR i) = false ∧ live c 112 (crdS i) = false ∧ live c 112 (posS i) = false
    ∧ live c 112 (valS i) = true ∧ live c 112 (dst i) = false ∧ live c 112 (srct i) = true ∧ live c 112 (slts i) = false := by decide +kernel
theorem l1_pl : ∀ (c : Dv) (p : Pl), live c 112 (posR p) = false ∧ live c 112 (valR p) = (!Nat.beq p.val 0) ∧ live c 112 (raw p) = false
    ∧ live c 112 (keep p) = (Nat.blt p.val 12 || Nat.ble 14 p.val) ∧ live c 112 (slt p) = false := by decide +kernel
theorem l1_m : ∀ (c : Dv) (d : Fin 15), live c 112 (mtokS d) = false ∧ live c 112 (mtokR d) = false ∧ live c 112 (mdst d) = false ∧ live c 112 (mcrd d) = false
    ∧ live c 112 (mposS d) = false ∧ live c 112 (mvalS d) = true ∧ live c 112 (msrc d) = true ∧ live c 112 (mposR d) = false ∧ live c 112 (mvalR d) = true
    ∧ live c 112 (mgot d) = true := by decide +kernel
theorem l1_b : ∀ (c : Dv) (t : Fin 4), live c 112 (btok t) = false := by decide +kernel
theorem l1_o : ∀ (c : Dv), live c 112 bpos = false ∧ live c 112 bval = true ∧ live c 112 (ctok 0) = false ∧ live c 112 (ctok 1) = false ∧ live c 112 (cpos 0) = false
    ∧ live c 112 (cpos 1) = false ∧ live c 112 (cval 0) = true ∧ live c 112 (cval 1) = true ∧ live c 112 araw = false ∧ live c 112 akeep = true
    ∧ live c 112 oslt = false := by decide +kernel

theorem out_src : ∀ (i : Tx) (p : Pl), p ∈ ({src i} : Finset Pl) ↔ i ∈ (outs p).toFinset := by decide +kernel
theorem outs_none : outs 12 = [] ∧ outs 13 = [] := by decide +kernel
theorem inSub_own : ∀ c e : Dv, inSub c 0 e = true ↔ e ≠ c := by decide +kernel
theorem sl_bij : ∀ (o : Dv) (s : Fin 15), ∃ e : Dv, e ≠ o ∧ sl o e = s := by decide +kernel
theorem sl_inj : ∀ (o e e' : Dv), e ≠ o → e' ≠ o → sl o e = sl o e' → e = e' := by decide +kernel
theorem col_bij : ∀ z : Fin 4, Function.Bijective fun w : Fin 3 => (⟨colN z.val (w.val + 1), Nat.mod_lt _ (by decide)⟩ : Fin 3) := by decide +kernel
theorem loc_lo : ∀ (z : Fin 4) (k : Ce), 3 ≤ locN z.val k.val := by decide +kernel
theorem ow_pos : ∀ (c : Dv) (o : Ob), 0 < lvC (otgt c o).1 (otgt c o).2 ∧ otime o < 112 := by decide +kernel

end Cert.Mesh

end
-- ==== Proof.KISched.lean ====
module

public import proofs.«01_k».proof.Proof.Gen.KernelIdeal.Frame
public import proofs.«01_k».proof.Proof.MeshT1
public import proofs.«01_k».proof.Proof.MeshT2
public import proofs.«01_k».proof.Proof.MeshT3
public import proofs.«01_k».proof.Proof.MeshT4
public import proofs.«01_k».proof.Proof.MeshT5

/-!
# The protocol of the kernel

Each semaphore of each device is a cell with one round.  The payloads: what a device's barrier signal hands to a neighbour, what
arrives with a block or a maximum, what comes back when one has been read out.  A device's share of all that before each of its
effects is `St`.
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The memrefs of the places -/

abbrev xbM : Memref sig .tc .vmem S256x4096 .bf16 := Memref.whole cc0_scratch0
abbrev amM : Memref sig .tc .vmem S8x128 .f32 := Memref.whole cc0_scratch6

theorem inb5 (s : Fin 3) : ∀ a, (![s.val, 0, 0] : Fin 3 → ℕ) a + S1x256x4096.size a ≤ S3x256x4096.size a := by revert s; decide
theorem inb6 (s : Fin 4) : ∀ a, (![s.val, 0, 0] : Fin 3 → ℕ) a + S1x256x4096.size a ≤ S4x256x4096.size a := by revert s; decide
theorem inb8 (s : Fin 2) : ∀ a, (![s.val, 0, 0] : Fin 3 → ℕ) a + S1x256x4096.size a ≤ S2x256x4096.size a := by revert s; decide
theorem inbA (s : Fin 15) : ∀ a, (![s.val, 0, 0] : Fin 3 → ℕ) a + S1x8x128.size a ≤ S15x8x128.size a := by revert s; decide

abbrev slot5 (s : Fin 3) : Memref sig .tc .vmem S256x4096 .bf16 :=
  ((Memref.whole cc0_scratch2 : Memref sig .tc .vmem S3x256x4096 .bf16).slice (Rect.unit (s := S3x256x4096) ![s.val, 0, 0] S1x256x4096.size (inb5 s)) (fun _ => rfl)).squeeze S256x4096 squeezes_S1x256x4096_S256x4096
abbrev slot6 (s : Fin 4) : Memref sig .tc .vmem S256x4096 .bf16 :=
  ((Memref.whole cc0_scratch3 : Memref sig .tc .vmem S4x256x4096 .bf16).slice (Rect.unit (s := S4x256x4096) ![s.val, 0, 0] S1x256x4096.size (inb6 s)) (fun _ => rfl)).squeeze S256x4096 squeezes_S1x256x4096_S256x4096
abbrev slot7 (s : Fin 4) : Memref sig .tc .vmem S256x4096 .bf16 :=
  ((Memref.whole cc0_scratch4 : Memref sig .tc .vmem S4x256x4096 .bf16).slice (Rect.unit (s := S4x256x4096) ![s.val, 0, 0] S1x256x4096.size (inb6 s)) (fun _ => rfl)).squeeze S256x4096 squeezes_S1x256x4096_S256x4096
abbrev slot8 (s : Fin 2) : Memref sig .tc .vmem S256x4096 .bf16 :=
  ((Memref.whole cc0_scratch5 : Memref sig .tc .vmem S2x256x4096 .bf16).slice (Rect.unit (s := S2x256x4096) ![s.val, 0, 0] S1x256x4096.size (inb8 s)) (fun _ => rfl)).squeeze S256x4096 squeezes_S1x256x4096_S256x4096
abbrev slotA (s : Fin 15) : Memref sig .tc .vmem S8x128 .f32 :=
  ((Memref.whole cc0_scratch7 : Memref sig .tc .vmem S15x8x128 .f32).slice (Rect.unit (s := S15x8x128) ![s.val, 0, 0] S1x8x128.size (inbA s)) (fun _ => rfl)).squeeze S8x128 squeezes_S1x8x128_S8x128

/-- Place `p` of device `c`. -/
def plM (c : Dev nD) (p : Pl) : Memref sig .tc .vmem S256x4096 .bf16 :=
  if p.val = 0 then xbM else if p.val < 4 then slot5 (col c p.val)
  else if p.val < 8 then slot6 ⟨p.val % 4, by omega⟩ else if p.val < 12 then slot7 ⟨p.val % 4, by omega⟩ else slot8 ⟨p.val % 2, by omega⟩

/-! ## The cells -/

/-- Semaphore `k` of device `c`. -/
def semOf (j : ℕ) : SemLoc sig := if h : j < 68 then .dma (⟨j, h⟩ : Fin 68) else .reg (⟨(j - 68) % 3, Nat.mod_lt _ (by decide)⟩ : Fin 3)
def cell (ck : Dev nD × Ce) : GSem nD τ sig := ((ck.1 : Thread nD τ), semOf (locN (ck.1.val / 4) ck.2.val))

theorem semOf_inj {i j : ℕ} (hi : i < 71) (hj : j < 71) (h : semOf i = semOf j) : i = j := by
  unfold semOf at h
  split at h <;> split at h
  · injection h with h; exact congrArg Fin.val h
  · cases h
  · cases h
  · injection h with h
    have := congrArg Fin.val h
    simp only at this; omega

theorem cell_inj : Function.Injective cell := by
  rintro ⟨c, k⟩ ⟨c', k'⟩ h
  obtain rfl : c = c' := congrArg (fun g : GSem nD τ sig => g.1.1) h
  have h2 : semOf (locN (c.val / 4) k.val) = semOf (locN (c.val / 4) k'.val) := congrArg Prod.snd h
  rw [locN_inj (pz c) k k' (semOf_inj (locN_lt (pz c) k) (locN_lt (pz c) k') h2)]

/-- The bytes of a block, of a maximum's tile. -/
abbrev N : ℕ := xbM.view.dmaCredit
abbrev NA : ℕ := amM.view.dmaCredit
theorem N_pos : 0 < N := View.dmaCredit_pos _ (by decide)
theorem NA_pos : 0 < NA := View.dmaCredit_pos _ (by decide)

def amtC (k : Ce) : ℕ := if k.val = 0 then 1 else if k.val < 36 then N else if k.val < 38 then 1 else NA
theorem amtC_pos (k : Ce) : 0 < amtC k := by
  unfold amtC; split; · exact Nat.one_pos
  split; · exact N_pos
  split; · exact Nat.one_pos
  exact NA_pos

/-! ## What is at a place -/

variable (m : (ℓ : Loc nD τ sig) → Buf (Elt F) ℓ)

/-- Share `q` of what memref `M` of device `c` views, holding `X` there. -/
def At {s : Shape} {e : EltTy} (c : Dev nD) (M : Memref sig .tc .vmem s e) (q : PosShare TreeShare) (X : s.Idx → Elt F e) : sProp 𝕄 :=
  M.view.loc (c : Thread nD τ) ↦[M.view.set]{q} (M.view.write (Elt F) (m (M.view.loc (c : Thread nD τ))) X Finset.univ)
/-- All of it, holding anything. -/
def Ex {s : Shape} {e : EltTy} (c : Dev nD) (M : Memref sig .tc .vmem s e) : sProp 𝕄 :=
  iprop(∃ f : Buf (Elt F) (M.view.loc (c : Thread nD τ)), M.view.loc (c : Thread nD τ) ↦[M.view.set]{fullShare} f)

instance At_storable {s : Shape} {e : EltTy} (c : Dev nD) (M : Memref sig .tc .vmem s e) (q) (X) : BI.Storable (upEmb : UEmb _ 𝕄) (At m c M q X) := by
  unfold At; infer_instance
instance Ex_storable {s : Shape} {e : EltTy} (c : Dev nD) (M : Memref sig .tc .vmem s e) : BI.Storable (upEmb : UEmb _ 𝕄) (Ex (F := F) c M) := by
  unfold Ex; infer_instance

/-- Who shares place `p`: each transfer out of it, and the device itself. -/
def users (p : Pl) : Finset (Fin 21) := insert 20 ((outs p).toFinset.map Fin.castSuccEmb)
def shr (i : Tx) : PosShare TreeShare := Transfers.dealOf fullShare (users (src i)) i.castSucc
def shrK (p : Pl) : PosShare TreeShare := Transfers.dealOf fullShare (users p) 20
def shrA (d : Fin 16) : PosShare TreeShare := Transfers.dealOf fullShare (Finset.univ : Finset (Fin 16)) d

/-- The slot of device `o`'s maxima buffer that device `e` writes. -/
def slotRes (o e : Dev nD) : sProp 𝕄 := Ex (F := F) o (slotA (sl o e))
def subF (c : Dev nD) (p : Pl) : Finset (Dev nD) := Finset.univ.filter fun e => inSub c p e = true

variable (X : Dev nD → S256x4096.Idx → Elt F .bf16) (A : Dev nD → S8x128.Idx → Elt F .f32)

def dstP (c : Dev nD) (i : Tx) : sProp 𝕄 := Ex (F := F) (peer c i) (plM (peer c i) (dpl c i))
def srcP (c : Dev nD) (i : Tx) : sProp 𝕄 := At m c (plM c (src i)) (shr i) (X (org c (src i)))
def sltsP (c : Dev nD) (i : Tx) : sProp 𝕄 := bigSep (subF (peer c i) (dpl c i)) (slotRes (F := F) (org c (src i)))

/-! ## The schedule -/

/-- What is paid into semaphore `k` of device `c`; `t` tells the barrier signals apart. -/
def pay (c : Dev nD) (k : Ce) (t : Fin 4) : sProp 𝕄 :=
  if k.val = 0 then bigSep (getsBy c t).toFinset (dstP (F := F) c)
  else if h : k.val < 16 then
    iprop(At m c (plM c ⟨k.val, h⟩) fullShare (X (org c ⟨k.val, h⟩)) ∗ bigSep (subF c ⟨k.val, h⟩) (slotRes (F := F) (org c ⟨k.val, h⟩)))
  else if h : k.val < 36 then srcP m X c ⟨k.val - 16, by omega⟩
  else if h : k.val < 38 then dstP (F := F) c ⟨k.val - 18, by omega⟩
  else if h : k.val < 53 then At m c amM (shrA ⟨k.val - 38, by omega⟩) (A c)
  else At m c (slotA ⟨k.val - 53, by omega⟩) fullShare (A (mfrom c ⟨k.val - 53, by omega⟩))

/-- Which barrier signals device `c` gets: signal `t` is made by the device it would answer with. -/
def duT (c : Dev nD) (k : Ce) : Finset (Fin 4) :=
  if k.val = 0 then Finset.univ.filter fun t : Fin 4 => bact c (opp t) = true
  else if h : 16 ≤ k.val ∧ k.val < 36 then (if act c ⟨k.val - 16, by omega⟩ = true then {0} else ∅) else {0}
theorem duT_of (c : Dev nD) (k : Ce) (hk : k.val ≠ 0) (h : ¬ (16 ≤ k.val ∧ k.val < 36)) : duT c k = {0} := by
  unfold duT; rw [if_neg hk, dif_neg h]
theorem duT_send (c : Dev nD) (i : Tx) : duT c (ceS i) = if act c i = true then {0} else ∅ := by
  have h1 : (ceS i).val ≠ 0 := by unfold ceS; simp
  have h2 : 16 ≤ (ceS i).val ∧ (ceS i).val < 36 := by unfold ceS; simp only; omega
  have h3 : (⟨(ceS i).val - 16, by omega⟩ : Tx) = i := Fin.ext (by unfold ceS; simp)
  unfold duT; rw [if_neg h1, dif_pos h2, h3]
theorem duT_recv (c : Dev nD) (p : Pl) (hp : p ≠ 0) : duT c (ceR p) = {0} :=
  duT_of c _ (fun h => hp (Fin.ext h)) (by unfold ceR; simp only; omega)
theorem duT_credit (c : Dev nD) (k : Fin 2) : duT c (ceC k) = {0} := duT_of c _ (by unfold ceC; simp) (by unfold ceC; simp only; omega)
theorem duT_mdone (c : Dev nD) (d : Fin 15) : duT c (ceMS d) = {0} := duT_of c _ (by unfold ceMS; simp) (by unfold ceMS; simp only; omega)
theorem duT_mrecv (c : Dev nD) (d : Fin 15) : duT c (ceMR d) = {0} := duT_of c _ (by unfold ceMR; simp) (by unfold ceMR; simp only; omega)

open Classical in
def dec (g : GSem nD τ sig) : Option (Dev nD × Ce) := Function.partialInv cell g
theorem dec_cell (ck : Dev nD × Ce) : dec (cell ck) = some ck := Function.partialInv_left cell_inj ck

def Rd : Rounds.Schedule (GSem nD τ sig) (Fin 4) 𝕄 where
  duties g r := if r = 0 then (match dec g with | some ck => duT ck.1 ck.2 | none => ∅) else ∅
  unitless _ := False
  amount g _ _ := match dec g with | some ck => amtC ck.2 | none => 1
  payload g _ t := match dec g with | some ck => pay m X A ck.1 ck.2 t | none => iprop(emp)
  amount_pos g _ _ _ := by
    split; · exact amtC_pos _
    exact Nat.one_pos

instance pay_storable (c : Dev nD) (k : Ce) (t : Fin 4) : BI.Storable (upEmb : UEmb _ 𝕄) (pay m X A c k t) := by
  unfold pay dstP srcP slotRes
  (repeat' split) <;> infer_instance
instance Rd_storable (g : GSem nD τ sig) (r : ℕ) (t : Fin 4) : BI.Storable (upEmb : UEmb _ 𝕄) ((Rd m X A).payload g r t) := by
  dsimp only [Rd]; split <;> infer_instance

theorem Rd_duties (ck : Dev nD × Ce) : (Rd m X A).duties (cell ck) 0 = duT ck.1 ck.2 := by dsimp only [Rd]; rw [if_pos rfl, dec_cell]
theorem Rd_duties_ne (g : GSem nD τ sig) : ∀ r, 1 ≤ r → (Rd m X A).duties g r = ∅ := fun r hr => by dsimp only [Rd]; rw [if_neg (by omega)]
theorem Rd_amount (ck : Dev nD × Ce) (t : Fin 4) : (Rd m X A).amount (cell ck) 0 t = amtC ck.2 := by dsimp only [Rd]; rw [dec_cell]
theorem Rd_payload (ck : Dev nD × Ce) (t : Fin 4) : (Rd m X A).payload (cell ck) 0 t = pay m X A ck.1 ck.2 t := by dsimp only [Rd]; rw [dec_cell]

theorem Rd_expect (c : Dev nD) (k : Ce) (hk : duT c k = {0}) : (Rd m X A).expect (cell (c, k)) 0 = amtC k := by
  unfold Schedule.expect Schedule.amountOf
  rw [Rd_duties, hk, Finset.sum_singleton, Rd_amount]
theorem Rd_expect_bar (c : Dev nD) : (Rd m X A).expect (cell (c, 0)) 0 = (duT c 0).card := by
  unfold Schedule.expect Schedule.amountOf
  rw [Rd_duties, Finset.sum_congr rfl fun d _ => Rd_amount m X A (c, 0) d, Finset.sum_const, smul_eq_mul]
  exact Nat.mul_one _
theorem Rd_rest (c : Dev nD) (k : Ce) (hk : duT c k = {0}) :
    bigSep ((Rd m X A).duties (cell (c, k)) 0 \ ∅) (fun t => (Rd m X A).payload (cell (c, k)) 0 t) = pay m X A c k 0 := by
  rw [Finset.sdiff_empty, Rd_duties, hk, bigSep_singleton, Rd_payload]

/-! ## What each device owes, and the levels -/

def amtO (c : Dev nD) (o : Ob) : ℕ := amtC (otgt c o).2
/-- What device `c` still owes before effect `n`. -/
def Ow (c : Dev nD) (n : ℕ) : CellTallies nD τ sig Unit :=
  ∑ o : Ob, if oact c o = true ∧ n ≤ otime o then tallyAt (cell (otgt c o)) () (amtO c o) else 0

theorem Ow_pay (c : Dev nD) (o : Ob) (h : oact c o = true) : Ow c (otime o) = Ow c (otime o + 1) + tallyAt (cell (otgt c o)) () (amtO c o) := by
  unfold Ow
  rw [← Finset.add_sum_erase _ _ (Finset.mem_univ o), ← Finset.add_sum_erase (a := o) _ _ (Finset.mem_univ o), if_pos ⟨h, le_rfl⟩,
    if_neg (fun h' => by omega), zero_add, add_comm]
  congr 1
  refine Finset.sum_congr rfl fun o' ho' => ?_
  have hne : otime o' ≠ otime o := fun h' => (Finset.mem_erase.1 ho').1 (otime_inj _ _ h')
  exact if_congr ⟨fun h' => ⟨h'.1, by omega⟩, fun h' => ⟨h'.1, by omega⟩⟩ rfl rfl

theorem Ow_same (c : Dev nD) (n : ℕ) (h : ∀ o, oact c o = true → otime o ≠ n) : Ow c n = Ow c (n + 1) := by
  unfold Ow
  refine Finset.sum_congr rfl fun o _ => if_congr ⟨fun h' => ⟨h'.1, ?_⟩, fun h' => ⟨h'.1, ?_⟩⟩ rfl rfl
  · have := h o h'.1; omega
  · omega

def L (g : GSem nD τ sig) : Finset Unit := if g.1.2 = .tc then {()} else ∅
def lv (g : GSem nD τ sig) (_ : Unit) : ℕ := match dec g with | some ck => lvC ck.1 ck.2 | none => 0
theorem L_of_ne (g : GSem nD τ sig) (h : g.1.2 ≠ .tc) : L g = ∅ := if_neg h
theorem L_tc (c : Dev nD) (sm : SemLoc sig) : L ((c : Thread nD τ), sm) = {()} := if_pos rfl

theorem Ow_pos {c : Dev nD} {n : ℕ} {g : GSem nD τ sig} {u : Unit} (h : 0 < Ow c n g u) :
    ∃ o, oact c o = true ∧ n ≤ otime o ∧ g = cell (otgt c o) := by
  by_contra hn
  refine absurd h (Nat.not_lt.2 (Nat.le_of_eq ?_))
  unfold Ow
  rw [Finset.sum_apply, Finsupp.finset_sum_apply]
  refine Finset.sum_eq_zero fun o _ => ?_
  split
  next ho => rw [tallyAt_apply, if_neg fun h' => hn ⟨o, ho.1, ho.2, h'.1⟩]
  next => rfl

/-- A device may wait at a cell below all it still owes. -/
theorem mayWait (c : Dev nD) (n : ℕ) (k : Ce) (h : waitOK c n k = true) :
    (levAts L lv : sProp 𝕄) ⊢ MayWait (c : Thread nD τ) (cell (c, k)).2 () (Ow c n) :=
  MayOwe.of_cut (L := L) (lev := lv) (lvC c k) (fun p hp => by rw [Finset.mem_singleton.mp hp, L_tc]; exact Finset.mem_singleton_self _)
    (fun g u hg => by obtain ⟨o, _, _, rfl⟩ := Ow_pos hg; exact (L_tc _ _).symm ▸ Finset.mem_singleton_self _)
    (fun p hp => by rw [Finset.mem_singleton.mp hp]; show lv (cell (c, k)) () ≤ _; unfold lv; rw [dec_cell])
    (fun g u hg => by
      obtain ⟨o, h1, h2, rfl⟩ := Ow_pos hg
      unfold lv; rw [dec_cell]
      exact wait_iff h o h1 h2)

/-! ## What a device holds -/

def ctgt (c : Dev nD) (k : Fin 2) : Dev nD := bif Nat.beq k.val 0 then prv c else nxt c

def Rs (c : Dev nD) : Res → sProp 𝕄
  | .inl (k, i) => match k with
    | 0 => dutyTok ER (cell (c, ceS i)) 0 0
    | 1 => dutyTok ER (cell (peer c i, ceR (dpl c i))) 0 0
    | 2 => cred (tallyAt (cell (c, ceS i)) () N)
    | 3 => atPos ER (cell (c, ceS i)) 0 ∅ 0
    | 4 => semVal (cell (c, ceS i)) 0
    | 5 => dstP (F := F) c i
    | 6 => srcP m X c i
    | 7 => sltsP (F := F) c i
  | .inr (.inl (k, p)) => match k with
    | 0 => iprop(atPos ER (cell (c, ceR p)) 0 ∅ 0 ∗ cred (tallyAt (cell (c, ceR p)) () N))
    | 1 => semVal (cell (c, ceR p)) 0
    | 2 => Ex (F := F) c (plM c p)
    | 3 => At m c (plM c p) (shrK p) (X (org c p))
    | 4 => slotRes (F := F) (org c p) c
  | .inr (.inr (.inl (k, d))) => match k with
    | 0 => dutyTok ER (cell (c, ceMS d)) 0 0
    | 1 => dutyTok ER (cell (mpeer c d, ceMR d)) 0 0
    | 2 => Ex (F := F) (mpeer c d) (slotA d)
    | 3 => cred (tallyAt (cell (c, ceMS d)) () NA)
    | 4 => atPos ER (cell (c, ceMS d)) 0 ∅ 0
    | 5 => semVal (cell (c, ceMS d)) 0
    | 6 => At m c amM (shrA d.castSucc) (A c)
    | 7 => iprop(atPos ER (cell (c, ceMR d)) 0 ∅ 0 ∗ cred (tallyAt (cell (c, ceMR d)) () NA))
    | 8 => semVal (cell (c, ceMR d)) 0
    | 9 => At m c (slotA d) fullShare (A (mfrom c d))
  | .inr (.inr (.inr k)) => match k with
    | 0 => dutyTok ER (cell (bpeer c 0, 0)) 0 0
    | 1 => dutyTok ER (cell (bpeer c 1, 0)) 0 1
    | 2 => dutyTok ER (cell (bpeer c 2, 0)) 0 2
    | 3 => dutyTok ER (cell (bpeer c 3, 0)) 0 3
    | 4 => iprop(atPos ER (cell (c, 0)) 0 ∅ 0 ∗ cred (tallyAt (cell (c, 0)) () (duT c 0).card))
    | 5 => semVal (cell (c, 0)) 0
    | 6 => dutyTok ER (cell (ctgt c 0, ceC 0)) 0 0
    | 7 => dutyTok ER (cell (ctgt c 1, ceC 1)) 0 0
    | 8 => iprop(atPos ER (cell (c, ceC 0)) 0 ∅ 0 ∗ cred (tallyAt (cell (c, ceC 0)) () 1))
    | 9 => iprop(atPos ER (cell (c, ceC 1)) 0 ∅ 0 ∗ cred (tallyAt (cell (c, ceC 1)) () 1))
    | 10 => semVal (cell (c, ceC 0)) 0
    | 11 => semVal (cell (c, ceC 1)) 0
    | 12 => Ex (F := F) c amM
    | 13 => At m c amM (shrA 15) (A c)
    | 14 => bigSep (subF c 0) (slotRes (F := F) c)

/-- What device `c` holds before effect `n`. -/
def Hs (c : Dev nD) (n : ℕ) : sProp 𝕄 := bigSep (Finset.univ.filter fun r => live c n r = true) (Rs m X A c)
/-- That, and what it owes. -/
def St (c : Dev nD) (n : ℕ) : sProp 𝕄 := iprop(Hs m X A c n ∗ ∃ W, owes (c : Thread nD τ) (Ow c n) W)

section Bs
variable {M : Type} [URA M] {I : Type} [DecidableEq I] {s t : Finset I} {i : I} {Φ : I → sProp M}
theorem bs_sdiff (h : t ⊆ s) : bigSep s Φ = iprop(bigSep t Φ ∗ bigSep (s \ t) Φ) := bigSep_sdiff_split h
theorem bs_union (h : Disjoint s t) : bigSep (s ∪ t) Φ = iprop(bigSep s Φ ∗ bigSep t Φ) := bigSep_union h
theorem bs_insert (h : i ∉ s) : bigSep (insert i s) Φ = iprop(Φ i ∗ bigSep s Φ) := bigSep_insert h
theorem bs_filter (s : Finset I) (p : I → Prop) [DecidablePred p] :
    bigSep s Φ = iprop(bigSep (s.filter p) Φ ∗ bigSep (s.filter fun i => ¬ p i) Φ) := bigSep_filter_split s p
theorem bs_sub (h : s ⊆ t) (Φ : I → sProp M) : bigSep t Φ ⊢ bigSep s Φ := bigSep_subset h
end Bs

/-- A list of things, one by one. -/
def sepL (c : Dev nD) : List Res → sProp 𝕄
  | [] => iprop(emp)
  | r :: l => iprop(Rs m X A c r ∗ sepL c l)

theorem sepL_of (c : Dev nD) (l : List Res) : sepL m X A c l ⊢ bigSep l.toFinset (Rs m X A c) := by
  induction l with
  | nil => rw [List.toFinset_nil, bigSep_empty]; exact Entails.refl _
  | cons r l ih =>
    unfold sepL; rw [List.toFinset_cons]
    by_cases h : r ∈ l.toFinset
    · rw [Finset.insert_eq_of_mem h]; iintro ⟨-, H⟩; iapply ih; iexact H
    · rw [bs_insert h]; exact sep_mono_right ih
theorem sepL_to (c : Dev nD) (l : List Res) (hl : l.Nodup) : bigSep l.toFinset (Rs m X A c) ⊢ sepL m X A c l := by
  induction l with
  | nil => rw [List.toFinset_nil, bigSep_empty]; exact Entails.refl _
  | cons r l ih =>
    unfold sepL; rw [List.toFinset_cons, bs_insert (fun h => (List.nodup_cons.1 hl).1 (List.mem_toFinset.1 h))]
    exact sep_mono_right (ih (List.nodup_cons.1 hl).2)

/-- The effect's step: what it takes, and what is held next once it has given what it gives. -/
theorem Hs_step (c : Dev nD) (n : ℕ) (rem add : List Res) (h : stepOK c n rem add = true) (hn : rem.Nodup) :
    Hs m X A c n ⊢ iprop(sepL m X A c rem ∗ (sepL m X A c add -∗ Hs m X A c (n + 1))) := by
  obtain ⟨h1, h2⟩ := step_iff h
  have hsub : rem.toFinset ⊆ Finset.univ.filter fun r => live c n r = true := fun r hr =>
    Finset.mem_filter.2 ⟨Finset.mem_univ r, h1 r (List.mem_toFinset.1 hr)⟩
  unfold Hs
  rw [bs_sdiff hsub]
  iintro ⟨H1, H2⟩
  isplitl [H1]; · iapply (sepL_to m X A c rem hn); iexact H1
  iintro H3
  ihave H3' := (sepL_of m X A c add) $$ H3
  have hU : (Finset.univ.filter fun r => live c (n + 1) r = true)
      ⊆ add.toFinset ∪ (((Finset.univ.filter fun r => live c n r = true) \ rem.toFinset) \ add.toFinset) := fun r hr => by
    rcases h2 r (Finset.mem_filter.1 hr).2 with ha | ⟨hl, hr'⟩
    · exact Finset.mem_union_left _ (List.mem_toFinset.2 ha)
    · by_cases ha : r ∈ add.toFinset
      · exact Finset.mem_union_left _ ha
      · exact Finset.mem_union_right _ (Finset.mem_sdiff.2 ⟨Finset.mem_sdiff.2 ⟨Finset.mem_filter.2 ⟨Finset.mem_univ r, hl⟩,
          fun h' => hr' (List.mem_toFinset.1 h')⟩, ha⟩)
  iapply (bs_sub hU (Rs m X A c))
  rw [bs_union Finset.disjoint_sdiff]
  isplitl [H3']; · iexact H3'
  iapply (bs_sub Finset.sdiff_subset (Rs m X A c)); iexact H2

end Cert.KernelIdeal.Pf

end
-- ==== Proof.KISteps.lean ====
module

public import proofs.«01_k».proof.Proof.KISched

/-!
# One rule per kind of effect

Each takes a device's share `St` before an effect to its share after it.
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)
variable (K : Dev nD × Ce → ℕ)

abbrev 𝒱₀ : Variants := Variants.none

/-- The cells' invariants, that every cell has reached its round, and the levels. -/
def Inv : sProp 𝕄 :=
  iprop((bigSep Finset.univ fun ck : Dev nD × Ce => cellInv ER (Rd m X A) (K ck) (cell ck))
    ∗ (bigSep Finset.univ fun ck : Dev nD × Ce => reached ER (cell ck) 0) ∗ levAts L lv)
instance Inv_persistent : BI.Persistent (Inv m X A K) := by unfold Inv; infer_instance

theorem Inv_cell (ck : Dev nD × Ce) : Inv m X A K ⊢ cellInv ER (Rd m X A) (K ck) (cell ck) := by
  unfold Inv; iintro ⟨H, -, -⟩
  ihave H := (show (bigSep Finset.univ fun ck : Dev nD × Ce => cellInv ER (Rd m X A) (K ck) (cell ck)) ⊢ cellInv ER (Rd m X A) (K ck) (cell ck) from bigSep_elim (Finset.mem_univ ck)) $$ H
  iexact H
theorem Inv_reached (ck : Dev nD × Ce) : Inv m X A K ⊢ reached ER (cell ck) 0 := by
  unfold Inv; iintro ⟨-, H, -⟩
  ihave H := (show (bigSep Finset.univ fun ck : Dev nD × Ce => (reached ER (cell ck) 0 : sProp 𝕄)) ⊢ reached ER (cell ck) 0 from bigSep_elim (Finset.mem_univ ck)) $$ H
  iexact H
theorem Inv_lev : Inv m X A K ⊢ levAts L lv := by
  unfold Inv; iintro ⟨-, -, H⟩; iexact H

abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Contents of views -/

section Views
variable {s : Shape} {e : EltTy}

theorem write_eq (v : View sig .tc .vmem s e) (f g : v.ty.Contents (Elt F)) (w : s.Idx → Elt F e) :
    ∀ i ∈ v.set, v.write (Elt F) f w Finset.univ i = v.write (Elt F) g w Finset.univ i := fun i hi => by
  obtain ⟨x, -, rfl⟩ := Finset.mem_map.1 hi
  rw [View.write_emb_of_mem _ _ (Finset.mem_univ x), View.write_emb_of_mem _ _ (Finset.mem_univ x)]

theorem At_of_write (c : Dev nD) (M : Memref sig .tc .vmem s e) (q : PosShare TreeShare) (f : Buf (Elt F) (M.view.loc (c : Thread nD τ))) (w : s.Idx → Elt F e) :
    (M.view.loc (c : Thread nD τ) ↦[M.view.set]{q} (M.view.write (Elt F) f w Finset.univ) : sProp 𝕄) = At m c M q w := by
  unfold At; exact pointsTo_congr (write_eq M.view _ _ w)
theorem At_of_read (c : Dev nD) (M : Memref sig .tc .vmem s e) (q : PosShare TreeShare) (f : Buf (Elt F) (M.view.loc (c : Thread nD τ))) :
    (M.view.loc (c : Thread nD τ) ↦[M.view.set]{q} f : sProp 𝕄) = At m c M q (M.view.read (Elt F) f) := by
  unfold At; exact pointsTo_congr fun i hi => by
    obtain ⟨x, -, rfl⟩ := Finset.mem_map.1 hi
    rw [View.write_emb_of_mem _ _ (Finset.mem_univ x), View.read_apply, cast_cast, cast_eq]
theorem At_Ex (c : Dev nD) (M : Memref sig .tc .vmem s e) (w : s.Idx → Elt F e) : At m c M fullShare w ⊢ Ex (F := F) c M := by
  unfold At Ex; iintro H; iexists _; iexact H

/-- A place's whole is dealt among those that share it. -/
theorem At_deal (c : Dev nD) (M : Memref sig .tc .vmem s e) {ι : Type} [LinearOrder ι] (S : Finset ι) (hS : S.Nonempty) (w : s.Idx → Elt F e) :
    At m c M fullShare w = bigSep S fun j => At m c M (Transfers.dealOf fullShare S j) w := by
  unfold At; exact Transfers.pointsTo_deal S hS fullShare

end Views

/-! ## Lists of things -/

theorem sepL_append (c : Dev nD) (l l' : List Res) : iprop(sepL m X A c l ∗ sepL m X A c l') ⊢ sepL m X A c (l ++ l') := by
  induction l with
  | nil => unfold sepL; iintro ⟨-, H⟩; iexact H
  | cons r l ih =>
    rw [List.cons_append]
    show iprop((Rs m X A c r ∗ sepL m X A c l) ∗ sepL m X A c l') ⊢ iprop(Rs m X A c r ∗ sepL m X A c (l ++ l'))
    exact sep_assoc.1.trans (sep_mono_right ih)

theorem sepL_map {ι : Type} [DecidableEq ι] (c : Dev nD) (l : List ι) (hl : l.Nodup) (f : ι → Res) (Φ : ι → sProp 𝕄) (h : ∀ i ∈ l, Φ i = Rs m X A c (f i)) :
    bigSep l.toFinset Φ ⊢ sepL m X A c (l.map f) := by
  induction l with
  | nil => rw [List.toFinset_nil, bigSep_empty]; exact Entails.refl _
  | cons r l ih =>
    rw [List.map_cons, List.toFinset_cons, bs_insert (fun h => (List.nodup_cons.1 hl).1 (List.mem_toFinset.1 h))]; unfold sepL
    rw [h r (List.mem_cons_self ..)]
    exact sep_mono_right (ih (List.nodup_cons.1 hl).2 fun i hi => h i (List.mem_cons_of_mem _ hi))

theorem sepL_unmap {ι : Type} [DecidableEq ι] (c : Dev nD) (l : List ι) (f : ι → Res) :
    sepL m X A c (l.map f) ⊢ bigSep l.toFinset fun i => Rs m X A c (f i) := by
  induction l with
  | nil => rw [List.toFinset_nil, bigSep_empty]; exact Entails.refl _
  | cons r l ih =>
    rw [List.map_cons, List.toFinset_cons]; unfold sepL
    by_cases h : r ∈ l.toFinset
    · rw [Finset.insert_eq_of_mem h]; iintro ⟨-, H⟩; iapply ih; iexact H
    · rw [bs_insert h]; exact sep_mono_right ih

/-! ## Steps that nothing is done in -/

theorem St_skip (c : Dev nD) (n : ℕ) (h : stepOK c n [] [] = true) (ho : ∀ o, oact c o = true → otime o ≠ n) : St m X A c n ⊢ St m X A c (n + 1) := by
  unfold St; rw [Ow_same c n ho]
  refine sep_mono_left ((Hs_step m X A c n [] [] h List.nodup_nil).trans ?_)
  iintro ⟨-, H⟩; iapply H; unfold sepL; iempintro

theorem nosend_skip (c : Dev nD) (i : Tx) (ha : act c i = false) : St m X A c (tSend i.val) ⊢ St m X A c (tSend i.val + 1) :=
  St_skip m X A c _ (step_nosend c i ha) fun o ho h => by
    rw [otime_inj o (.inr (.inl i)) h] at ho; exact absurd (ha.symm.trans ho) (by decide)
theorem nosig_skip (c : Dev nD) (t : Fin 4) (ha : bact c t = false) : St m X A c (1 + t.val) ⊢ St m X A c (1 + t.val + 1) :=
  St_skip m X A c _ (step_nosig c t ha) fun o ho h => by
    rw [otime_inj o (.inl t) h] at ho; exact absurd (ha.symm.trans ho) (by decide)
theorem norecv_skip (c : Dev nD) : St m X A c (bif inner (c.val / 4) then 20 else 13) ⊢ St m X A c ((bif inner (c.val / 4) then 20 else 13) + 1) :=
  St_skip m X A c _ (step_norecv c) fun o _ => nt_norecv (pz c) o

/-! ## Payloads -/

theorem duT_bar (c : Dev nD) : duT c 0 = Finset.univ.filter fun t : Fin 4 => bact c (opp t) = true := if_pos rfl
theorem pay_bar (c : Dev nD) (t : Fin 4) : pay m X A c 0 t = bigSep (getsBy c t).toFinset (dstP (F := F) c) := if_pos rfl
theorem pay_recv (c : Dev nD) (p : Pl) (hp : p ≠ 0) : pay m X A c (ceR p) 0
    = iprop(At m c (plM c p) fullShare (X (org c p)) ∗ bigSep (subF c p) (slotRes (F := F) (org c p))) := by
  unfold pay; rw [if_neg (show (ceR p).val ≠ 0 from fun h => hp (Fin.ext h)), dif_pos (show (ceR p).val < 16 from p.isLt)]; rfl
theorem pay_done (c : Dev nD) (i : Tx) : pay m X A c (ceS i) 0 = srcP m X c i := by
  unfold pay ceS
  rw [if_neg (by simp), dif_neg (by simp), dif_pos (by simp only; omega)]
  congr 1; exact Fin.ext (by simp)
theorem pay_credit (c : Dev nD) (k : Fin 2) : pay m X A c (ceC k) 0 = dstP (F := F) c ⟨18 + k.val, by omega⟩ := by
  unfold pay ceC
  rw [if_neg (by simp), dif_neg (by simp only; omega), dif_neg (by simp), dif_pos (by simp only; omega)]
  congr 1; exact Fin.ext (by simp only; omega)
theorem pay_mdone (c : Dev nD) (d : Fin 15) : pay m X A c (ceMS d) 0 = At m c amM (shrA d.castSucc) (A c) := by
  unfold pay ceMS
  rw [if_neg (by simp), dif_neg (by simp only; omega), dif_neg (by simp only; omega), dif_neg (by simp), dif_pos (by simp only; omega)]
  congr 2; exact Fin.ext (by simp)
theorem pay_mrecv (c : Dev nD) (d : Fin 15) : pay m X A c (ceMR d) 0 = At m c (slotA d) fullShare (A (mfrom c d)) := by
  have hd : (⟨(ceMR d).val - 53, by omega⟩ : Fin 15) = d := Fin.ext (by unfold ceMR; simp)
  unfold pay
  rw [if_neg (by unfold ceMR; simp), dif_neg (by unfold ceMR; simp only; omega), dif_neg (by unfold ceMR; simp only; omega), dif_neg (by unfold ceMR; simp only; omega),
    dif_neg (by unfold ceMR; simp), hd]

theorem amt_recv (p : Pl) (hp : p ≠ 0) : amtC (ceR p) = N := by
  unfold amtC; rw [if_neg (show (ceR p).val ≠ 0 from fun h => hp (Fin.ext h)), if_pos (by unfold ceR; simp only; omega)]
theorem amt_done (i : Tx) : amtC (ceS i) = N := by
  unfold amtC ceS; rw [if_neg (by simp), if_pos (by simp only; omega)]
theorem amt_credit (k : Fin 2) : amtC (ceC k) = 1 := by
  unfold amtC ceC; rw [if_neg (by simp), if_neg (by simp), if_pos (by simp only; omega)]
theorem amt_mdone (d : Fin 15) : amtC (ceMS d) = NA := by
  unfold amtC ceMS; rw [if_neg (by simp), if_neg (by simp only; omega), if_neg (by simp)]
theorem amt_mrecv (d : Fin 15) : amtC (ceMR d) = NA := by
  unfold amtC ceMR; rw [if_neg (by simp), if_neg (by simp only; omega), if_neg (by simp only; omega)]

/-! ## Waits -/

/-- A wait for the whole of a cell's round, the cell closed after it. -/
theorem wait_core (c : Dev nD) (n : ℕ) (k : Ce) (hk : duT c k = {0}) (hok : waitOK c n k = true) {α : Type} {Q : α → sProp 𝕄}
    {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (cell (c, k)).2 a G)
    (ha : a = amtC k) {kk : PUnit → Prog (TpuEff nD τ sig (Elt F) Λ₀ .tc) α} :
    iprop(Inv m X A K ∗ atPos ER (cell (c, k)) 0 ∅ 0 ∗ cred (tallyAt (cell (c, k)) () (amtC k)) ∗ ∃ W, owes (c : Thread nD τ) (Ow c n) W)
      ⊢ iprop((((∃ W, owes (c : Thread nD τ) (Ow c n) W) ∗ semVal (cell (c, k)) 0 ∗ pay m X A c k 0) -∗ WP c (kk ⟨⟩) Q) -∗ WP c (.op w kk) Q) := by
  subst ha
  iintro ⟨#HI, Hat, Hc, ⟨%W, Ho⟩⟩ Hk
  iapply (Rounds.wp_wait_rest_token 𝒱₀ ER (Rd m X A) (c : Thread nD τ) none (κ := K (c, k)) hw (Set.mem_univ _) () (O := Ow c n) (W := W) (R := 0) (m := 0) (T := ∅)
      (by rw [Nat.zero_add]; exact (Rd_expect m X A c k hk).symm)) $$ [Hat Hc Ho]
  · isplitr; · iapply (Inv_cell m X A K (c, k)); iexact HI
    isplitl [Hc]; · iexact Hc
    isplitl [Ho]; · iexact Ho
    isplitr; · iapply (mayWait c n k hok); iapply (Inv_lev m X A K); iexact HI
    iexact Hat
  iintro ⟨Ho, Hat, -, Hp⟩
  imod (Rounds.cell_close ER (Rd m X A) (Set.mem_univ (K (c, k))) (fun h => h) (R := 0 + 1) (Rd_duties_ne m X A (cell (c, k)))) $$ [Hat] with Hz
  · isplitr; · iapply (Inv_cell m X A K (c, k)); iexact HI
    iexact Hat
  iapply Hk
  isplitl [Ho]; · iexists _; iexact Ho
  isplitl [Hz]; · iexact Hz
  iapply (Entails.of_eq (Rd_rest m X A c k hk)); iexact Hp

/-! ## The slots that travel on -/

/-- The slots that came with the block at place `p` go on with the transfers out of it; the device's own stays. -/
theorem slots_split (c : Dev nD) (p : Pl) : bigSep (subF c p) (slotRes (F := F) (org c p))
    ⊢ iprop(bigSep ((subF c p).filter fun e => ∀ i ∈ outsA c p, e ∉ subF (peer c i) (dpl c i)) (slotRes (F := F) (org c p)) ∗ sepL m X A c ((outsA c p).map slts)) := by
  have key : ∀ l : List Tx, l.Nodup → (∀ i ∈ l, i ∈ outsA c p) → bigSep (subF c p) (slotRes (F := F) (org c p))
      ⊢ iprop(bigSep ((subF c p).filter fun e => ∀ i ∈ l, e ∉ subF (peer c i) (dpl c i)) (slotRes (F := F) (org c p)) ∗ sepL m X A c (l.map slts)) := by
    intro l
    induction l with
    | nil =>
      intro _ _
      rw [Finset.filter_true_of_mem (fun _ _ _ h => absurd h (List.not_mem_nil))]
      iintro H; isplitl [H]; · iexact H
      unfold sepL; iempintro
    | cons i l ih =>
      intro hn hm
      have hi := hm i (List.mem_cons_self ..)
      have hsrc : ∀ j ∈ outsA c p, src j = p ∧ act c j = true := fun j hj => by
        have := (List.mem_filter.1 hj).2
        rw [Bool.and_eq_true, Nat.beq_eq] at this
        exact ⟨Fin.ext this.1, this.2⟩
      have hsub : subF (peer c i) (dpl c i) ⊆ (subF c p).filter fun e => ∀ j ∈ l, e ∉ subF (peer c j) (dpl c j) := fun e he => by
        have h1 := sub_outs c i e (hsrc i hi).2 (Finset.mem_filter.1 he).2
        rw [(hsrc i hi).1] at h1
        refine Finset.mem_filter.2 ⟨Finset.mem_filter.2 ⟨Finset.mem_univ e, h1.1⟩, fun j hj hej => ?_⟩
        have h2 := sub_outs c j e (hsrc j (hm j (List.mem_cons_of_mem _ hj))).2 (Finset.mem_filter.1 hej).2
        rw [(hsrc j (hm j (List.mem_cons_of_mem _ hj))).1] at h2
        have : i = j := Fin.ext (h1.2.symm.trans h2.2)
        exact (List.nodup_cons.1 hn).1 (this ▸ hj)
      have hle : ((subF c p).filter fun e => ∀ j ∈ i :: l, e ∉ subF (peer c j) (dpl c j)) ⊆ ((subF c p).filter fun e => ∀ j ∈ l, e ∉ subF (peer c j) (dpl c j)) \ subF (peer c i) (dpl c i) := fun e he => by
        obtain ⟨he1, he2⟩ := Finset.mem_filter.1 he
        exact Finset.mem_sdiff.2 ⟨Finset.mem_filter.2 ⟨he1, fun j hj => he2 j (List.mem_cons_of_mem _ hj)⟩, he2 i (List.mem_cons_self ..)⟩
      refine (ih (List.nodup_cons.1 hn).2 fun j hj => hm j (List.mem_cons_of_mem _ hj)).trans ?_
      rw [bs_sdiff hsub]
      rw [List.map_cons]
      have hR : Rs m X A c (slts i) = bigSep (subF (peer c i) (dpl c i)) (slotRes (F := F) (org c p)) := by
        show sltsP (F := F) c i = _
        unfold sltsP; rw [(hsrc i hi).1]
      show _ ⊢ iprop(_ ∗ (Rs m X A c (slts i) ∗ sepL m X A c (l.map slts)))
      rw [hR]
      iintro ⟨⟨H1, H2⟩, H3⟩
      isplitl [H2]
      · iapply (bs_sub hle (slotRes (F := F) (org c p))); iexact H2
      isplitl [H1] <;> iassumption
  exact key _ (outsN_nodup (pz c) p) fun _ h => h

theorem slots_own (c : Dev nD) (p : Pl) (hp : p ≠ 0) : bigSep (subF c p) (slotRes (F := F) (org c p))
    ⊢ iprop(slotRes (F := F) (org c p) c ∗ sepL m X A c ((outsA c p).map slts)) := by
  refine (slots_split m X A c p).trans (sep_mono_left (bigSep_elim ?_))
  have h := hop_stay c p c
  rw [Nat.beq_refl, Bool.true_and] at h
  have h' : (inSub c p c && Nat.beq (hop c p c) 20) = true := h.trans (by
    rw [Bool.not_eq_true', ← Bool.not_eq_true, Nat.beq_eq]; exact fun h => hp (Fin.ext h))
  rw [Bool.and_eq_true, Nat.beq_eq] at h'
  refine Finset.mem_filter.2 ⟨Finset.mem_filter.2 ⟨Finset.mem_univ c, h'.1⟩, fun i hi hc => ?_⟩
  have hs := (List.mem_filter.1 hi).2
  rw [Bool.and_eq_true, Nat.beq_eq] at hs
  have h2 := sub_outs c i c hs.2 (Finset.mem_filter.1 hc).2
  rw [show src i = p from Fin.ext hs.1, h'.2] at h2
  have := i.isLt; omega

/-- A place's block dealt out: to the transfers out of it, the rest kept. -/
theorem place_deal (c : Dev nD) (p : Pl) : At m c (plM c p) fullShare (X (org c p))
    ⊢ iprop(Rs m X A c (keep p) ∗ sepL m X A c ((outs p).map srct)) := by
  have hne : (20 : Fin 21) ∉ (outs p).toFinset.map Fin.castSuccEmb := fun h => by
    obtain ⟨i, -, hi⟩ := Finset.mem_map.1 h
    have := congrArg Fin.val hi; have h2 := i.isLt
    simp at this; omega
  rw [At_deal m c (plM c p) (users p) ⟨20, Finset.mem_insert_self _ _⟩]
  conv => lhs; unfold users
  rw [bs_insert hne, bigSep_map]
  refine sep_mono_right (sepL_map m X A c (outs p) (outs_nodup p) srct _ fun i hi => ?_)
  have hs : src i = p := by
    have := (List.mem_filter.1 hi).2
    rw [Nat.beq_eq] at this
    exact Fin.ext this
  show _ = srcP m X c i
  unfold srcP shr; rw [hs]; rfl

/-! ## The steps -/

section Steps
variable {α : Type}

/-- A block arrives. -/
theorem step_recvBlock (c : Dev nD) (p : Pl) (hp : p ≠ 0) {Q : α → sProp 𝕄} {kk : PUnit → Prog (TpuEff nD τ sig (Elt F) Λ₀ .tc) α}
    {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (cell (c, ceR p)).2 a G)
    (ha : a = N) :
    iprop(Inv m X A K ∗ St m X A c (tRecv (c.val / 4) p.val)) ⊢ iprop((St m X A c (tRecv (c.val / 4) p.val + 1) -∗ WP c (kk ⟨⟩) Q) -∗ WP c (.op w kk) Q) := by
  unfold St
  rw [← Ow_same c (tRecv (c.val / 4) p.val) fun o _ => nt_recv (pz c) p o hp]
  iintro ⟨#HI, Hs, Ho⟩ Hk
  have h : Hs m X A c (tRecv (c.val / 4) p.val) ⊢ iprop(((atPos ER (cell (c, ceR p)) 0 ∅ 0 ∗ cred (tallyAt (cell (c, ceR p)) () N)) ∗ emp) ∗ ((semVal (cell (c, ceR p)) 0 ∗ slotRes (F := F) (org c p) c ∗ Rs m X A c (keep p) ∗ sepL m X A c ((outs p).map srct ++ (outsA c p).map slts)) -∗ Hs m X A c ((tRecv (c.val / 4) p.val) + 1))) :=
    Hs_step m X A c _ _ _ (Mesh.step_recv c p hp) (List.nodup_singleton _)
  ihave H := h $$ Hs
  icases H with ⟨⟨⟨Hat, Hc⟩, -⟩, Hnext⟩
  iapply (wait_core m X A K c _ (ceR p) (duT_recv c p hp) (wait_recv c p hp) hw (ha.trans (amt_recv p hp).symm)) $$ [Hat Hc Ho]
  · isplitr; · iexact HI
    isplitl [Hat]; · iexact Hat
    isplitl [Hc]; · rw [amt_recv p hp]; iexact Hc
    iexact Ho
  iintro ⟨Ho, Hz, Hp⟩
  ihave Hp := (Entails.of_eq (pay_recv m X A c p hp)) $$ Hp
  icases Hp with ⟨Hb, Hsl⟩
  ihave Hb := (place_deal m X A c p) $$ Hb
  ihave Hsl := (slots_own m X A c p hp) $$ Hsl
  icases Hb with ⟨Hk1, Hk2⟩
  icases Hsl with ⟨Hs1, Hs2⟩
  iapply Hk
  isplitr [Ho]
  · iapply Hnext
    isplitl [Hz]; · iexact Hz
    isplitl [Hs1]; · iexact Hs1
    isplitl [Hk1]; · iexact Hk1
    iapply (sepL_append m X A c ((outs p).map srct) ((outsA c p).map slts))
    isplitl [Hk2]; · iexact Hk2
    iexact Hs2
  iexact Ho

/-- A transfer's source share comes back. -/
theorem step_doneBlock (c : Dev nD) (i : Tx) (hi : act c i = true) {Q : α → sProp 𝕄} {kk : PUnit → Prog (TpuEff nD τ sig (Elt F) Λ₀ .tc) α}
    {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (cell (c, ceS i)).2 a G)
    (ha : a = N) :
    iprop(Inv m X A K ∗ St m X A c (tDone i.val)) ⊢ iprop((St m X A c (tDone i.val + 1) -∗ WP c (kk ⟨⟩) Q) -∗ WP c (.op w kk) Q) := by
  unfold St
  rw [← Ow_same c _ fun o _ => nt_done i o]
  iintro ⟨#HI, Hs, Ho⟩ Hk
  have h : Hs m X A c (tDone i.val) ⊢ iprop((atPos ER (cell (c, ceS i)) 0 ∅ 0 ∗ cred (tallyAt (cell (c, ceS i)) () N) ∗ emp) ∗ ((semVal (cell (c, ceS i)) 0 ∗ srcP m X c i ∗ emp) -∗ Hs m X A c ((tDone i.val) + 1))) :=
    Hs_step m X A c _ _ _ (Mesh.step_done c i hi) (by simp [posS, crdS])
  ihave H := h $$ Hs
  icases H with ⟨⟨Hat, Hc, -⟩, Hnext⟩
  iapply (wait_core m X A K c _ (ceS i) ((duT_send c i).trans (if_pos hi)) (wait_done c i) hw (ha.trans (amt_done i).symm)) $$ [Hat Hc Ho]
  · isplitr; · iexact HI
    isplitl [Hat]; · iexact Hat
    isplitl [Hc]; · rw [amt_done i]; iexact Hc
    iexact Ho
  iintro ⟨Ho, Hz, Hp⟩
  ihave Hp := (Entails.of_eq (pay_done m X A c i)) $$ Hp
  iapply Hk
  isplitr [Ho]
  · iapply Hnext
    isplitl [Hz]; · iexact Hz
    isplitl [Hp]; · iexact Hp
    iempintro
  iexact Ho

/-- A transfer that is not made: its semaphore's cell is closed. -/
theorem nodone_skip (c : Dev nD) (i : Tx) (hi : act c i = false) :
    iprop(Inv m X A K ∗ St m X A c (tDone i.val)) ⊢ iprop(|={Set.univ}=> St m X A c (tDone i.val + 1)) := by
  unfold St
  rw [← Ow_same c _ fun o _ => nt_done i o]
  iintro ⟨#HI, Hs, Ho⟩
  have h : Hs m X A c (tDone i.val) ⊢ iprop((atPos ER (cell (c, ceS i)) 0 ∅ 0 ∗ emp) ∗ ((semVal (cell (c, ceS i)) 0 ∗ emp) -∗ Hs m X A c ((tDone i.val) + 1))) :=
    Hs_step m X A c _ _ _ (Mesh.step_nodone c i hi) (List.nodup_singleton _)
  ihave H := h $$ Hs
  icases H with ⟨⟨Hat, -⟩, Hnext⟩
  have hd : ∀ r, 0 ≤ r → (Rd m X A).duties (cell (c, ceS i)) r = ∅ := fun r _ => by
    rcases Nat.eq_zero_or_pos r with rfl | h
    · rw [Rd_duties]
      exact (duT_send c i).trans (if_neg (by rw [hi]; decide))
    · exact Rd_duties_ne m X A _ r h
  imod (Rounds.cell_close ER (Rd m X A) (Set.mem_univ (K (c, ceS i))) (fun h => h) (R := 0) hd) $$ [Hat] with Hz
  · isplitr; · iapply (Inv_cell m X A K (c, ceS i)); iexact HI
    iexact Hat
  imodintro
  isplitr [Ho]
  · iapply Hnext
    isplitl [Hz]; · iexact Hz
    iempintro
  iexact Ho

set_option maxHeartbeats 1000000 in
/-- A block is sent. -/
theorem step_sendBlock (c : Dev nD) (i : Tx) (hi : act c i = true) {Q : α → sProp 𝕄} {kk : PUnit → Prog (TpuEff nD τ sig (Elt F) Λ₀ .tc) α}
    {e : Dev nD} (he : e = peer c i) {src' dst : Memref sig .tc .vmem S256x4096 .bf16} (hs : src' = plM c (src i)) (hd : dst = plM (peer c i) (dpl c i))
    {sS sem : SemLoc sig} (hS : sS = semOf (locN (c.val / 4) (ceS i).val)) (hR : sem = semOf (locN ((peer c i).val / 4) (ceR (dpl c i)).val))
    {hsc : dst.view.ref.isScScratch = false} {hsrc : src'.view.WordExact} {hdst : dst.view.WordExact}
    {hsem : DmaTarget.Typed .vmem sem (.remote (nD := nD) (τ := τ) (e : Thread nD τ) dst sS hsc)} (hN : dst.view.amount sem = N) :
    iprop(Inv m X A K ∗ St m X A c (tSend i.val)) ⊢ iprop((St m X A c (tSend i.val + 1) -∗ WP c (kk ⟨⟩) Q)
      -∗ WP c (.op (.enqueueDma src' (.remote (e : Thread nD τ) dst sS hsc) sem hsrc hdst hsem) kk) Q) := by
  subst he hs hd hS hR
  have hp := (frm_peer c i hi).2
  have hO := Ow_pay c (.inr (.inl i)) hi
  unfold St
  iintro ⟨#HI, Hs, ⟨%W, Ho⟩⟩ Hk
  have h : Hs m X A c (tSend i.val) ⊢ iprop((dutyTok ER (cell (c, ceS i)) 0 0 ∗ dutyTok ER (cell (peer c i, ceR (dpl c i))) 0 0 ∗ (∃ f : Buf (Elt F) ((plM (peer c i) (dpl c i)).view.loc (peer c i : Thread nD τ)), (plM (peer c i) (dpl c i)).view.loc (peer c i : Thread nD τ) ↦[(plM (peer c i) (dpl c i)).view.set]{fullShare} f) ∗ ((plM c (src i)).view.loc (c : Thread nD τ) ↦[(plM c (src i)).view.set]{shr i} ((plM c (src i)).view.write (Elt F) (m ((plM c (src i)).view.loc (c : Thread nD τ))) (X (org c (src i))) Finset.univ)) ∗ sltsP (F := F) c i ∗ emp) ∗ ((cred (tallyAt (cell (c, ceS i)) () N) ∗ emp) -∗ Hs m X A c ((tSend i.val) + 1))) :=
    Hs_step m X A c _ _ _ (Mesh.step_send c i hi) (by simp [tokS, tokR, dst, srct, slts])
  ihave H := h $$ Hs
  icases H with ⟨⟨HtS, HtR, ⟨%fd, Hd⟩, Hsr, Hsl, -⟩, Hnext⟩
  iapply (Rounds.wp_send_pointsTo_with 𝒱₀ ER (Rd m X A) (c : Thread nD τ) none (c' := (peer c i : Thread nD τ))
    (src := plM c (src i)) (dst := plM (peer c i) (dpl c i)) (sS := semOf (locN (c.val / 4) (ceS i).val)) (sem := semOf (locN ((peer c i).val / 4) (ceR (dpl c i)).val))
    (κ₁ := K (c, ceS i)) (κ₂ := K (peer c i, ceR (dpl c i))) (r₁ := 0) (r₂ := 0) (d₁ := 0) (d₂ := 0)
    (q := shr i) (fd := fd) (F := sltsP (F := F) c i) (W := W)
    (fs := (plM c (src i)).view.write (Elt F) (m ((plM c (src i)).view.loc (c : Thread nD τ))) (X (org c (src i))) Finset.univ)
    (show (0 : Fin 4) ∈ (Rd m X A).duties (cell (c, ceS i)) 0 by
      rw [Rd_duties, (duT_send c i).trans (if_pos hi)]; exact Finset.mem_singleton_self _)
    (show (0 : Fin 4) ∈ (Rd m X A).duties (cell (peer c i, ceR (dpl c i))) 0 by
      rw [Rd_duties, duT_recv _ _ hp.1]; exact Finset.mem_singleton_self _)
    () () N hN
    ((Rd_amount m X A (c, ceS i) 0).trans (amt_done i)) ((Rd_amount m X A (peer c i, ceR (dpl c i)) 0).trans (amt_recv _ hp.1))
    (Ow c (tSend i.val + 1)) (hO.trans (congrArg _ (congrArg _ (amt_recv _ hp.1))))
    (Entails.of_eq (((Rd_payload m X A (c, ceS i) 0).trans (pay_done m X A c i)).symm))
    (show _ ⊢ (Rd m X A).payload (cell (peer c i, ceR (dpl c i))) 0 0 by
      rw [Rd_payload, pay_recv _ _ _ _ _ hp.1, hp.2, View.read_write_univ, At_of_write m]
      exact Entails.refl _)) $$ [Ho HtS HtR Hd Hsr Hsl]
  · isplitr; · iapply (Inv_cell m X A K (c, ceS i)); iexact HI
    isplitr; · iapply (Inv_cell m X A K (peer c i, ceR (dpl c i))); iexact HI
    isplitl [Hsr]; · iexact Hsr
    isplitl [Hd Hsl]
    · isplitl [Hd]; · iexact Hd
      iexact Hsl
    isplitl [Ho]; · iexact Ho
    isplitl [HtS]; · iexact HtS
    isplitr; · iapply (Inv_reached m X A K (c, ceS i)); iexact HI
    isplitl [HtR]; · iexact HtR
    iapply (Inv_reached m X A K (peer c i, ceR (dpl c i))); iexact HI
  iintro ⟨Hc, Ho⟩
  iapply Hk
  isplitr [Ho]
  · iapply Hnext
    isplitl [Hc]; · iexact Hc
    iempintro
  iexists _; iexact Ho

/-- A barrier signal hands its receiver the places it will write. -/
theorem step_barSignal (c : Dev nD) (t : Fin 4) (ht : bact c t = true) {Q : α → sProp 𝕄} {kk : PUnit → Prog (TpuEff nD τ sig (Elt F) Λ₀ .tc) α}
    {e : Dev nD} (he : e = bpeer c t) {sem : Sem sig} (hsem : SemLoc.reg sem = semOf (locN ((bpeer c t).val / 4) 0)) {a : ℕ} (ha : a = 1) :
    iprop(Inv m X A K ∗ St m X A c (1 + t.val)) ⊢ iprop((St m X A c (1 + t.val + 1) -∗ WP c (kk ⟨⟩) Q)
      -∗ WP c (.op (.semSignal (e : Thread nD τ) sem a) kk) Q) := by
  subst he ha
  have hO := Ow_pay c (.inl t) ht
  have hcell : cell (bpeer c t, 0) = ((bpeer c t : Thread nD τ), SemLoc.reg sem) := by rw [hsem]; rfl
  have hnd := given_nodup (pz c) t
  unfold St
  iintro ⟨#HI, Hs, ⟨%W, Ho⟩⟩ Hk
  have h : Hs m X A c (1 + t.val) ⊢ iprop((Rs m X A c (btok t) ∗ sepL m X A c ((givenBy c t).map raw)) ∗ (emp -∗ Hs m X A c (1 + t.val + 1))) :=
    Hs_step m X A c _ _ _ (Mesh.step_sig c t ht) (List.nodup_cons.2 ⟨fun h => by
      obtain ⟨p, -, hp⟩ := List.mem_map.1 h; simp [raw, btok] at hp, List.Nodup.of_map _ hnd.1⟩)
  ihave H := h $$ Hs
  icases H with ⟨⟨Htok, Hraw⟩, Hnext⟩
  iapply (Rounds.wp_signal 𝒱₀ ER (Rd m X A) (c : Thread nD τ) none (dst := (bpeer c t : Thread nD τ)) (κ := K (bpeer c t, 0)) (d := t) (r := 0)
    (hcell ▸ (show t ∈ (Rd m X A).duties (cell (bpeer c t, 0)) 0 by
      rw [Rd_duties, show duT (bpeer c t, (0 : Ce)).1 (bpeer c t, (0 : Ce)).2 = _ from duT_bar _]; exact Finset.mem_filter.2 ⟨Finset.mem_univ t, opp_bpeer c t ht⟩))
    (hcell ▸ Rd_amount m X A (bpeer c t, 0) t) () (Ow c (1 + t.val + 1)) (hcell ▸ hO)) $$ [Ho Htok Hraw]
  · rw [← hcell]
    isplitr; · iapply (Inv_cell m X A K (bpeer c t, 0)); iexact HI
    isplitl [Ho]; · iexact Ho
    isplitl [Htok]
    · have : Rs m X A c (btok t) = dutyTok ER (cell (bpeer c t, 0)) 0 t := by
        fin_cases t <;> rfl
      iapply (Entails.of_eq this); iexact Htok
    isplitl [Hraw]
    · iapply (show sepL m X A c ((givenBy c t).map raw) ⊢ (Rd m X A).payload (cell (bpeer c t, 0)) 0 t from by
        rw [Rd_payload]
        have hg := given_mem c t ht
        show _ ⊢ pay m X A (bpeer c t) 0 t
        rw [pay_bar]
        refine (sepL_unmap m X A c (givenBy c t) raw).trans ?_
        have hsub : (getsBy (bpeer c t) t).toFinset.image (dpl (bpeer c t)) ⊆ (givenBy c t).toFinset := fun p hp => by
          obtain ⟨i, hi, rfl⟩ := Finset.mem_image.1 hp
          exact List.mem_toFinset.2 (hg i (List.mem_toFinset.1 hi)).2
        refine (bs_sub hsub _).trans ?_
        rw [bigSep_image_of_injOn (fun i hi j hj h => given_inj (bpeer c t) t i (List.mem_toFinset.1 hi) j (List.mem_toFinset.1 hj) h)]
        refine bigSep_mono fun i hi => ?_
        show Ex c (plM c (dpl (bpeer c t) i)) ⊢ dstP (bpeer c t) i
        unfold dstP; rw [(hg i (List.mem_toFinset.1 hi)).1])
      iexact Hraw
    iapply (Inv_reached m X A K (bpeer c t, 0)); iexact HI
  iintro Ho
  iapply Hk
  isplitr [Ho]
  · iapply Hnext
    iempintro
  iexists _; iexact Ho

end Steps

end Cert.KernelIdeal.Pf

end
-- ==== Proof.KIStepsB.lean ====
module

public import proofs.«01_k».proof.Proof.KISteps

/-!
# The other effects: the barrier's wait, the credits, the device's own stores, the maxima, the loads
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)
variable (K : Dev nD × Ce → ℕ)

section Steps
variable {α : Type}

/-- What the barrier's wait gives: every place the device's transfers write, but for the last two's. -/
theorem bar_dst (c : Dev nD) : bigSep (duT c 0) (fun t => pay m X A c 0 t) ⊢ sepL m X A c ((gets c).map dst) := by
  have hsub : (gets c).toFinset ⊆ (duT c 0).biUnion fun t => (getsBy c t).toFinset := fun i hi => by
    have hi := List.mem_toFinset.1 hi
    refine Finset.mem_biUnion.2 ⟨via i, ?_, List.mem_toFinset.2 (via_act c i hi)⟩
    rw [duT_bar]
    exact Finset.mem_filter.2 ⟨Finset.mem_univ _, via_opp c i hi⟩
  rw [bigSep_congr (fun t _ => pay_bar m X A c t)]
  exact (bigSep_biUnion (duT c 0) (fun t => (getsBy c t).toFinset)).trans <| (bs_sub hsub _).trans (sepL_map m X A c (gets c) (getsN_nodup (pz c)) dst _ fun _ _ => rfl)

theorem step_barWait (c : Dev nD) {Q : α → sProp 𝕄} {kk : PUnit → Prog (TpuEff nD τ sig (Elt F) Λ₀ .tc) α}
    {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (cell (c, 0)).2 a G)
    (ha : a = (duT c 0).card) :
    iprop(Inv m X A K ∗ St m X A c 5) ⊢ iprop((St m X A c (5 + 1) -∗ WP c (kk ⟨⟩) Q) -∗ WP c (.op w kk) Q) := by
  subst ha
  unfold St
  rw [← Ow_same c 5 fun o _ => (nt_one o).2.1]
  iintro ⟨#HI, Hs, ⟨%W, Ho⟩⟩ Hk
  have h : Hs m X A c 5 ⊢ iprop(((atPos ER (cell (c, 0)) 0 ∅ 0 ∗ cred (tallyAt (cell (c, 0)) () (duT c 0).card)) ∗ emp)
      ∗ ((semVal (cell (c, 0)) 0 ∗ sepL m X A c ((gets c).map dst)) -∗ Hs m X A c (5 + 1))) :=
    Hs_step m X A c _ _ _ (Mesh.step_bar c) (List.nodup_singleton _)
  ihave H := h $$ Hs
  icases H with ⟨⟨⟨Hat, Hc⟩, -⟩, Hnext⟩
  iapply (Rounds.wp_wait_rest_token 𝒱₀ ER (Rd m X A) (c : Thread nD τ) none (κ := K (c, 0)) hw (Set.mem_univ _) () (O := Ow c 5) (W := W) (R := 0) (m := 0) (T := ∅)
      (by rw [Nat.zero_add]; exact (Rd_expect_bar m X A c).symm)) $$ [Hat Hc Ho]
  · isplitr; · iapply (Inv_cell m X A K (c, 0)); iexact HI
    isplitl [Hc]; · iexact Hc
    isplitl [Ho]; · iexact Ho
    isplitr; · iapply (mayWait c 5 0 (wait_bar c)); iapply (Inv_lev m X A K); iexact HI
    iexact Hat
  iintro ⟨Ho, Hat, -, Hp⟩
  imod (Rounds.cell_close ER (Rd m X A) (Set.mem_univ (K (c, 0))) (fun h => h) (R := 0 + 1) (Rd_duties_ne m X A (cell (c, 0)))) $$ [Hat] with Hz
  · isplitr; · iapply (Inv_cell m X A K (c, 0)); iexact HI
    iexact Hat
  iapply Hk
  isplitr [Ho]
  · iapply Hnext
    isplitl [Hz]; · iexact Hz
    iapply (bar_dst m X A c)
    iapply (show bigSep ((Rd m X A).duties (cell (c, 0)) 0 \ ∅) (fun t => (Rd m X A).payload (cell (c, 0)) 0 t) ⊢ bigSep (duT c 0) (fun t => pay m X A c 0 t) from by
      rw [Finset.sdiff_empty, Rd_duties]
      exact Entails.of_eq (bigSep_congr fun t _ => Rd_payload m X A (c, 0) t))
    iexact Hp
  iexists _; iexact Ho

/-! ## The credits -/

/-- The place of the two-place buffer that is free again is handed to the device that writes it next. -/
theorem keep_dst (c : Dev nD) (k : Fin 2) : Rs m X A c (keep ⟨12 + k.val, by omega⟩) ⊢ dstP (F := F) (ctgt c k) ⟨18 + k.val, by omega⟩ := by
  have h1 := credit_peer c k
  have hu := (show ∀ k : Fin 2, users (⟨12 + k.val, by omega⟩ : Pl) = {20} by decide +kernel) k
  show At m c (plM c _) (shrK _) _ ⊢ Ex (peer (ctgt c k) _) _
  unfold shrK
  rw [hu, Transfers.dealOf_singleton, show peer (ctgt c k) ⟨18 + k.val, by omega⟩ = c from h1.1]
  rw [show plM c (dpl (ctgt c k) ⟨18 + k.val, by omega⟩) = plM c ⟨12 + k.val, by omega⟩ by
    rw [show dpl (ctgt c k) ⟨18 + k.val, by omega⟩ = ⟨14 + k.val, by omega⟩ from h1.2]
    fin_cases k <;> rfl]
  exact At_Ex m c _ _

theorem step_credSignal (c : Dev nD) (k : Fin 2) {Q : α → sProp 𝕄} {kk : PUnit → Prog (TpuEff nD τ sig (Elt F) Λ₀ .tc) α}
    {e : Dev nD} (he : e = ctgt c k) {sem : Sem sig} (hsem : SemLoc.reg sem = semOf (locN ((ctgt c k).val / 4) (ceC k).val)) {a : ℕ} (ha : a = 1) :
    iprop(Inv m X A K ∗ St m X A c (37 + 4 * k.val)) ⊢ iprop((St m X A c (37 + 4 * k.val + 1) -∗ WP c (kk ⟨⟩) Q)
      -∗ WP c (.op (.semSignal (e : Thread nD τ) sem a) kk) Q) := by
  subst he ha
  have hO := Ow_pay c (.inr (.inr (.inl k))) rfl
  have hcell : cell (ctgt c k, ceC k) = ((ctgt c k : Thread nD τ), SemLoc.reg sem) := by rw [hsem]; rfl
  unfold St
  iintro ⟨#HI, Hs, ⟨%W, Ho⟩⟩ Hk
  have h : Hs m X A c (37 + 4 * k.val) ⊢ iprop((Rs m X A c (ctok k) ∗ Rs m X A c (keep ⟨12 + k.val, by omega⟩) ∗ emp) ∗ (emp -∗ Hs m X A c (37 + 4 * k.val + 1))) :=
    Hs_step m X A c _ _ _ (Mesh.step_cpay c k) (by simp [ctok, keep])
  ihave H := h $$ Hs
  icases H with ⟨⟨Htok, Hkeep, -⟩, Hnext⟩
  iapply (Rounds.wp_signal 𝒱₀ ER (Rd m X A) (c : Thread nD τ) none (dst := (ctgt c k : Thread nD τ)) (κ := K (ctgt c k, ceC k)) (d := 0) (r := 0)
    (hcell ▸ (show (0 : Fin 4) ∈ (Rd m X A).duties (cell (ctgt c k, ceC k)) 0 by
      rw [Rd_duties, duT_credit]; exact Finset.mem_singleton_self _))
    (hcell ▸ (Rd_amount m X A (ctgt c k, ceC k) 0).trans (amt_credit k)) () (Ow c (37 + 4 * k.val + 1))
    (hcell ▸ (hO.trans (congrArg _ (congrArg _ (amt_credit k)))))) $$ [Ho Htok Hkeep]
  · rw [← hcell]
    isplitr; · iapply (Inv_cell m X A K (ctgt c k, ceC k)); iexact HI
    isplitl [Ho]; · iexact Ho
    isplitl [Htok]
    · have : Rs m X A c (ctok k) = dutyTok ER (cell (ctgt c k, ceC k)) 0 0 := by
        fin_cases k <;> rfl
      iapply (Entails.of_eq this); iexact Htok
    isplitl [Hkeep]
    · iapply (show Rs m X A c (keep ⟨12 + k.val, by omega⟩) ⊢ (Rd m X A).payload (cell (ctgt c k, ceC k)) 0 0 from by
        rw [Rd_payload]
        exact (keep_dst m X A c k).trans (Entails.of_eq (pay_credit m X A (ctgt c k) k).symm))
      iexact Hkeep
    iapply (Inv_reached m X A K (ctgt c k, ceC k)); iexact HI
  iintro Ho
  iapply Hk
  isplitr [Ho]
  · iapply Hnext
    iempintro
  iexists _; iexact Ho

theorem step_credWait (c : Dev nD) (k : Fin 2) {Q : α → sProp 𝕄} {kk : PUnit → Prog (TpuEff nD τ sig (Elt F) Λ₀ .tc) α}
    {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (cell (c, ceC k)).2 a G)
    (ha : a = 1) :
    iprop(Inv m X A K ∗ St m X A c (38 + 4 * k.val)) ⊢ iprop((St m X A c (38 + 4 * k.val + 1) -∗ WP c (kk ⟨⟩) Q) -∗ WP c (.op w kk) Q) := by
  unfold St
  rw [← Ow_same c (38 + 4 * k.val) fun o _ => nt_cget k o]
  iintro ⟨#HI, Hs, Ho⟩ Hk
  have h : Hs m X A c (38 + 4 * k.val) ⊢ iprop((Rs m X A c (cpos k) ∗ emp) ∗ ((Rs m X A c (cval k) ∗ dstP (F := F) c ⟨18 + k.val, by omega⟩ ∗ emp) -∗ Hs m X A c (38 + 4 * k.val + 1))) :=
    Hs_step m X A c _ _ _ (Mesh.step_cget c k) (List.nodup_singleton _)
  have e1 : Rs m X A c (cpos k) = iprop(atPos ER (cell (c, ceC k)) 0 ∅ 0 ∗ cred (tallyAt (cell (c, ceC k)) () 1)) := by fin_cases k <;> rfl
  have e2 : Rs m X A c (cval k) = semVal (cell (c, ceC k)) 0 := by fin_cases k <;> rfl
  rw [e1, e2] at h
  ihave H := h $$ Hs
  icases H with ⟨⟨⟨Hat, Hc⟩, -⟩, Hnext⟩
  iapply (wait_core m X A K c _ (ceC k) (duT_credit c k) (wait_credit c k) hw (ha.trans (amt_credit k).symm)) $$ [Hat Hc Ho]
  · isplitr; · iexact HI
    isplitl [Hat]; · iexact Hat
    isplitl [Hc]; · rw [amt_credit k]; iexact Hc
    iexact Ho
  iintro ⟨Ho, Hz, Hp⟩
  ihave Hp := (Entails.of_eq (pay_credit m X A c k)) $$ Hp
  iapply Hk
  isplitr [Ho]
  · iapply Hnext
    isplitl [Hz]; · iexact Hz
    isplitl [Hp]; · iexact Hp
    iempintro
  iexact Ho

/-! ## The device's own block and maximum -/

/-- The device's own block is put in its place. -/
theorem step_putBlock (c : Dev nD) {Q : α → sProp 𝕄} {kk : PUnit → Prog (TpuEff nD τ sig (Elt F) Λ₀ .tc) α}
    {inb : ∀ a, (![0, 0] : Fin 2 → ℕ) a + S256x4096.size a ≤ S256x4096.size a} {v : S256x4096.Idx → Elt F .bf16} (hv : v = X c)
    {hx : (xbM.access (Rect.unit (s := S256x4096) ![0, 0] S256x4096.size inb)).Stores Finset.univ} {hm} :
    St m X A c 0 ⊢ iprop((St m X A c (0 + 1) -∗ WP c (kk ⟨⟩) Q)
      -∗ WP c (.op (.store xbM (Rect.unit (s := S256x4096) ![0, 0] S256x4096.size inb) v Finset.univ hx hm) kk) Q) := by
  subst hv
  unfold St
  rw [← Ow_same c 0 fun o _ => (nt_one o).1]
  iintro ⟨Hs, Ho⟩ Hk
  have h : Hs m X A c 0 ⊢ iprop(((∃ f : Buf (Elt F) (xbM.view.loc (c : Thread nD τ)), xbM.view.loc (c : Thread nD τ) ↦[Finset.univ]{fullShare} f) ∗ Rs m X A c oslt ∗ emp)
      ∗ ((Rs m X A c (keep 0) ∗ sepL m X A c ((outs 0).map srct ++ (outsA c 0).map slts)) -∗ Hs m X A c (0 + 1))) := by
    have h := Hs_step m X A c _ _ _ (Mesh.step_put c) (by simp [raw, oslt])
    have e : Rs m X A c (raw 0) = iprop(∃ f : Buf (Elt F) (xbM.view.loc (c : Thread nD τ)), xbM.view.loc (c : Thread nD τ) ↦[Finset.univ]{fullShare} f) := by
      show iprop(∃ f : Buf (Elt F) (xbM.view.loc (c : Thread nD τ)), xbM.view.loc (c : Thread nD τ) ↦[xbM.view.set]{fullShare} f) = _
      rw [View.set_whole]
    rw [← e]; exact h
  ihave H := h $$ Hs
  icases H with ⟨⟨⟨%f, Hx⟩, Hsl, -⟩, Hnext⟩
  iapply (wp_store 𝒱₀ (c : Thread nD τ) none Set.univ (m := xbM) (r := Rect.unit (s := S256x4096) ![0, 0] S256x4096.size inb) (Mk := Finset.univ) (f := f) (S := Finset.univ) (Finset.subset_univ _)) $$ Hx
  iintro Hx
  iapply Hk
  isplitr [Ho]
  · iapply Hnext
    ihave Hb := (show _ ⊢ At m c (plM c 0) fullShare (X (org c 0)) from by
      rw [org_zero c, ← At_of_write m c (plM c 0) fullShare f (X c)]
      have hw : (xbM.access (Rect.unit (s := S256x4096) ![0, 0] S256x4096.size inb)).write (Elt F) f (X c) Finset.univ = X c :=
        Memref.write_access_unit_zero_univ (Elt F) cc0_scratch0 (by funext a; fin_cases a <;> rfl) inb f (X c)
      show _ ⊢ (xbM.view.loc (c : Thread nD τ) ↦[xbM.view.set]{fullShare} (xbM.view.write (Elt F) f (X c) Finset.univ) : sProp 𝕄)
      rw [View.set_whole, View.write_whole_univ, hw]) $$ Hx
    ihave Hb := (place_deal m X A c 0) $$ Hb
    icases Hb with ⟨Hk1, Hk2⟩
    isplitl [Hk1]; · iexact Hk1
    iapply (sepL_append m X A c ((outs 0).map srct) ((outsA c 0).map slts))
    isplitl [Hk2]; · iexact Hk2
    iapply (show Rs m X A c oslt ⊢ sepL m X A c ((outsA c 0).map slts) from by
      have := slots_split m X A c 0
      rw [org_zero c] at this
      refine Entails.trans (Entails.of_eq rfl) (this.trans ?_)
      iintro ⟨-, H⟩; iexact H)
    iexact Hsl
  iexact Ho

/-- The maximum's shares: one for each transfer, one kept. -/
theorem max_deal (c : Dev nD) : At m c amM fullShare (A c) ⊢ iprop(Rs m X A c akeep ∗ sepL m X A c ((List.finRange 15).map msrc)) := by
  rw [At_deal m c amM (Finset.univ : Finset (Fin 16)) ⟨0, Finset.mem_univ _⟩,
    show (Finset.univ : Finset (Fin 16)) = insert 15 ((Finset.univ : Finset (Fin 15)).map Fin.castSuccEmb) by decide]
  rw [bs_insert (by decide), bigSep_map]
  refine sep_mono (Entails.of_eq ?_) ?_
  · show _ = At m c amM (shrA 15) (A c)
    unfold shrA
    rw [show (insert 15 ((Finset.univ : Finset (Fin 15)).map Fin.castSuccEmb) : Finset (Fin 16)) = Finset.univ by decide]
  · rw [← List.toFinset_finRange]
    refine sepL_map m X A c _ (List.nodup_finRange 15) msrc _ fun d _ => ?_
    show _ = At m c amM (shrA d.castSucc) (A c)
    unfold shrA
    rw [List.toFinset_finRange, show (insert 15 ((Finset.univ : Finset (Fin 15)).map Fin.castSuccEmb) : Finset (Fin 16)) = Finset.univ by decide]
    rfl

theorem bs_image {M : Type} [URA M] {I J : Type} [DecidableEq I] [DecidableEq J] (s : Finset J) (f : J → I) (hf : Function.Injective f) (Φ : I → sProp M) :
    bigSep (s.image f) Φ = bigSep s (fun j => Φ (f j)) := bigSep_image_of_injOn (fun _ _ _ _ h => hf h) Φ

theorem plOf_inj (c : Dev nD) : Function.Injective fun d : Fin 15 => plOf c (mpeer c d) := fun d d' h => mpeer_inj c d d' (by
    have := congrArg (org c) h
    simp only [(org_plOf c _).1] at this; exact this)

theorem Rs_slot (c : Dev nD) (d : Fin 15) : Rs m X A c (slt (plOf c (mpeer c d))) = Rs m X A c (mdst d) := by
  have h1 : Rs m X A c (slt (plOf c (mpeer c d))) = slotRes (org c (plOf c (mpeer c d))) c := rfl
  have h2 : Rs m X A c (mdst d) = Ex (mpeer c d) (slotA d) := rfl
  rw [h1, h2]
  unfold slotRes
  rw [(org_plOf c _).1, sl_mpeer]

theorem mem_plOf (c : Dev nD) (L' : List Pl) (hL : ∀ p, p ≠ 0 → p ∈ L') : (Finset.univ : Finset (Fin 15)).image (fun d => plOf c (mpeer c d)) ⊆ L'.toFinset := fun p hp => by
  rw [Finset.mem_image] at hp
  obtain ⟨d, hd⟩ := hp
  rw [List.mem_toFinset]
  refine hL p fun h => mpeer_ne c d ?_
  rw [h] at hd
  exact (org_plOf c (mpeer c d)).2.1 hd.2

theorem max_slots1 (c : Dev nD) (L' : List Pl) (hL : ∀ p, p ≠ 0 → p ∈ L') :
    bigSep L'.toFinset (fun p => Rs m X A c (slt p)) ⊢ bigSep Finset.univ fun d : Fin 15 => Rs m X A c (slt (plOf c (mpeer c d))) := by
  have hs := mem_plOf c L' hL
  have h2 := bs_image (Finset.univ : Finset (Fin 15)) (fun d => plOf c (mpeer c d)) (plOf_inj c) (fun p => Rs m X A c (slt p))
  generalize (Finset.univ : Finset (Fin 15)).image (fun d => plOf c (mpeer c d)) = s at hs h2
  generalize L'.toFinset = t at hs ⊢
  rw [← h2]
  exact bs_sub hs _

theorem max_slots2 (c : Dev nD) (s : Finset (Fin 15)) (hs : s = (List.finRange 15).toFinset) :
    (bigSep s fun d : Fin 15 => Rs m X A c (slt (plOf c (mpeer c d)))) ⊢ sepL m X A c ((List.finRange 15).map mdst) := by
  subst hs
  exact sepL_map m X A c (List.finRange 15) (List.nodup_finRange 15) mdst (fun d => Rs m X A c (slt (plOf c (mpeer c d)))) fun d _ => Rs_slot m X A c d

theorem max_slots' (c : Dev nD) (L' : List Pl) (hL : ∀ p, p ≠ 0 → p ∈ L') : sepL m X A c (L'.map slt) ⊢ sepL m X A c ((List.finRange 15).map mdst) :=
  (sepL_unmap m X A c L' slt).trans ((max_slots1 m X A c L' hL).trans (max_slots2 m X A c _ (List.toFinset_finRange 15).symm))

/-- The slots a device was handed on the way are those its maximum goes to. -/
theorem max_slots (c : Dev nD) : sepL m X A c (((List.finRange 16).filter (· != 0)).map slt) ⊢ sepL m X A c ((List.finRange 15).map mdst) :=
  max_slots' m X A c _ fun p hp => List.mem_filter.2 ⟨List.mem_finRange _, bne_iff_ne.2 hp⟩

/-- The device's own maximum is put in its place. -/
theorem step_putMax (c : Dev nD) {Q : α → sProp 𝕄} {kk : PUnit → Prog (TpuEff nD τ sig (Elt F) Λ₀ .tc) α}
    {inb : ∀ a, (![0, 0] : Fin 2 → ℕ) a + S8x128.size a ≤ S8x128.size a} {v : S8x128.Idx → Elt F .f32} (hv : v = A c)
    {hx : (amM.access (Rect.unit (s := S8x128) ![0, 0] S8x128.size inb)).Stores Finset.univ} {hm} :
    St m X A c 66 ⊢ iprop((St m X A c (66 + 1) -∗ WP c (kk ⟨⟩) Q)
      -∗ WP c (.op (.store amM (Rect.unit (s := S8x128) ![0, 0] S8x128.size inb) v Finset.univ hx hm) kk) Q) := by
  subst hv
  unfold St
  rw [← Ow_same c 66 fun o _ => (nt_one o).2.2]
  iintro ⟨Hs, Ho⟩ Hk
  have h : Hs m X A c 66 ⊢ iprop(((∃ f : Buf (Elt F) (amM.view.loc (c : Thread nD τ)), amM.view.loc (c : Thread nD τ) ↦[Finset.univ]{fullShare} f)
        ∗ sepL m X A c (((List.finRange 16).filter (· != 0)).map slt))
      ∗ ((Rs m X A c akeep ∗ sepL m X A c ((List.finRange 15).map msrc ++ (List.finRange 15).map mdst)) -∗ Hs m X A c (66 + 1))) := by
    have h := Hs_step m X A c _ _ _ (Mesh.step_amax c) (by decide)
    have e : Rs m X A c araw = iprop(∃ f : Buf (Elt F) (amM.view.loc (c : Thread nD τ)), amM.view.loc (c : Thread nD τ) ↦[Finset.univ]{fullShare} f) := by
      show iprop(∃ f : Buf (Elt F) (amM.view.loc (c : Thread nD τ)), amM.view.loc (c : Thread nD τ) ↦[amM.view.set]{fullShare} f) = _
      rw [View.set_whole]
    rw [← e]; exact h
  ihave H := h $$ Hs
  icases H with ⟨⟨⟨%f, Hx⟩, Hsl⟩, Hnext⟩
  iapply (wp_store 𝒱₀ (c : Thread nD τ) none Set.univ (m := amM) (r := Rect.unit (s := S8x128) ![0, 0] S8x128.size inb) (Mk := Finset.univ) (f := f) (S := Finset.univ) (Finset.subset_univ _)) $$ Hx
  iintro Hx
  iapply Hk
  isplitr [Ho]
  · iapply Hnext
    ihave Hb := (show _ ⊢ At m c amM fullShare (A c) from by
      rw [← At_of_write m c amM fullShare f (A c)]
      have hw : (amM.access (Rect.unit (s := S8x128) ![0, 0] S8x128.size inb)).write (Elt F) f (A c) Finset.univ = A c :=
        Memref.write_access_unit_zero_univ (Elt F) cc0_scratch6 (by funext a; fin_cases a <;> rfl) inb f (A c)
      rw [View.set_whole, View.write_whole_univ, hw]) $$ Hx
    ihave Hb := (max_deal m X A c) $$ Hb
    icases Hb with ⟨Hk1, Hk2⟩
    isplitl [Hk1]; · iexact Hk1
    iapply (sepL_append m X A c ((List.finRange 15).map msrc) ((List.finRange 15).map mdst))
    isplitl [Hk2]; · iexact Hk2
    iapply (max_slots m X A c)
    iexact Hsl
  iexact Ho

set_option maxHeartbeats 1000000 in
/-- The maximum is sent. -/
theorem step_sendMax (c : Dev nD) (d : Fin 15) {Q : α → sProp 𝕄} {kk : PUnit → Prog (TpuEff nD τ sig (Elt F) Λ₀ .tc) α}
    {e : Dev nD} (he : e = mpeer c d) {src' dst : Memref sig .tc .vmem S8x128 .f32} (hs : src' = amM) (hd : dst = slotA d)
    {sS sem : SemLoc sig} (hS : sS = semOf (locN (c.val / 4) (ceMS d).val)) (hR : sem = semOf (locN ((mpeer c d).val / 4) (ceMR d).val))
    {hsc : dst.view.ref.isScScratch = false} {hsrc : src'.view.WordExact} {hdst : dst.view.WordExact}
    {hsem : DmaTarget.Typed .vmem sem (.remote (nD := nD) (τ := τ) (e : Thread nD τ) dst sS hsc)} (hN : dst.view.amount sem = NA) :
    iprop(Inv m X A K ∗ St m X A c (67 + d.val)) ⊢ iprop((St m X A c (67 + d.val + 1) -∗ WP c (kk ⟨⟩) Q)
      -∗ WP c (.op (.enqueueDma src' (.remote (e : Thread nD τ) dst sS hsc) sem hsrc hdst hsem) kk) Q) := by
  subst he hs hd hS hR
  have hO := Ow_pay c (.inr (.inr (.inr d))) rfl
  unfold St
  iintro ⟨#HI, Hs, ⟨%W, Ho⟩⟩ Hk
  have h : Hs m X A c (67 + d.val) ⊢ iprop((dutyTok ER (cell (c, ceMS d)) 0 0 ∗ dutyTok ER (cell (mpeer c d, ceMR d)) 0 0
      ∗ (∃ f : Buf (Elt F) ((slotA d).view.loc (mpeer c d : Thread nD τ)), (slotA d).view.loc (mpeer c d : Thread nD τ) ↦[(slotA d).view.set]{fullShare} f)
      ∗ (amM.view.loc (c : Thread nD τ) ↦[amM.view.set]{shrA d.castSucc} (amM.view.write (Elt F) (m (amM.view.loc (c : Thread nD τ))) (A c) Finset.univ)) ∗ emp)
      ∗ ((cred (tallyAt (cell (c, ceMS d)) () NA) ∗ emp) -∗ Hs m X A c (67 + d.val + 1))) :=
    Hs_step m X A c _ _ _ (Mesh.step_msend c d) (by simp [mtokS, mtokR, mdst, msrc])
  ihave H := h $$ Hs
  icases H with ⟨⟨HtS, HtR, ⟨%fd, Hd⟩, Hsr, -⟩, Hnext⟩
  iapply (Rounds.wp_send_pointsTo 𝒱₀ ER (Rd m X A) (c : Thread nD τ) none (c' := (mpeer c d : Thread nD τ))
    (src := amM) (dst := slotA d) (sS := semOf (locN (c.val / 4) (ceMS d).val)) (sem := semOf (locN ((mpeer c d).val / 4) (ceMR d).val))
    (κ₁ := K (c, ceMS d)) (κ₂ := K (mpeer c d, ceMR d)) (r₁ := 0) (r₂ := 0) (d₁ := 0) (d₂ := 0)
    (q := shrA d.castSucc) (fd := fd) (W := W)
    (fs := amM.view.write (Elt F) (m (amM.view.loc (c : Thread nD τ))) (A c) Finset.univ)
    (show (0 : Fin 4) ∈ (Rd m X A).duties (cell (c, ceMS d)) 0 by
      rw [Rd_duties, duT_mdone]; exact Finset.mem_singleton_self _)
    (show (0 : Fin 4) ∈ (Rd m X A).duties (cell (mpeer c d, ceMR d)) 0 by
      rw [Rd_duties, duT_mrecv]; exact Finset.mem_singleton_self _)
    () () NA hN
    ((Rd_amount m X A (c, ceMS d) 0).trans (amt_mdone d)) ((Rd_amount m X A (mpeer c d, ceMR d) 0).trans (amt_mrecv d))
    (Ow c (67 + d.val + 1)) (hO.trans (congrArg _ (congrArg _ (amt_mrecv d))))
    (Entails.of_eq (((Rd_payload m X A (c, ceMS d) 0).trans (pay_mdone m X A c d)).symm))
    (show _ ⊢ (Rd m X A).payload (cell (mpeer c d, ceMR d)) 0 0 by
      rw [Rd_payload, pay_mrecv, (mpeer_mfrom c d).2, View.read_write_univ, At_of_write m])) $$ [Ho HtS HtR Hd Hsr]
  · isplitr; · iapply (Inv_cell m X A K (c, ceMS d)); iexact HI
    isplitr; · iapply (Inv_cell m X A K (mpeer c d, ceMR d)); iexact HI
    isplitl [Hsr]; · iexact Hsr
    isplitl [Hd]; · iexact Hd
    isplitl [Ho]; · iexact Ho
    isplitl [HtS]; · iexact HtS
    isplitr; · iapply (Inv_reached m X A K (c, ceMS d)); iexact HI
    isplitl [HtR]; · iexact HtR
    iapply (Inv_reached m X A K (mpeer c d, ceMR d)); iexact HI
  iintro ⟨Hc, Ho⟩
  iapply Hk
  isplitr [Ho]
  · iapply Hnext
    isplitl [Hc]; · iexact Hc
    iempintro
  iexists _; iexact Ho

/-- A maximum arrives. -/
theorem step_recvMax (c : Dev nD) (d : Fin 15) {Q : α → sProp 𝕄} {kk : PUnit → Prog (TpuEff nD τ sig (Elt F) Λ₀ .tc) α}
    {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (cell (c, ceMR d)).2 a G)
    (ha : a = NA) :
    iprop(Inv m X A K ∗ St m X A c (82 + d.val)) ⊢ iprop((St m X A c (82 + d.val + 1) -∗ WP c (kk ⟨⟩) Q) -∗ WP c (.op w kk) Q) := by
  unfold St
  rw [← Ow_same c (82 + d.val) fun o _ => nt_mrecv d o]
  iintro ⟨#HI, Hs, Ho⟩ Hk
  have h : Hs m X A c (82 + d.val) ⊢ iprop(((atPos ER (cell (c, ceMR d)) 0 ∅ 0 ∗ cred (tallyAt (cell (c, ceMR d)) () NA)) ∗ emp)
      ∗ ((semVal (cell (c, ceMR d)) 0 ∗ At m c (slotA d) fullShare (A (mfrom c d)) ∗ emp) -∗ Hs m X A c (82 + d.val + 1))) :=
    Hs_step m X A c _ _ _ (Mesh.step_mrecv c d) (List.nodup_singleton _)
  ihave H := h $$ Hs
  icases H with ⟨⟨⟨Hat, Hc⟩, -⟩, Hnext⟩
  iapply (wait_core m X A K c _ (ceMR d) (duT_mrecv c d) (wait_mrecv c d) hw (ha.trans (amt_mrecv d).symm)) $$ [Hat Hc Ho]
  · isplitr; · iexact HI
    isplitl [Hat]; · iexact Hat
    isplitl [Hc]; · rw [amt_mrecv d]; iexact Hc
    iexact Ho
  iintro ⟨Ho, Hz, Hp⟩
  ihave Hp := (Entails.of_eq (pay_mrecv m X A c d)) $$ Hp
  iapply Hk
  isplitr [Ho]
  · iapply Hnext
    isplitl [Hz]; · iexact Hz
    isplitl [Hp]; · iexact Hp
    iempintro
  iexact Ho

/-- A maximum's source share comes back. -/
theorem step_doneMax (c : Dev nD) (d : Fin 15) {Q : α → sProp 𝕄} {kk : PUnit → Prog (TpuEff nD τ sig (Elt F) Λ₀ .tc) α}
    {w : TpuEff nD τ sig (Elt F) Λ₀ .tc PUnit} {a : ℕ}
    (hw : ∀ G : PUnit → sProp 𝕄, wpE (defs₀ (F := F)) 𝒱₀ (c : Thread nD τ) none Set.univ w G = waitSpec (c : Thread nD τ) Set.univ (cell (c, ceMS d)).2 a G)
    (ha : a = NA) :
    iprop(Inv m X A K ∗ St m X A c (97 + d.val)) ⊢ iprop((St m X A c (97 + d.val + 1) -∗ WP c (kk ⟨⟩) Q) -∗ WP c (.op w kk) Q) := by
  unfold St
  rw [← Ow_same c (97 + d.val) fun o _ => nt_mdone d o]
  iintro ⟨#HI, Hs, Ho⟩ Hk
  have h : Hs m X A c (97 + d.val) ⊢ iprop((atPos ER (cell (c, ceMS d)) 0 ∅ 0 ∗ cred (tallyAt (cell (c, ceMS d)) () NA) ∗ emp)
      ∗ ((semVal (cell (c, ceMS d)) 0 ∗ At m c amM (shrA d.castSucc) (A c) ∗ emp) -∗ Hs m X A c (97 + d.val + 1))) :=
    Hs_step m X A c _ _ _ (Mesh.step_mdone c d) (by simp [mposS, mcrd])
  ihave H := h $$ Hs
  icases H with ⟨⟨Hat, Hc, -⟩, Hnext⟩
  iapply (wait_core m X A K c _ (ceMS d) (duT_mdone c d) (wait_mdone c d) hw (ha.trans (amt_mdone d).symm)) $$ [Hat Hc Ho]
  · isplitr; · iexact HI
    isplitl [Hat]; · iexact Hat
    isplitl [Hc]; · rw [amt_mdone d]; iexact Hc
    iexact Ho
  iintro ⟨Ho, Hz, Hp⟩
  ihave Hp := (Entails.of_eq (pay_mdone m X A c d)) $$ Hp
  iapply Hk
  isplitr [Ho]
  · iapply Hnext
    isplitl [Hz]; · iexact Hz
    isplitl [Hp]; · iexact Hp
    iempintro
  iexact Ho

/-! ## Loads -/

/-- Something held may be taken out and put back. -/
theorem St_borrow (c : Dev nD) (n : ℕ) (r : Res) (h : live c n r = true) : St m X A c n ⊢ iprop(Rs m X A c r ∗ (Rs m X A c r -∗ St m X A c n)) := by
  unfold St Hs
  generalize hs : (Finset.univ.filter fun r => live c n r = true) = s
  have hr : r ∈ s := by rw [← hs]; exact Finset.mem_filter.2 ⟨Finset.mem_univ r, h⟩
  have e : bigSep s (Rs m X A c) = iprop(Rs m X A c r ∗ bigSep (s.erase r) (Rs m X A c)) := bigSep_erase hr
  rw [e]
  iintro ⟨⟨H1, H2⟩, Ho⟩
  isplitl [H1]; · iexact H1
  iintro H1
  isplitr [Ho]
  · isplitl [H1]; · iexact H1
    iexact H2
  iexact Ho

/-- A block as the load of a slot reads it. -/
def up (x : S256x4096.Idx → Elt F .bf16) : S1x256x4096.Idx → Elt F .bf16 :=
  fun j => x ((Shape.reshapeEquiv (s := S1x256x4096) (s' := S256x4096) squeezes_S1x256x4096_S256x4096.numel_eq).symm j)

/-- A load of a whole slot of a buffer reads what is there. -/
theorem load_slot (c : Dev nD) {d : Fin 3 → ℕ} (M : Memref sig .tc .vmem ⟨3, d⟩ .bf16) (off : Fin 3 → ℕ) (inb : ∀ a, off a + S1x256x4096.size a ≤ d a)
    (h1 : ∀ a, (Rect.unit (s := ⟨3, d⟩) off S1x256x4096.size inb).stride a = 1) (h2 : S1x256x4096.Squeezes S256x4096) (q : PosShare TreeShare) (x : S256x4096.Idx → Elt F .bf16)
    {hl : M.view.LoadsAt (Rect.unit (s := ⟨3, d⟩) off S1x256x4096.size inb).toLoadRect}
    {Q : α → sProp 𝕄} {kk : (S1x256x4096.Idx → Elt F .bf16) → Prog (TpuEff nD τ sig (Elt F) Λ₀ .tc) α} :
    At m c ((M.slice (Rect.unit (s := ⟨3, d⟩) off S1x256x4096.size inb) h1).squeeze S256x4096 h2) q x
      ⊢ iprop((At m c ((M.slice (Rect.unit (s := ⟨3, d⟩) off S1x256x4096.size inb) h1).squeeze S256x4096 h2) q x -∗ WP c (kk (up x)) Q)
        -∗ WP c (.op (.load M (Rect.unit (s := ⟨3, d⟩) off S1x256x4096.size inb).toLoadRect hl) kk) Q) := by
  have h : _ ⊢ iprop((_ -∗ WP c (kk _) Q) -∗ WP c (.op (.load M (Rect.unit (s := ⟨3, d⟩) off S1x256x4096.size inb).toLoadRect hl) kk) Q) :=
    wp_load_rect (defs := defs₀ (F := F)) 𝒱₀ (c : Thread nD τ) none Set.univ (Q := Q) (m := M) (r := Rect.unit (s := ⟨3, d⟩) off S1x256x4096.size inb) (hl := hl) (k := kk)
    (S := ((M.slice (Rect.unit (s := ⟨3, d⟩) off S1x256x4096.size inb) h1).squeeze S256x4096 h2).view.set) (q := q)
    (f := ((M.slice (Rect.unit (s := ⟨3, d⟩) off S1x256x4096.size inb) h1).squeeze S256x4096 h2).view.write (Elt F) (m (M.view.loc (c : Thread nD τ))) x Finset.univ)
    (Finset.Subset.antisymm_iff.1 (View.set_reshape _ _).symm).1
  have e : (M.access (Rect.unit (s := ⟨3, d⟩) off S1x256x4096.size inb)).read (Elt F)
      (((M.slice (Rect.unit (s := ⟨3, d⟩) off S1x256x4096.size inb) h1).squeeze S256x4096 h2).view.write (Elt F) (m (M.view.loc (c : Thread nD τ))) x Finset.univ) = up x :=
    (congrArg _ (View.write_reshape_univ (v := M.access (Rect.unit (s := ⟨3, d⟩) off S1x256x4096.size inb)) h2.numel_eq _ x)).trans (View.read_write_univ ..)
  rw [e] at h
  exact h

/-- A load of a place of a buffer of several. -/
theorem load_place (c : Dev nD) (n : ℕ) (p : Pl) (hp : live c n (keep p) = true) {d : Fin 3 → ℕ} (M : Memref sig .tc .vmem ⟨3, d⟩ .bf16) {off : Fin 3 → ℕ} {inb : ∀ a, off a + S1x256x4096.size a ≤ d a}
    (hM : plM c p = (M.slice (Rect.unit (s := ⟨3, d⟩) off S1x256x4096.size inb) (fun _ => rfl)).squeeze S256x4096 squeezes_S1x256x4096_S256x4096)
    {hl : M.view.LoadsAt (Rect.unit (s := ⟨3, d⟩) off S1x256x4096.size inb).toLoadRect}
    {Q : α → sProp 𝕄} {kk : (S1x256x4096.Idx → Elt F .bf16) → Prog (TpuEff nD τ sig (Elt F) Λ₀ .tc) α} :
    St m X A c n ⊢ iprop((St m X A c n -∗ WP c (kk (up (X (org c p)))) Q)
        -∗ WP c (.op (.load M (Rect.unit (s := ⟨3, d⟩) off S1x256x4096.size inb).toLoadRect hl) kk) Q) := by
  refine (St_borrow m X A c n _ hp).trans ?_
  have e : Rs m X A c (keep p) = At m c ((M.slice (Rect.unit (s := ⟨3, d⟩) off S1x256x4096.size inb) (fun _ => rfl)).squeeze S256x4096 squeezes_S1x256x4096_S256x4096) (shrK p) (X (org c p)) := by
    rw [← hM]; rfl
  rw [e]
  iintro ⟨H, Hc⟩ Hk
  iapply (load_slot m c M off inb (fun _ => rfl) squeezes_S1x256x4096_S256x4096 (shrK p) (X (org c p))) $$ H
  iintro H
  iapply Hk
  iapply Hc
  iexact H

/-- A load of the device's own block. -/
theorem load_own (c : Dev nD) (n : ℕ) (hp : live c n (keep 0) = true)
    {inb : ∀ a, (![0, 0] : Fin 2 → ℕ) a + S256x4096.size a ≤ S256x4096.size a} {hl : xbM.view.LoadsAt (Rect.unit (s := S256x4096) ![0, 0] S256x4096.size inb).toLoadRect}
    {Q : α → sProp 𝕄} {kk : (S256x4096.Idx → Elt F .bf16) → Prog (TpuEff nD τ sig (Elt F) Λ₀ .tc) α} :
    St m X A c n ⊢ iprop((St m X A c n -∗ WP c (kk (X c)) Q)
        -∗ WP c (.op (.load xbM (Rect.unit (s := S256x4096) ![0, 0] S256x4096.size inb).toLoadRect hl) kk) Q) := by
  refine (St_borrow m X A c n _ hp).trans ?_
  have e : Rs m X A c (keep 0) = (xbM.view.loc (c : Thread nD τ) ↦[Finset.univ]{shrK 0} (X c) : sProp 𝕄) := by
    show (xbM.view.loc (c : Thread nD τ) ↦[xbM.view.set]{shrK 0} (xbM.view.write (Elt F) (m (xbM.view.loc (c : Thread nD τ))) (X (org c 0)) Finset.univ) : sProp 𝕄) = _
    rw [View.set_whole, View.write_whole_univ, org_zero]
  rw [e]
  iintro ⟨H, Hc⟩ Hk
  have h : _ ⊢ iprop((_ -∗ WP c (kk _) Q) -∗ WP c (.op (.load xbM (Rect.unit (s := S256x4096) ![0, 0] S256x4096.size inb).toLoadRect hl) kk) Q) :=
    wp_load (defs := defs₀ (F := F)) 𝒱₀ (c : Thread nD τ) none Set.univ (Q := Q) (m := xbM) (r := (Rect.unit (s := S256x4096) ![0, 0] S256x4096.size inb).toLoadRect) (hl := hl) (k := kk)
    (S := Finset.univ) (q := shrK 0) (f := X c) (Finset.subset_univ _)
  rw [show xbM.view.readAt (Elt F) (Rect.unit (s := S256x4096) ![0, 0] S256x4096.size inb).toLoadRect (X c) = X c from
    Memref.readAt_unit_zero (Elt F) cc0_scratch0 (by funext a; fin_cases a <;> rfl) inb (X c)] at h
  iapply h $$ H
  iintro H
  iapply Hk
  iapply Hc
  iexact H

/-- Loads whose value is not used, of what was never written. -/
theorem load_raw (c : Dev nD) {r : LoadRect S256x4096} {hl : xbM.view.LoadsAt r}
    {Q : α → sProp 𝕄} {kk : (r.shape.Idx → Elt F .bf16) → Prog (TpuEff nD τ sig (Elt F) Λ₀ .tc) α} :
    St m X A c 0 ⊢ iprop((∀ v, St m X A c 0 -∗ WP c (kk v) Q) -∗ WP c (.op (.load xbM r hl) kk) Q) := by
  refine (St_borrow m X A c 0 (raw 0) ((show ∀ c : Dv, live c 0 (raw 0) = true by decide +kernel) c)).trans ?_
  have e : Rs m X A c (raw 0) = iprop(∃ f : Buf (Elt F) (xbM.view.loc (c : Thread nD τ)), xbM.view.loc (c : Thread nD τ) ↦[xbM.view.set]{fullShare} f) := rfl
  rw [e, View.set_whole]
  iintro ⟨⟨%f, H⟩, Hc⟩ Hk
  iapply (wp_load 𝒱₀ (c : Thread nD τ) none Set.univ (m := xbM) (r := r) (S := Finset.univ) (q := fullShare) (f := f) (Finset.subset_univ _)) $$ H
  iintro H
  iapply Hk
  iapply Hc
  iexists f; iexact H
theorem load_rawMax (c : Dev nD) {r : LoadRect S8x128} {hl : amM.view.LoadsAt r}
    {Q : α → sProp 𝕄} {kk : (r.shape.Idx → Elt F .f32) → Prog (TpuEff nD τ sig (Elt F) Λ₀ .tc) α} :
    St m X A c 66 ⊢ iprop((∀ v, St m X A c 66 -∗ WP c (kk v) Q) -∗ WP c (.op (.load amM r hl) kk) Q) := by
  refine (St_borrow m X A c 66 araw ((show ∀ c : Dv, live c 66 araw = true by decide +kernel) c)).trans ?_
  have e : Rs m X A c araw = iprop(∃ f : Buf (Elt F) (amM.view.loc (c : Thread nD τ)), amM.view.loc (c : Thread nD τ) ↦[amM.view.set]{fullShare} f) := rfl
  rw [e, View.set_whole]
  iintro ⟨⟨%f, H⟩, Hc⟩ Hk
  iapply (wp_load 𝒱₀ (c : Thread nD τ) none Set.univ (m := amM) (r := r) (S := Finset.univ) (q := fullShare) (f := f) (Finset.subset_univ _)) $$ H
  iintro H
  iapply Hk
  iapply Hc
  iexists f; iexact H

def tile0 : S1x8x128.Idx := fun a => ⟨0, by revert a; decide⟩

/-- The first element of a tile. -/
def first (x : S8x128.Idx → Elt F .f32) : S1x1x1.Idx → Elt F .f32 :=
  fun _ => x ((Shape.reshapeEquiv (s := S1x8x128) (s' := S8x128) squeezes_S1x8x128_S8x128.numel_eq).symm tile0)

theorem load_max (c : Dev nD) (n : ℕ) (d : Fin 15) (hp : live c n (mgot d) = true)
    {off : Fin 3 → ℕ} (ho : off = ![d.val, 0, 0]) {inb : ∀ a, off a + S1x1x1.size a ≤ S15x8x128.size a}
    {hl : (Memref.whole cc0_scratch7 : Memref sig .tc .vmem S15x8x128 .f32).view.LoadsAt (Rect.unit (s := S15x8x128) off S1x1x1.size inb).toLoadRect}
    {Q : α → sProp 𝕄} {kk : (S1x1x1.Idx → Elt F .f32) → Prog (TpuEff nD τ sig (Elt F) Λ₀ .tc) α} :
    St m X A c n ⊢ iprop((St m X A c n -∗ WP c (kk (first (A (mfrom c d)))) Q)
        -∗ WP c (.op (.load (Memref.whole cc0_scratch7 : Memref sig .tc .vmem S15x8x128 .f32) (Rect.unit (s := S15x8x128) off S1x1x1.size inb).toLoadRect hl) kk) Q) := by
  subst ho
  refine (St_borrow m X A c n _ hp).trans ?_
  let V := (Memref.whole cc0_scratch7 : Memref sig .tc .vmem S15x8x128 .f32).access (Rect.unit (s := S15x8x128) ![d.val, 0, 0] S1x8x128.size (inbA d))
  have hemb : ∀ j, ((Memref.whole cc0_scratch7 : Memref sig .tc .vmem S15x8x128 .f32).access (Rect.unit (s := S15x8x128) ![d.val, 0, 0] S1x1x1.size inb)).emb j = V.emb tile0 := fun j => by
    refine congrArg (Memref.whole cc0_scratch7 : Memref sig .tc .vmem S15x8x128 .f32).view.emb (funext fun a => Fin.ext ?_)
    fin_cases a
    · have : (j 0).val = 0 := Nat.lt_one_iff.1 (j 0).isLt
      show d.val + 1 * (j 0).val = d.val + 1 * 0; omega
    · have : (j 1).val = 0 := Nat.lt_one_iff.1 (j 1).isLt
      show 0 + 1 * (j 1).val = 0 + 1 * 0; omega
    · have : (j 2).val = 0 := Nat.lt_one_iff.1 (j 2).isLt
      show 0 + 1 * (j 2).val = 0 + 1 * 0; omega
  have h : _ ⊢ iprop((_ -∗ WP c (kk _) Q) -∗ WP c (.op (.load (Memref.whole cc0_scratch7 : Memref sig .tc .vmem S15x8x128 .f32) (Rect.unit (s := S15x8x128) ![d.val, 0, 0] S1x1x1.size inb).toLoadRect hl) kk) Q) :=
    wp_load_rect (defs := defs₀ (F := F)) 𝒱₀ (c : Thread nD τ) none Set.univ (Q := Q) (m := (Memref.whole cc0_scratch7 : Memref sig .tc .vmem S15x8x128 .f32))
    (r := Rect.unit (s := S15x8x128) ![d.val, 0, 0] S1x1x1.size inb) (hl := hl) (k := kk)
    (S := (slotA d).view.set) (q := fullShare) (f := (slotA d).view.write (Elt F) (m ((slotA d).view.loc (c : Thread nD τ))) (A (mfrom c d)) Finset.univ)
    (fun i hi => by
      obtain ⟨j, -, rfl⟩ := Finset.mem_map.1 hi
      rw [hemb j]
      exact (Finset.Subset.antisymm_iff.1 (View.set_reshape V squeezes_S1x8x128_S8x128.numel_eq).symm).1 (Finset.mem_map_of_mem _ (Finset.mem_univ _)))
  have e : ((Memref.whole cc0_scratch7 : Memref sig .tc .vmem S15x8x128 .f32).access (Rect.unit (s := S15x8x128) ![d.val, 0, 0] S1x1x1.size inb)).read (Elt F)
      ((slotA d).view.write (Elt F) (m ((slotA d).view.loc (c : Thread nD τ))) (A (mfrom c d)) Finset.univ) = first (A (mfrom c d)) := by
    funext j
    have hw : (slotA d).view.write (Elt F) (m ((slotA d).view.loc (c : Thread nD τ))) (A (mfrom c d)) Finset.univ
        = V.write (Elt F) (m ((slotA d).view.loc (c : Thread nD τ))) (fun x => A (mfrom c d) ((Shape.reshapeEquiv squeezes_S1x8x128_S8x128.numel_eq).symm x)) Finset.univ :=
      View.write_reshape_univ (v := V) squeezes_S1x8x128_S8x128.numel_eq _ _
    rw [hw]
    have h2 := congrFun (View.read_write_univ (Val := Elt F) (v := V) (m ((slotA d).view.loc (c : Thread nD τ))) (fun x => A (mfrom c d) ((Shape.reshapeEquiv squeezes_S1x8x128_S8x128.numel_eq).symm x))) tile0
    rw [View.read_apply] at h2 ⊢
    rw [hemb j]
    exact h2
  rw [e] at h
  have h' : Rs m X A c (mgot d) ⊢ iprop((Rs m X A c (mgot d) -∗ WP c (kk (first (A (mfrom c d)))) Q)
      -∗ WP c (.op (.load (Memref.whole cc0_scratch7 : Memref sig .tc .vmem S15x8x128 .f32) (Rect.unit (s := S15x8x128) ![d.val, 0, 0] S1x1x1.size inb).toLoadRect hl) kk) Q) := h
  iintro ⟨H, Hc⟩ Hk
  iapply h' $$ H
  iintro H
  iapply Hk
  iapply Hc
  iexact H

end Steps

end Cert.KernelIdeal.Pf

end
-- ==== Proof.KIFacts.lean ====
module

public import proofs.«01_k».proof.Proof.KISched

/-!
# Where the program's operations go

The device each copy is addressed to, the semaphore it pays and the slot it fills, as the program computes them, are those of the
protocol.
-/

@[expose] public section

set_option maxRecDepth 16384

noncomputable section

namespace Cert.KernelIdeal.Pf

open Cert.KernelIdeal Cert.KernelIdeal.Gen Cert.Mesh
open Idealize.ShloMosaic
open Idealize.ShloMosaic.TcCoe

/-- Transfer `i` of `c` is made, to device `e`, into slot `offD` of the columns' buffer, paying semaphore `offR` of the columns'. -/
def SendOK (c : Dv) (i : Tx) (e : ℕ) (offR : Fin 1 → ℕ) (offD : Fin 3 → ℕ) : Prop :=
  act c i = true ∧ e = (peer c i).val ∧ ((dpl c i).val ≠ 0 ∧ (dpl c i).val < 4) ∧ offR = ![(col (peer c i) (dpl c i).val).val]
    ∧ offD = ![(col (peer c i) (dpl c i).val).val, 0, 0] ∧ locN ((peer c i).val / 4) (ceR (dpl c i)).val = 11 + (col (peer c i) (dpl c i).val).val
instance (c : Dv) (i : Tx) (e : ℕ) (offR : Fin 1 → ℕ) (offD : Fin 3 → ℕ) : Decidable (SendOK c i e offR offD) := by unfold SendOK; infer_instance

theorem up0_ok : ∀ c : Dv, k0_cond3 c = 1#1 → SendOK c 0 (k0_dev5 c) (k0_off1 c) (k0_off2 c) := by decide +kernel
theorem up0_no : ∀ c : Dv, ¬ k0_cond3 c = 1#1 → act c 0 = false := by decide +kernel
theorem dn0_ok : ∀ c : Dv, k0_cond4 c = 1#1 → SendOK c 4 (k0_dev6 c) (k0_off3 c) (k0_off4 c) := by decide +kernel
theorem dn0_no : ∀ c : Dv, ¬ k0_cond4 c = 1#1 → act c 4 = false := by decide +kernel
theorem up1_ok : ∀ c : Dv, k0_cond5 c = 1#1 → SendOK c 1 (k0_dev9 c) (k0_off8 c) (k0_off9 c) ∧ k0_off10 c = ![(col c 1).val, 0, 0] := by decide +kernel
theorem up1_no : ∀ c : Dv, ¬ k0_cond5 c = 1#1 → act c 1 = false := by decide +kernel
theorem dn1_ok : ∀ c : Dv, k0_cond6 c = 1#1 → SendOK c 5 (k0_dev10 c) (k0_off11 c) (k0_off12 c) ∧ k0_off13 c = ![(col c 1).val, 0, 0] := by decide +kernel
theorem dn1_no : ∀ c : Dv, ¬ k0_cond6 c = 1#1 → act c 5 = false := by decide +kernel
theorem up2_ok : ∀ c : Dv, k0_cond7 c = 1#1 → k0_cond8 c = 1#1 → SendOK c 2 (k0_dev11 c) (k0_off16 c) (k0_off17 c) ∧ k0_off18 c = ![(col c 2).val, 0, 0] := by decide +kernel
theorem up2_no : ∀ c : Dv, (¬ k0_cond7 c = 1#1 ∨ ¬ k0_cond8 c = 1#1) → act c 2 = false := by decide +kernel
theorem dn2_ok : ∀ c : Dv, k0_cond7 c = 1#1 → k0_cond9 c = 1#1 → SendOK c 6 (k0_dev12 c) (k0_off19 c) (k0_off20 c) ∧ k0_off21 c = ![(col c 2).val, 0, 0] := by decide +kernel
theorem dn2_no : ∀ c : Dv, (¬ k0_cond7 c = 1#1 ∨ ¬ k0_cond9 c = 1#1) → act c 6 = false := by decide +kernel
theorem up3_ok : ∀ c : Dv, k0_cond11 c = 1#1 → SendOK c 3 (k0_dev17 c) (k0_off28 c) (k0_off29 c) ∧ k0_off30 c = ![(col c 3).val, 0, 0] := by decide +kernel
theorem up3_no : ∀ c : Dv, ¬ k0_cond11 c = 1#1 → act c 3 = false := by decide +kernel
theorem dn3_ok : ∀ c : Dv, k0_cond12 c = 1#1 → SendOK c 7 (k0_dev18 c) (k0_off31 c) (k0_off32 c) ∧ k0_off33 c = ![(col c 3).val, 0, 0] := by decide +kernel
theorem dn3_no : ∀ c : Dv, ¬ k0_cond12 c = 1#1 → act c 7 = false := by decide +kernel

/-- The semaphore a column's block comes with. -/
def GotOK (c : Dv) (p : Pl) (offR : Fin 1 → ℕ) : Prop := offR = ![(col c p.val).val] ∧ locN (c.val / 4) (ceR p).val = 11 + (col c p.val).val
instance (c : Dv) (p : Pl) (offR : Fin 1 → ℕ) : Decidable (GotOK c p offR) := by unfold GotOK; infer_instance

theorem x1_ok : ∀ c : Dv, GotOK c 1 (k0_off6 c 1#32 0#32 1#32 2#32) := by decide +kernel
theorem x2_in : ∀ c : Dv, k0_cond7 c = 1#1 → GotOK c 2 (k0_off14 c) ∧ inner (c.val / 4) = true := by decide +kernel
theorem x2_out : ∀ c : Dv, k0_cond10 c = 1#1 → GotOK c 2 (k0_off25 c) ∧ inner (c.val / 4) = false := by decide +kernel
theorem x2_nin : ∀ c : Dv, ¬ k0_cond7 c = 1#1 → inner (c.val / 4) = false := by decide +kernel
theorem x2_nout : ∀ c : Dv, ¬ k0_cond10 c = 1#1 → inner (c.val / 4) = true := by decide +kernel
theorem x3_ok : ∀ c : Dv, GotOK c 3 (k0_off6 c 3#32 3#32 0#32 0#32) := by decide +kernel

theorem src1 : ∀ c : Dv, k0_off7 c 1#32 0#32 1#32 2#32 = ![(col c 1).val, 0, 0] := by decide +kernel
theorem src2 : ∀ c : Dv, k0_off7 c 2#32 2#32 3#32 1#32 = ![(col c 2).val, 0, 0] := by decide +kernel
theorem src3 : ∀ c : Dv, k0_off7 c 3#32 3#32 0#32 0#32 = ![(col c 3).val, 0, 0] := by decide +kernel
theorem ld1 : ∀ c : Dv, k0_off23 c 1#32 0#32 1#32 2#32 = ![(col c 1).val, 0, 0] := by decide +kernel
theorem ld2 : ∀ c : Dv, k0_off23 c 2#32 2#32 3#32 1#32 = ![(col c 2).val, 0, 0] := by decide +kernel
theorem ld3 : ∀ c : Dv, k0_off23 c 3#32 3#32 0#32 0#32 = ![(col c 3).val, 0, 0] := by decide +kernel

/-- Transfer `i` of `c` is made, to device `e`, into place `p`; the semaphores it pays are numbers `jS` here and `jR` there. -/
def RingOK (c : Dv) (i : Tx) (e : ℕ) (p : Pl) (jS jR : ℕ) : Prop :=
  act c i = true ∧ e = (peer c i).val ∧ dpl c i = p ∧ locN (c.val / 4) (ceS i).val = jS ∧ locN ((peer c i).val / 4) (ceR (dpl c i)).val = jR
instance (c : Dv) (i : Tx) (e : ℕ) (p : Pl) (jS jR : ℕ) : Decidable (RingOK c i e p jS jR) := by unfold RingOK; infer_instance

theorem cw0_ok : ∀ c : Dv, RingOK c 8 (k0_dev7 c) 4 14 18 := by decide +kernel
theorem cc0_ok : ∀ c : Dv, RingOK c 12 (k0_dev8 c) 8 22 26 := by decide +kernel
theorem cw1_ok : ∀ c : Dv, RingOK c 9 (k0_dev13 c) 5 15 19 := by decide +kernel
theorem cc1_ok : ∀ c : Dv, RingOK c 13 (k0_dev14 c) 9 23 27 := by decide +kernel
theorem cw2_ok : ∀ c : Dv, RingOK c 10 (k0_dev15 c) 6 16 20 := by decide +kernel
theorem cc2_ok : ∀ c : Dv, RingOK c 14 (k0_dev16 c) 10 24 28 := by decide +kernel
theorem cw3_ok : ∀ c : Dv, RingOK c 11 (k0_dev19 c) 7 17 21 := by decide +kernel
theorem cc3_ok : ∀ c : Dv, RingOK c 15 (k0_dev20 c) 11 25 29 := by decide +kernel
theorem b0_ok : ∀ c : Dv, RingOK c 16 (k0_dev21 c) 12 30 34 := by decide +kernel
theorem b1_ok : ∀ c : Dv, RingOK c 17 (k0_dev22 c) 13 31 35 := by decide +kernel
theorem b2_ok : ∀ c : Dv, RingOK c 18 (k0_dev24 c) 14 32 36 := by decide +kernel
theorem b3_ok : ∀ c : Dv, RingOK c 19 (k0_dev26 c) 15 33 37 := by decide +kernel

/-- A semaphore of a device whose number does not depend on the device. -/
theorem loc_const : ∀ (z : Fin 4) (k : Ce), (k.val = 0 ∨ 4 ≤ k.val) → locN z.val k.val = locN 0 k.val := by decide +kernel

theorem sig_next : ∀ c : Dv, k0_dev1 c = (bpeer c 0).val ∧ bact c 0 = true := by decide +kernel
theorem sig_prev : ∀ c : Dv, k0_dev2 c = (bpeer c 1).val ∧ bact c 1 = true := by decide +kernel
theorem sig_up : ∀ c : Dv, k0_cond1 c = 1#1 → k0_dev3 c = (bpeer c 2).val ∧ bact c 2 = true := by decide +kernel
theorem sig_nup : ∀ c : Dv, ¬ k0_cond1 c = 1#1 → bact c 2 = false := by decide +kernel
theorem sig_down : ∀ c : Dv, k0_cond2 c = 1#1 → k0_dev4 c = (bpeer c 3).val ∧ bact c 3 = true := by decide +kernel
theorem sig_ndown : ∀ c : Dv, ¬ k0_cond2 c = 1#1 → bact c 3 = false := by decide +kernel
theorem bar_amt : ∀ c : Dv, (k0_amt1 c).toInt = ((duT c 0).card : ℤ) := by decide +kernel
theorem cred0 : ∀ c : Dv, k0_dev23 c = (ctgt c 0).val := by decide +kernel
theorem cred1 : ∀ c : Dv, k0_dev25 c = (ctgt c 1).val := by decide +kernel

/-- Which send waits are made. -/
theorem wup0 : ∀ c : Dv, k0_cond13 c = 1#1 ↔ act c 0 = true := by decide +kernel
theorem wdn0 : ∀ c : Dv, k0_cond14 c = 1#1 ↔ act c 4 = true := by decide +kernel
theorem wup1 : ∀ c : Dv, k0_cond15 c = 1#1 ↔ act c 1 = true := by decide +kernel
theorem wdn1 : ∀ c : Dv, k0_cond16 c = 1#1 ↔ act c 5 = true := by decide +kernel
theorem wup2 : ∀ c : Dv, k0_cond17 c = 1#1 ↔ act c 2 = true := by decide +kernel
theorem wdn2 : ∀ c : Dv, k0_cond18 c = 1#1 ↔ act c 6 = true := by decide +kernel
theorem wup3 : ∀ c : Dv, k0_cond19 c = 1#1 ↔ act c 3 = true := by decide +kernel
theorem wdn3 : ∀ c : Dv, k0_cond20 c = 1#1 ↔ act c 7 = true := by decide +kernel

/-- The place whose block the `k`-th product is of, and the device it came from. -/
def pord (k : ℕ) : Pl := ⟨dig2 15141312110703100602090501080400 k % 16, Nat.mod_lt _ (by decide)⟩
def oseq (c : Dv) (k : ℕ) : Dv := org c (pord k)

/-- The `k`-th product is of the block of device `o`, and goes where `off` says. -/
def PutOK (c : Dv) (k : ℕ) (off : Fin 2 → ℕ) (o : Dv) : Prop := off = ![256 * (oseq c k).val, 0] ∧ oseq c k = o
instance (c : Dv) (k : ℕ) (off : Fin 2 → ℕ) (o : Dv) : Decidable (PutOK c k off o) := by unfold PutOK; infer_instance

theorem g0 : ∀ c : Dv, PutOK c 0 (k0_off5 c) c := by decide +kernel
theorem g1 : ∀ c : Dv, PutOK c 1 (k0_off22 c 3#32) (org c 4) := by decide +kernel
theorem g2 : ∀ c : Dv, PutOK c 2 (k0_off22 c 1#32) (org c 8) := by decide +kernel
theorem g3 : ∀ c : Dv, PutOK c 3 (k0_off24 c 1#32 0#32 1#32 2#32) (org c 1) := by decide +kernel
theorem g4 : ∀ c : Dv, PutOK c 4 (k0_off27 c 1#32 0#32 1#32 2#32 3#32) (org c 5) := by decide +kernel
theorem g5 : ∀ c : Dv, PutOK c 5 (k0_off27 c 1#32 0#32 1#32 2#32 1#32) (org c 9) := by decide +kernel
theorem g6 : ∀ c : Dv, PutOK c 6 (k0_off24 c 2#32 2#32 3#32 1#32) (org c 2) := by decide +kernel
theorem g7 : ∀ c : Dv, PutOK c 7 (k0_off27 c 2#32 2#32 3#32 1#32 3#32) (org c 6) := by decide +kernel
theorem g8 : ∀ c : Dv, PutOK c 8 (k0_off27 c 2#32 2#32 3#32 1#32 1#32) (org c 10) := by decide +kernel
theorem g9 : ∀ c : Dv, PutOK c 9 (k0_off24 c 3#32 3#32 0#32 0#32) (org c 3) := by decide +kernel
theorem g10 : ∀ c : Dv, PutOK c 10 (k0_off27 c 3#32 3#32 0#32 0#32 3#32) (org c 7) := by decide +kernel
theorem g11 : ∀ c : Dv, PutOK c 11 (k0_off27 c 3#32 3#32 0#32 0#32 1#32) (org c 11) := by decide +kernel
theorem g12 : ∀ c : Dv, PutOK c 12 (k0_off22 c 2#32) (org c 12) := by decide +kernel
theorem g13 : ∀ c : Dv, PutOK c 13 (k0_off27 c 1#32 0#32 1#32 2#32 2#32) (org c 13) := by decide +kernel
theorem g14 : ∀ c : Dv, PutOK c 14 (k0_off27 c 2#32 2#32 3#32 1#32 2#32) (org c 14) := by decide +kernel
theorem g15 : ∀ c : Dv, PutOK c 15 (k0_off27 c 3#32 3#32 0#32 0#32 2#32) (org c 15) := by decide +kernel

/-- Every device's block is multiplied, once. -/
theorem oseq_surj : ∀ (c o : Dv), ∃ k : Fin 16, oseq c k.val = o := by decide +kernel
theorem oseq_inj : ∀ (c : Dv) (j k : Fin 16), oseq c j.val = oseq c k.val → j = k := by decide +kernel
/-- Every other device's maximum arrives. -/
theorem mfrom_surj : ∀ (c o : Dv), o = c ∨ ∃ d : Fin 15, mfrom c d = o := by decide +kernel

end Cert.KernelIdeal.Pf

end
-- ==== Proof.KIStepsC.lean ====
module

public import proofs.«01_k».proof.Proof.KIStepsB
public import proofs.«01_k».proof.Proof.KIFacts
public import proofs.«01_k».proof.Proof.Gen.KernelIdeal.Skeleton

/-!
# Steps of the program, one after another

What a device holds between two of its operations is the shared invariant, its part of the protocol's state, and its own
buffers of weights and results, of which the first so many blocks are done. Each step below takes an operation at the head
of the program from one such state to the next.
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)
variable (K : Dev nD × Ce → ℕ)
variable (W : Dev nD → S4096x128.Idx → Elt F .bf16)

abbrev wbM : Memref sig .tc .vmem S4096x128 .bf16 := Memref.whole cc0_scratch1
abbrev outM : Memref sig .tc .vmem S4096x128 .f32 := Memref.whole cc0_stg2_0

/-- Row `i` of device `o`'s block, as a row of the result. -/
def rowOf (o : Dv) (i : S256x128.Idx) : S4096x128.Idx := fun a => ⟨(![256 * o.val, 0] : Fin 2 → ℕ) a + (i a).val, by
  have h := (i a).isLt
  have ho := o.isLt
  revert h
  match a with
  | 0 => intro h; have h' : (i 0).val < 256 := h; show 256 * o.val + (i 0).val < 4096; omega
  | 1 => intro h; have h' : (i 1).val < 128 := h; show 0 + (i 1).val < 128; omega⟩

/-- The first `k` blocks of the result are done. -/
def Fill (c : Dev nD) (k : ℕ) (f : S4096x128.Idx → Elt F .f32) : Prop :=
  ∀ j, j < k → ∀ i : S256x128.Idx, f (rowOf (oseq c j) i) = k0_pay3 (X (oseq c j)) (W c) i

/-- The device's own buffers. -/
def Mem (c : Dev nD) (k : ℕ) : sProp 𝕄 :=
  iprop((wbM.view.loc (c : Thread nD τ) ↦[Finset.univ]{fullShare} W c)
    ∗ ∃ f : Buf (Elt F) (outM.view.loc (c : Thread nD τ)), (outM.view.loc (c : Thread nD τ) ↦[Finset.univ]{fullShare} f) ∗ ⌜Fill X W c k f⌝)

/-- What the device holds. -/
def J (G : sProp 𝕄) (c : Dev nD) (n k : ℕ) : sProp 𝕄 := iprop(Inv m X A K ∗ St m X A c n ∗ Mem X W c k ∗ G)

variable {α : Type}

theorem j_inv (G : sProp 𝕄) (c : Dev nD) {n n' k : ℕ} {V R : sProp 𝕄} (h : iprop(Inv m X A K ∗ St m X A c n) ⊢ iprop((St m X A c n' -∗ V) -∗ R))
    (h2 : J m X A K W G c n' k ⊢ V) : J m X A K W G c n k ⊢ R := by
  unfold J at *
  iintro ⟨#HI, Hs, HM⟩
  iapply h $$ [HI Hs] [HM]
  · isplitr
    · iexact HI
    · iexact Hs
  iintro Hs
  iapply h2
  isplitr
  · iexact HI
  isplitl [Hs]
  · iexact Hs
  · iexact HM

theorem j_st (G : sProp 𝕄) (c : Dev nD) {n n' k : ℕ} {V R : sProp 𝕄} (h : St m X A c n ⊢ iprop((St m X A c n' -∗ V) -∗ R))
    (h2 : J m X A K W G c n' k ⊢ V) : J m X A K W G c n k ⊢ R :=
  j_inv m X A K W G c (sep_elim_right.trans h) h2

theorem j_skip (G : sProp 𝕄) (c : Dev nD) {n n' k : ℕ} {V : sProp 𝕄} (h : St m X A c n ⊢ St m X A c n')
    (h2 : J m X A K W G c n' k ⊢ V) : J m X A K W G c n k ⊢ V := by
  refine BIBase.Entails.trans ?_ h2
  unfold J
  exact sep_mono_right (sep_mono_left h)

theorem j_mem (G : sProp 𝕄) (c : Dev nD) {n k k' : ℕ} {V R : sProp 𝕄} (h : Mem X W c k ⊢ iprop((Mem X W c k' -∗ V) -∗ R))
    (h2 : J m X A K W G c n k' ⊢ V) : J m X A K W G c n k ⊢ R := by
  unfold J at *
  iintro ⟨#HI, Hs, HM, HG⟩
  iapply h $$ HM
  iintro HM
  iapply h2
  isplitr
  · iexact HI
  isplitl [Hs]
  · iexact Hs
  isplitl [HM]
  · iexact HM
  · iexact HG

/-- The end of a piece of the program: the value it returns, and the state. -/
def Post (G : sProp 𝕄) (c : Dev nD) (n k : ℕ) (φ : α → Prop) (r : α) : sProp 𝕄 := iprop(⌜φ r⌝ ∗ J m X A K W G c n k)

theorem j_ret (G : sProp 𝕄) (c : Dev nD) {n k : ℕ} {φ : α → Prop} {r : α} (h : φ r) :
    J m X A K W G c n k ⊢ WP c (.ret r) (Post m X A K W G c n k φ) := by
  rw [show WP c (.ret r) (Post m X A K W G c n k φ) = iprop(|={Set.univ}=> Post m X A K W G c n k φ r) from wp_ret ..]
  unfold Post
  iintro H
  imodintro
  isplitr
  · ipureintro; exact h
  · iexact H

theorem j_bind {β : Type} (G : sProp 𝕄) (c : Dev nD) {n k n' k' : ℕ} {φ : β → Prop} {p : Prog (TpuEff nD τ sig (Elt F) Λ₀ .tc) β}
    {f : β → Prog (TpuEff nD τ sig (Elt F) Λ₀ .tc) α} {Q : α → sProp 𝕄}
    (h : J m X A K W G c n k ⊢ WP c p (Post m X A K W G c n' k' φ)) (h2 : ∀ r, φ r → J m X A K W G c n' k' ⊢ WP c (f r) Q) :
    J m X A K W G c n k ⊢ WP c (p.bind f) Q := by
  rw [show WP c (p.bind f) Q = WP c p (fun a => WP c (f a) Q) from wp_bind ..]
  refine BIBase.Entails.trans h (wp_mono _ _ _ fun r => ?_)
  unfold Post
  iintro ⟨%hr, H⟩
  iapply (h2 r hr)
  iexact H

/-- A choice that both ways leaves the same state. -/
theorem j_if (G : sProp 𝕄) (c : Dev nD) {n k n' : ℕ} {P : Prop} [Decidable P] {x : P → Prog (TpuEff nD τ sig (Elt F) Λ₀ .tc) PUnit} {y : ¬ P → Prog (TpuEff nD τ sig (Elt F) Λ₀ .tc) PUnit}
    {f : PUnit → Prog (TpuEff nD τ sig (Elt F) Λ₀ .tc) α} {Q : α → sProp 𝕄}
    (hx : ∀ h, J m X A K W G c n k ⊢ WP c (x h) (Post m X A K W G c n' k fun _ => True))
    (hy : ∀ h, J m X A K W G c n k ⊢ WP c (y h) (Post m X A K W G c n' k fun _ => True))
    (h2 : J m X A K W G c n' k ⊢ WP c (f ⟨⟩) Q) : J m X A K W G c n k ⊢ WP c (Prog.bind (dite P x y) f) Q := by
  refine j_bind m X A K W G c (φ := fun _ => True) ?_ fun _ _ => h2
  split
  · exact hx _
  · exact hy _

section

theorem j_recv (G : sProp 𝕄) (c : Dev nD) {Q : α → sProp 𝕄} {n k : ℕ} (p : Pl) (hp : p ≠ 0) (hn : tRecv (c.val / 4) p.val = n) {kk : PUnit → Prog (TpuEff nD τ sig (Elt F) Λ₀ .tc) α}
    {w : TpuEff nD τ sig (Elt F) Λ₀ .tc PUnit} {s : SemLoc sig} {a : ℕ}
    (hw : ∀ G : PUnit → sProp 𝕄, wpE (defs₀ (F := F)) 𝒱₀ (c : Thread nD τ) none Set.univ w G = waitSpec (c : Thread nD τ) Set.univ s a G)
    (hs : s = semOf (locN (c.val / 4) (ceR p).val)) (ha : a = N) (h2 : J m X A K W G c (n + 1) k ⊢ WP c (kk ⟨⟩) Q) :
    J m X A K W G c n k ⊢ WP c (.op w kk) Q := by
  subst hs hn
  exact j_inv m X A K W G c (step_recvBlock m X A K c p hp hw ha) h2

theorem j_done (G : sProp 𝕄) (c : Dev nD) {Q : α → sProp 𝕄} {n k : ℕ} (i : Tx) (hi : act c i = true) (hn : tDone i.val = n) {kk : PUnit → Prog (TpuEff nD τ sig (Elt F) Λ₀ .tc) α}
    {w : TpuEff nD τ sig (Elt F) Λ₀ .tc PUnit} {s : SemLoc sig} {a : ℕ}
    (hw : ∀ G : PUnit → sProp 𝕄, wpE (defs₀ (F := F)) 𝒱₀ (c : Thread nD τ) none Set.univ w G = waitSpec (c : Thread nD τ) Set.univ s a G)
    (hs : s = semOf (locN (c.val / 4) (ceS i).val)) (ha : a = N) (h2 : J m X A K W G c (n + 1) k ⊢ WP c (kk ⟨⟩) Q) :
    J m X A K W G c n k ⊢ WP c (.op w kk) Q := by
  subst hs hn
  exact j_inv m X A K W G c (step_doneBlock m X A K c i hi hw ha) h2

theorem j_nodone (G : sProp 𝕄) (c : Dev nD) {Q : α → sProp 𝕄} {n k : ℕ} (i : Tx) (hi : act c i = false) (hn : tDone i.val = n) {p : Prog (TpuEff nD τ sig (Elt F) Λ₀ .tc) α}
    (h2 : J m X A K W G c (n + 1) k ⊢ WP c p Q) : J m X A K W G c n k ⊢ WP c p Q := by
  subst hn
  refine BIBase.Entails.trans ?_ (fupd_wp _ _ _ _ _)
  refine BIBase.Entails.trans ?_ (fupd_mono h2)
  unfold J
  iintro ⟨#HI, Hs, HM⟩
  imod (nodone_skip m X A K c i hi) $$ [HI Hs] with Hs
  · isplitr
    · iexact HI
    · iexact Hs
  imodintro
  isplitr
  · iexact HI
  isplitl [Hs]
  · iexact Hs
  · iexact HM

theorem j_send (G : sProp 𝕄) (c : Dev nD) {Q : α → sProp 𝕄} {n k : ℕ} (i : Tx) (hi : act c i = true) (hn : tSend i.val = n) {kk : PUnit → Prog (TpuEff nD τ sig (Elt F) Λ₀ .tc) α}
    {e : Dev nD} (he : e.val = (peer c i).val) {src' dst : Memref sig .tc .vmem S256x4096 .bf16} (hs : src' = plM c (src i)) (hd : dst = plM (peer c i) (dpl c i))
    {sS sem : SemLoc sig} (hS : sS = semOf (locN (c.val / 4) (ceS i).val)) (hR : sem = semOf (locN ((peer c i).val / 4) (ceR (dpl c i)).val))
    {hsc : dst.view.ref.isScScratch = false} {hsrc : src'.view.WordExact} {hdst : dst.view.WordExact}
    {hsem : DmaTarget.Typed .vmem sem (.remote (nD := nD) (τ := τ) (e : Thread nD τ) dst sS hsc)} (hN : dst.view.amount sem = N)
    (h2 : J m X A K W G c (n + 1) k ⊢ WP c (kk ⟨⟩) Q) :
    J m X A K W G c n k ⊢ WP c (.op (.enqueueDma src' (.remote (e : Thread nD τ) dst sS hsc) sem hsrc hdst hsem) kk) Q := by
  subst hn
  exact j_inv m X A K W G c (step_sendBlock m X A K c i hi (Fin.ext he) hs hd hS hR hN) h2

theorem j_barSignal (G : sProp 𝕄) (c : Dev nD) {Q : α → sProp 𝕄} {n k : ℕ} (t : Fin 4) (ht : bact c t = true) (hn : 1 + t.val = n) {kk : PUnit → Prog (TpuEff nD τ sig (Elt F) Λ₀ .tc) α}
    {e : Dev nD} (he : e.val = (bpeer c t).val) {sem : Sem sig} (hsem : SemLoc.reg sem = semOf (locN ((bpeer c t).val / 4) 0)) {a : ℕ} (ha : a = 1)
    (h2 : J m X A K W G c (n + 1) k ⊢ WP c (kk ⟨⟩) Q) :
    J m X A K W G c n k ⊢ WP c (.op (.semSignal (e : Thread nD τ) sem a) kk) Q := by
  subst hn
  exact j_inv m X A K W G c (step_barSignal m X A K c t ht (Fin.ext he) hsem ha) h2

theorem j_barWait (G : sProp 𝕄) (c : Dev nD) {Q : α → sProp 𝕄} {k : ℕ} {kk : PUnit → Prog (TpuEff nD τ sig (Elt F) Λ₀ .tc) α}
    {w : TpuEff nD τ sig (Elt F) Λ₀ .tc PUnit} {s : SemLoc sig} {a : ℕ}
    (hw : ∀ G : PUnit → sProp 𝕄, wpE (defs₀ (F := F)) 𝒱₀ (c : Thread nD τ) none Set.univ w G = waitSpec (c : Thread nD τ) Set.univ s a G)
    (hs : s = semOf 70) (ha : a = (duT c 0).card) (h2 : J m X A K W G c 6 k ⊢ WP c (kk ⟨⟩) Q) :
    J m X A K W G c 5 k ⊢ WP c (.op w kk) Q := by
  subst hs
  exact j_inv m X A K W G c (step_barWait m X A K c hw ha) h2

theorem j_credSignal (G : sProp 𝕄) (c : Dev nD) {Q : α → sProp 𝕄} {n k : ℕ} (l : Fin 2) (hn : 37 + 4 * l.val = n) {kk : PUnit → Prog (TpuEff nD τ sig (Elt F) Λ₀ .tc) α}
    {e : Dev nD} (he : e.val = (ctgt c l).val) {sem : Sem sig} (hsem : SemLoc.reg sem = semOf (locN ((ctgt c l).val / 4) (ceC l).val)) {a : ℕ} (ha : a = 1)
    (h2 : J m X A K W G c (n + 1) k ⊢ WP c (kk ⟨⟩) Q) :
    J m X A K W G c n k ⊢ WP c (.op (.semSignal (e : Thread nD τ) sem a) kk) Q := by
  subst hn
  exact j_inv m X A K W G c (step_credSignal m X A K c l (Fin.ext he) hsem ha) h2

theorem j_credWait (G : sProp 𝕄) (c : Dev nD) {Q : α → sProp 𝕄} {n k : ℕ} (l : Fin 2) (hn : 38 + 4 * l.val = n) {kk : PUnit → Prog (TpuEff nD τ sig (Elt F) Λ₀ .tc) α}
    {w : TpuEff nD τ sig (Elt F) Λ₀ .tc PUnit} {s : SemLoc sig} {a : ℕ}
    (hw : ∀ G : PUnit → sProp 𝕄, wpE (defs₀ (F := F)) 𝒱₀ (c : Thread nD τ) none Set.univ w G = waitSpec (c : Thread nD τ) Set.univ s a G)
    (hs : s = semOf (locN (c.val / 4) (ceC l).val)) (ha : a = 1) (h2 : J m X A K W G c (n + 1) k ⊢ WP c (kk ⟨⟩) Q) :
    J m X A K W G c n k ⊢ WP c (.op w kk) Q := by
  subst hs hn
  exact j_inv m X A K W G c (step_credWait m X A K c l hw ha) h2

theorem j_sendMax (G : sProp 𝕄) (c : Dev nD) {Q : α → sProp 𝕄} {n k : ℕ} (d : Fin 15) (hn : 67 + d.val = n) {kk : PUnit → Prog (TpuEff nD τ sig (Elt F) Λ₀ .tc) α}
    {e : Dev nD} (he : e.val = (mpeer c d).val) {src' dst : Memref sig .tc .vmem S8x128 .f32} (hs : src' = amM) (hd : dst = slotA d)
    {sS sem : SemLoc sig} (hS : sS = semOf (locN (c.val / 4) (ceMS d).val)) (hR : sem = semOf (locN ((mpeer c d).val / 4) (ceMR d).val))
    {hsc : dst.view.ref.isScScratch = false} {hsrc : src'.view.WordExact} {hdst : dst.view.WordExact}
    {hsem : DmaTarget.Typed .vmem sem (.remote (nD := nD) (τ := τ) (e : Thread nD τ) dst sS hsc)} (hN : dst.view.amount sem = NA)
    (h2 : J m X A K W G c (n + 1) k ⊢ WP c (kk ⟨⟩) Q) :
    J m X A K W G c n k ⊢ WP c (.op (.enqueueDma src' (.remote (e : Thread nD τ) dst sS hsc) sem hsrc hdst hsem) kk) Q := by
  subst hn
  exact j_inv m X A K W G c (step_sendMax m X A K c d (Fin.ext he) hs hd hS hR hN) h2

theorem j_recvMax (G : sProp 𝕄) (c : Dev nD) {Q : α → sProp 𝕄} {n k : ℕ} (d : Fin 15) (hn : 82 + d.val = n) {kk : PUnit → Prog (TpuEff nD τ sig (Elt F) Λ₀ .tc) α}
    {w : TpuEff nD τ sig (Elt F) Λ₀ .tc PUnit} {s : SemLoc sig} {a : ℕ}
    (hw : ∀ G : PUnit → sProp 𝕄, wpE (defs₀ (F := F)) 𝒱₀ (c : Thread nD τ) none Set.univ w G = waitSpec (c : Thread nD τ) Set.univ s a G)
    (hs : s = semOf (locN (c.val / 4) (ceMR d).val)) (ha : a = NA) (h2 : J m X A K W G c (n + 1) k ⊢ WP c (kk ⟨⟩) Q) :
    J m X A K W G c n k ⊢ WP c (.op w kk) Q := by
  subst hs hn
  exact j_inv m X A K W G c (step_recvMax m X A K c d hw ha) h2

theorem j_doneMax (G : sProp 𝕄) (c : Dev nD) {Q : α → sProp 𝕄} {n k : ℕ} (d : Fin 15) (hn : 97 + d.val = n) {kk : PUnit → Prog (TpuEff nD τ sig (Elt F) Λ₀ .tc) α}
    {w : TpuEff nD τ sig (Elt F) Λ₀ .tc PUnit} {s : SemLoc sig} {a : ℕ}
    (hw : ∀ G : PUnit → sProp 𝕄, wpE (defs₀ (F := F)) 𝒱₀ (c : Thread nD τ) none Set.univ w G = waitSpec (c : Thread nD τ) Set.univ s a G)
    (hs : s = semOf (locN (c.val / 4) (ceMS d).val)) (ha : a = NA) (h2 : J m X A K W G c (n + 1) k ⊢ WP c (kk ⟨⟩) Q) :
    J m X A K W G c n k ⊢ WP c (.op w kk) Q := by
  subst hs hn
  exact j_inv m X A K W G c (step_doneMax m X A K c d hw ha) h2

/-! ## The device's own buffers -/

theorem j_wb (G : sProp 𝕄) (c : Dev nD) {Q : α → sProp 𝕄} {n k : ℕ} {inb : ∀ a, (![0, 0] : Fin 2 → ℕ) a + S4096x128.size a ≤ S4096x128.size a}
    {hl : wbM.view.LoadsAt (Rect.unit (s := S4096x128) ![0, 0] S4096x128.size inb).toLoadRect}
    {kk : (S4096x128.Idx → Elt F .bf16) → Prog (TpuEff nD τ sig (Elt F) Λ₀ .tc) α} (h2 : J m X A K W G c n k ⊢ WP c (kk (W c)) Q) :
    J m X A K W G c n k ⊢ WP c (.op (.load wbM (Rect.unit (s := S4096x128) ![0, 0] S4096x128.size inb).toLoadRect hl) kk) Q := by
  refine j_mem m X A K W G c (k' := k) ?_ h2
  have h : _ ⊢ iprop((_ -∗ WP c (kk _) Q) -∗ WP c (.op (.load wbM (Rect.unit (s := S4096x128) ![0, 0] S4096x128.size inb).toLoadRect hl) kk) Q) :=
    wp_load (defs := defs₀ (F := F)) 𝒱₀ (c : Thread nD τ) none Set.univ (Q := Q) (m := wbM) (r := (Rect.unit (s := S4096x128) ![0, 0] S4096x128.size inb).toLoadRect) (hl := hl) (k := kk)
      (S := Finset.univ) (q := fullShare) (f := W c) (Finset.subset_univ _)
  have e : wbM.view.readAt (Elt F) (Rect.unit (s := S4096x128) ![0, 0] S4096x128.size inb).toLoadRect (W c) = W c :=
    Memref.readAt_unit_zero (Elt F) cc0_scratch1 (by funext a; fin_cases a <;> rfl) inb (W c)
  rw [e] at h
  unfold Mem
  iintro ⟨Hw, Ho⟩ Hk
  iapply h $$ Hw
  iintro Hw
  iapply Hk
  isplitl [Hw]
  · iexact Hw
  · iexact Ho

theorem j_out (G : sProp 𝕄) (c : Dev nD) {Q : α → sProp 𝕄} {n k : ℕ} {r : LoadRect S4096x128} {hl : outM.view.LoadsAt r}
    {kk : (r.shape.Idx → Elt F .f32) → Prog (TpuEff nD τ sig (Elt F) Λ₀ .tc) α} (h2 : ∀ v, J m X A K W G c n k ⊢ WP c (kk v) Q) :
    J m X A K W G c n k ⊢ WP c (.op (.load outM r hl) kk) Q := by
  unfold J Mem at *
  iintro ⟨#HI, Hs, ⟨Hw, ⟨%f, Ho, %hf⟩⟩, HG⟩
  iapply (wp_load 𝒱₀ (c : Thread nD τ) none Set.univ (m := outM) (r := r) (S := Finset.univ) (q := fullShare) (f := f) (Finset.subset_univ _)) $$ Ho
  iintro Ho
  iapply (h2 (outM.view.readAt (Elt F) r f))
  isplitr
  · iexact HI
  isplitl [Hs]
  · iexact Hs
  isplitr [HG]
  · isplitl [Hw]
    · iexact Hw
    · iexists f
      isplitl [Ho]
      · iexact Ho
      · ipureintro; exact hf
  · iexact HG

theorem fill_next (c : Dev nD) (k : ℕ) (hk : k < 16) (off : Fin 2 → ℕ) (ho : off = ![256 * (oseq c k).val, 0])
    (inb : ∀ a, off a + S256x128.size a ≤ S4096x128.size a) (v : S256x128.Idx → Elt F .f32) (hv : v = k0_pay3 (X (oseq c k)) (W c))
    (f : S4096x128.Idx → Elt F .f32) (hf : Fill X W c k f) :
    Fill X W c (k + 1) ((outM.access (Rect.unit (s := S4096x128) off S256x128.size inb)).write (Elt F) f v Finset.univ) := by
  subst ho hv
  intro j hj i
  have e : ∀ (o : Dv) (inb) (i : S256x128.Idx), (outM.access (Rect.unit (s := S4096x128) ![256 * o.val, 0] S256x128.size inb)).emb i = rowOf o i :=
    fun o inb i => funext fun a => Fin.ext ((Rect.emb_apply (Rect.unit (s := S4096x128) ![256 * o.val, 0] S256x128.size inb) i a).trans (congrArg ((![256 * o.val, 0] : Fin 2 → ℕ) a + ·) (Nat.one_mul _)))
  rcases Nat.lt_succ_iff_lt_or_eq.1 hj with h | h
  · rw [View.write_of_not_mem, hf j h i]
    intro hm
    obtain ⟨x, -, hx⟩ := Finset.mem_map.1 hm
    rw [show (outM.access (Rect.unit (s := S4096x128) ![256 * (oseq c k).val, 0] S256x128.size inb)).emb x = rowOf (oseq c k) x from e _ inb x] at hx
    have h0 : 256 * (oseq c k).val + (x 0).val = 256 * (oseq c j).val + (i 0).val := congrArg (fun y => (y 0).val) hx
    have hx0 : (x 0).val < 256 := (x 0).isLt
    have hi0 : (i 0).val < 256 := (i 0).isLt
    have hoo : oseq c j = oseq c k := Fin.ext (by omega)
    have hjk := oseq_inj c ⟨j, by omega⟩ ⟨k, hk⟩ hoo
    exact absurd (congrArg Fin.val hjk) (Nat.ne_of_lt h)
  · subst h
    rw [← e (oseq c j) inb i]
    exact View.write_emb_of_mem _ _ (Finset.mem_univ i)

theorem j_put (G : sProp 𝕄) (c : Dev nD) {Q : α → sProp 𝕄} {n k : ℕ} (hk : k < 16) {off : Fin 2 → ℕ} {o : Dv} (ho : PutOK c k off o)
    {inb : ∀ a, off a + S256x128.size a ≤ S4096x128.size a} {v : S256x128.Idx → Elt F .f32} (hv : v = k0_pay3 (X o) (W c))
    {hx : (outM.access (Rect.unit (s := S4096x128) off S256x128.size inb)).Stores Finset.univ} {hm}
    {kk : PUnit → Prog (TpuEff nD τ sig (Elt F) Λ₀ .tc) α} (h2 : J m X A K W G c n (k + 1) ⊢ WP c (kk ⟨⟩) Q) :
    J m X A K W G c n k ⊢ WP c (.op (.store outM (Rect.unit (s := S4096x128) off S256x128.size inb) v Finset.univ hx hm) kk) Q := by
  refine j_mem m X A K W G c (k' := k + 1) ?_ h2
  unfold Mem
  iintro ⟨Hw, ⟨%f, Ho, %hf⟩⟩ Hk
  have h : _ ⊢ iprop((_ -∗ WP c (kk ⟨⟩) Q) -∗ WP c (.op (.store outM (Rect.unit (s := S4096x128) off S256x128.size inb) v Finset.univ hx hm) kk) Q) :=
    wp_store (defs := defs₀ (F := F)) 𝒱₀ (c : Thread nD τ) none Set.univ (Q := Q) (m := outM) (r := Rect.unit (s := S4096x128) off S256x128.size inb) (w := v) (Mk := Finset.univ)
      (hx := hx) (hm := hm) (k := kk) (S := Finset.univ) (f := f) (Finset.subset_univ _)
  iapply h $$ Ho
  iintro Ho
  iapply Hk
  isplitl [Hw]
  · iexact Hw
  · iexists ((outM.access (Rect.unit (s := S4096x128) off S256x128.size inb)).write (Elt F) f v Finset.univ)
    isplitl [Ho]
    · iexact Ho
    · ipureintro; exact fill_next X W c k hk off ho.1 inb v (by rw [ho.2]; exact hv) f hf

end

/-! ## The semaphores and slots the program names -/

theorem slot5_of (off : Fin 3 → ℕ) (s : Fin 3) (h : off = ![s.val, 0, 0]) (inb : ∀ a, off a + S1x256x4096.size a ≤ S3x256x4096.size a) :
    ((Memref.whole cc0_scratch2 : Memref sig .tc .vmem S3x256x4096 .bf16).slice (Rect.unit (s := S3x256x4096) off S1x256x4096.size inb) (fun _ => rfl)).squeeze S256x4096 squeezes_S1x256x4096_S256x4096
      = slot5 s := by
  subst h; rfl

theorem sem13_0 : (SemLoc.dma ((cc0_scratch10.slice (Rect.unit (s := S3) ![0] S1.size (by decide))).squeeze S_ squeezes_S1_S_).sem : SemLoc sig) = semOf 11 := by decide
theorem sem13_1 : (SemLoc.dma ((cc0_scratch10.slice (Rect.unit (s := S3) ![1] S1.size (by decide))).squeeze S_ squeezes_S1_S_).sem : SemLoc sig) = semOf 12 := by decide
theorem sem13_2 : (SemLoc.dma ((cc0_scratch10.slice (Rect.unit (s := S3) ![2] S1.size (by decide))).squeeze S_ squeezes_S1_S_).sem : SemLoc sig) = semOf 13 := by decide
theorem sem13 (off : Fin 1 → ℕ) (s : Fin 3) (h : off = ![s.val]) (inb : ∀ a, off a + S1.size a ≤ S3.size a) :
    (SemLoc.dma ((cc0_scratch10.slice (Rect.unit (s := S3) off S1.size inb)).squeeze S_ squeezes_S1_S_).sem : SemLoc sig) = semOf (11 + s.val) := by
  subst h; revert s; intro s
  match s with
  | 0 => exact fun _ => sem13_0
  | 1 => exact fun _ => sem13_1
  | 2 => exact fun _ => sem13_2

theorem plM_col (e : Dev nD) (p : Pl) (h : p.val ≠ 0 ∧ p.val < 4) : plM e p = slot5 (col e p.val) := by
  unfold plM; rw [if_neg h.1, if_pos h.2]

/-! ## The steps in the program's own terms -/

section
/-- A transfer of a column's block. -/
theorem x_send (G : sProp 𝕄) (c : Dev nD) {Q : α → sProp 𝕄} {n k : ℕ} (i : Tx) {offR : Fin 1 → ℕ} {offD : Fin 3 → ℕ} {en : ℕ} (h : SendOK c i en offR offD) {hen : en < nD}
    (hn : tSend i.val = n) {kk : PUnit → Prog (TpuEff nD τ sig (Elt F) Λ₀ .tc) α} {src' : Memref sig .tc .vmem S256x4096 .bf16} (hs : src' = plM c (src i))
    {inR : ∀ a, offR a + S1.size a ≤ S3.size a} {inD : ∀ a, offD a + S1x256x4096.size a ≤ S3x256x4096.size a}
    {sS : SemLoc sig} (hS : sS = semOf (locN (c.val / 4) (ceS i).val))
    {hsc} {hsrc : src'.view.WordExact} {hdst} {hsem}
    (h2 : J m X A K W G c (n + 1) k ⊢ WP c (kk ⟨⟩) Q) :
    J m X A K W G c n k ⊢ WP c (.op (.enqueueDma src' (.remote ((⟨en, hen⟩ : Dev nD) : Thread nD τ)
      (((Memref.whole cc0_scratch2 : Memref sig .tc .vmem S3x256x4096 .bf16).slice (Rect.unit (s := S3x256x4096) offD S1x256x4096.size inD) (fun _ => rfl)).squeeze S256x4096 squeezes_S1x256x4096_S256x4096) sS hsc)
      (.dma ((cc0_scratch10.slice (Rect.unit (s := S3) offR S1.size inR)).squeeze S_ squeezes_S1_S_).sem) hsrc hdst hsem) kk) Q :=
  j_send m X A K W G c i h.1 hn h.2.1 hs ((slot5_of offD _ h.2.2.2.2.1 inD).trans (plM_col _ _ h.2.2.1).symm) hS
    ((sem13 offR _ h.2.2.2.1 inR).trans (congrArg semOf h.2.2.2.2.2.symm)) rfl h2

/-- A transfer into a place whose slot does not depend on the device. -/
theorem r_send (G : sProp 𝕄) (c : Dev nD) {Q : α → sProp 𝕄} {n k : ℕ} (i : Tx) {p : Pl} {jS jR : ℕ} {en : ℕ} (h : RingOK c i en p jS jR) {hen : en < nD}
    (hn : tSend i.val = n) {kk : PUnit → Prog (TpuEff nD τ sig (Elt F) Λ₀ .tc) α} {src' dst : Memref sig .tc .vmem S256x4096 .bf16} (hs : src' = plM c (src i))
    (hd : ∀ e, dst = plM e p) {sS sem : SemLoc sig} (hS : sS = semOf jS) (hR : sem = semOf jR)
    {hsc : dst.view.ref.isScScratch = false} {hsrc : src'.view.WordExact} {hdst : dst.view.WordExact}
    {hsem : DmaTarget.Typed .vmem sem (.remote (nD := nD) (τ := τ) ((⟨en, hen⟩ : Dev nD) : Thread nD τ) dst sS hsc)} (hN : dst.view.amount sem = N)
    (h2 : J m X A K W G c (n + 1) k ⊢ WP c (kk ⟨⟩) Q) :
    J m X A K W G c n k ⊢ WP c (.op (.enqueueDma src' (.remote ((⟨en, hen⟩ : Dev nD) : Thread nD τ) dst sS hsc) sem hsrc hdst hsem) kk) Q :=
  j_send m X A K W G c i h.1 hn h.2.1 hs (by rw [h.2.2.1]; exact hd _) (hS.trans (congrArg semOf h.2.2.2.1.symm)) (hR.trans (congrArg semOf h.2.2.2.2.symm)) hN h2

/-- A column's block arrives. -/
theorem x_recv (G : sProp 𝕄) (c : Dev nD) {Q : α → sProp 𝕄} {n k : ℕ} (p : Pl) (hp : p ≠ 0) {offR : Fin 1 → ℕ} (h : GotOK c p offR) (hn : tRecv (c.val / 4) p.val = n)
    {kk : PUnit → Prog (TpuEff nD τ sig (Elt F) Λ₀ .tc) α} {inR : ∀ a, offR a + S1.size a ≤ S3.size a} {s : Memref sig .tc .vmem S256x4096 .bf16}
    {offD : Fin 3 → ℕ} {inD : ∀ a, offD a + S1x256x4096.size a ≤ S3x256x4096.size a} {h3 h4}
    (h2 : J m X A K W G c (n + 1) k ⊢ WP c (kk ⟨⟩) Q) :
    J m X A K W G c n k ⊢ WP c (.op (.waitDma2 ((cc0_scratch10.slice (Rect.unit (s := S3) offR S1.size inR)).squeeze S_ squeezes_S1_S_).sem s
      (((Memref.whole cc0_scratch2 : Memref sig .tc .vmem S3x256x4096 .bf16).slice (Rect.unit (s := S3x256x4096) offD S1x256x4096.size inD) (fun _ => rfl)).squeeze S256x4096 squeezes_S1x256x4096_S256x4096) h3 h4) kk) Q :=
  j_recv m X A K W G c p hp hn (fun _ => rfl) ((sem13 offR _ h.1 inR).trans (congrArg semOf h.2.symm)) rfl h2

/-- A load of a column's block. -/
theorem x_load (G : sProp 𝕄) (c : Dev nD) {Q : α → sProp 𝕄} {n k : ℕ} (p : Pl) (hp : p.val ≠ 0 ∧ p.val < 4) {off : Fin 3 → ℕ} (ho : off = ![(col c p.val).val, 0, 0]) (hl : live c n (keep p) = true)
    {inD : ∀ a, off a + S1x256x4096.size a ≤ S3x256x4096.size a} {h3}
    {kk : (S1x256x4096.Idx → Elt F .bf16) → Prog (TpuEff nD τ sig (Elt F) Λ₀ .tc) α}
    (h2 : J m X A K W G c n k ⊢ WP c (kk (up (X (org c p)))) Q) :
    J m X A K W G c n k ⊢ WP c (.op (.load (Memref.whole cc0_scratch2 : Memref sig .tc .vmem S3x256x4096 .bf16) (Rect.unit (s := S3x256x4096) off S1x256x4096.size inD).toLoadRect h3) kk) Q :=
  j_st m X A K W G c (load_place m X A c n p hl _ ((plM_col c p hp).trans (slot5_of off _ ho inD).symm)) h2

/-- A load of a block of a place whose slot does not depend on the device. -/
theorem r_load (G : sProp 𝕄) (c : Dev nD) {Q : α → sProp 𝕄} {n k : ℕ} (p : Pl) (hl : live c n (keep p) = true) {d : Fin 3 → ℕ} (M : Memref sig .tc .vmem ⟨3, d⟩ .bf16) {off : Fin 3 → ℕ} {inb : ∀ a, off a + S1x256x4096.size a ≤ d a}
    (hM : plM c p = (M.slice (Rect.unit (s := ⟨3, d⟩) off S1x256x4096.size inb) (fun _ => rfl)).squeeze S256x4096 squeezes_S1x256x4096_S256x4096) {h3}
    {kk : (S1x256x4096.Idx → Elt F .bf16) → Prog (TpuEff nD τ sig (Elt F) Λ₀ .tc) α}
    (h2 : J m X A K W G c n k ⊢ WP c (kk (up (X (org c p)))) Q) :
    J m X A K W G c n k ⊢ WP c (.op (.load M (Rect.unit (s := ⟨3, d⟩) off S1x256x4096.size inb).toLoadRect h3) kk) Q :=
  j_st m X A K W G c (load_place m X A c n p hl M hM) h2

/-- A load of the device's own block. -/
theorem o_load (G : sProp 𝕄) (c : Dev nD) {Q : α → sProp 𝕄} {n k : ℕ} (hl : live c n (keep 0) = true)
    {inb : ∀ a, (![0, 0] : Fin 2 → ℕ) a + S256x4096.size a ≤ S256x4096.size a} {h3}
    {kk : (S256x4096.Idx → Elt F .bf16) → Prog (TpuEff nD τ sig (Elt F) Λ₀ .tc) α}
    (h2 : J m X A K W G c n k ⊢ WP c (kk (X c)) Q) :
    J m X A K W G c n k ⊢ WP c (.op (.load xbM (Rect.unit (s := S256x4096) ![0, 0] S256x4096.size inb).toLoadRect h3) kk) Q :=
  j_st m X A K W G c (load_own m X A c n hl) h2

end

/-- A block as it lies in a slot, brought back to its shape. -/
theorem cast_up (x : S256x4096.Idx → Elt F .bf16) : shapeCast S256x4096 (up x) shapeCasts_S1x256x4096_S256x4096 = x :=
  funext fun j => congrArg x (Equiv.symm_apply_apply (Shape.reshapeEquiv (s := S1x256x4096) (s' := S256x4096) squeezes_S1x256x4096_S256x4096.numel_eq) j)

theorem pay5_up (x : S256x4096.Idx → Elt F .bf16) (w : S4096x128.Idx → Elt F .bf16) : k0_pay5 (up x) w = k0_pay3 x w := by
  unfold k0_pay5 k0_pay3
  rw [cast_up]

/-- A piece of the program on the device's buffers and semaphores. -/
abbrev ap {β : Type 1} (f : (arg0 : Memref sig .tc .vmem S256x4096 .f32) → (harg0 : arg0.IsWhole) → (arg1 : Memref sig .tc .vmem S4096x128 .f32) → (harg1 : arg1.IsWhole) → (arg2 : Memref sig .tc .vmem S4096x128 .f32) → (harg2 : arg2.IsWhole) → (arg3 : Memref sig .tc .vmem S256x4096 .bf16) → (harg3 : arg3.IsWhole) → (arg4 : Memref sig .tc .vmem S4096x128 .bf16) → (harg4 : arg4.IsWhole) → (arg5 : Memref sig .tc .vmem S3x256x4096 .bf16) → (harg5 : arg5.IsWhole) → (arg6 : Memref sig .tc .vmem S4x256x4096 .bf16) → (harg6 : arg6.IsWhole) → (arg7 : Memref sig .tc .vmem S4x256x4096 .bf16) → (harg7 : arg7.IsWhole) → (arg8 : Memref sig .tc .vmem S2x256x4096 .bf16) → (harg8 : arg8.IsWhole) → (arg9 : Memref sig .tc .vmem S8x128 .f32) → (harg9 : arg9.IsWhole) → (arg10 : Memref sig .tc .vmem S15x8x128 .f32) → (harg10 : arg10.IsWhole) → (arg11 : DmaSems sig S4) → (arg12 : DmaSems sig S4) → (arg13 : DmaSems sig S3) → (arg14 : DmaSems sig S4) → (arg15 : DmaSems sig S4) → (arg16 : DmaSems sig S4) → (arg17 : DmaSems sig S4) → (arg18 : DmaSems sig S4) → (arg19 : DmaSems sig S4) → (arg20 : DmaSems sig S15) → (arg21 : DmaSems sig S15) → (arg22 : Sems sig S_) → (arg23 : Sems sig S_) → β) : β :=
  f (stage0_0 0) (hstage0_0 0) (stage0_1 0) (hstage0_1 0) (stage0_2 0) (hstage0_2 0) (Memref.whole cc0_scratch0) (Memref.isWhole_whole _) (Memref.whole cc0_scratch1) (Memref.isWhole_whole _)
    (Memref.whole cc0_scratch2) (Memref.isWhole_whole _) (Memref.whole cc0_scratch3) (Memref.isWhole_whole _) (Memref.whole cc0_scratch4) (Memref.isWhole_whole _) (Memref.whole cc0_scratch5) (Memref.isWhole_whole _)
    (Memref.whole cc0_scratch6) (Memref.isWhole_whole _) (Memref.whole cc0_scratch7) (Memref.isWhole_whole _) cc0_scratch8 cc0_scratch9 cc0_scratch10 cc0_scratch11 cc0_scratch12 cc0_scratch13 cc0_scratch14
    cc0_scratch15 cc0_scratch16 cc0_scratch17 cc0_scratch18 cc0_scratch19 cc0_scratch20

end Cert.KernelIdeal.Pf

end
-- ==== Proof.KIPartsA.lean ====
module

public import proofs.«01_k».proof.Proof.KIStepsC

/-!
# The first half of the program: the columns' and the rings' transfers

Each piece takes the state before it to the state after it.
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)
variable (K : Dev nD × Ce → ℕ)
variable (W : Dev nD → S4096x128.Idx → Elt F .bf16)

/-! ## The largest value, as it grows -/

/-- What came from place `p`. -/
abbrev bl (c : Dev nD) (p : Pl) : S1x256x4096.Idx → Elt F .bf16 := up (X (org c p))

/-- A slot of the columns' buffer, by the place it is. -/
theorem src5 (c : Dev nD) (p : Pl) (hp : p.val ≠ 0 ∧ p.val < 4) {off : Fin 3 → ℕ} (h : off = ![(col c p.val).val, 0, 0]) (inb : ∀ a, off a + S1x256x4096.size a ≤ S3x256x4096.size a) :
    ((Memref.whole cc0_scratch2 : Memref sig .tc .vmem S3x256x4096 .bf16).slice (Rect.unit (s := S3x256x4096) off S1x256x4096.size inb) (fun _ => rfl)).squeeze S256x4096 squeezes_S1x256x4096_S256x4096
      = plM c p := (slot5_of off _ h inb).trans (plM_col c p hp).symm

theorem pay9_up (x : S256x4096.Idx → Elt F .bf16) (w : S4096x128.Idx → Elt F .bf16) : k0_pay9 (up x) w = k0_pay3 x w := pay5_up x w

theorem p4 (G : sProp 𝕄) (c : Dev nD) (v2 v20 v24 v28 v34 v54 : BitVec 32) :
    J m X A K W G c 7 0 ⊢ WP c (ap (k0_part4 (F := F)) c v2 v20 v24 v28 v34 v54) (Post m X A K W G c 10 1 fun r => r.1 = k0_pay4 (X c) (W c)) := by
  rw [k0_part4_eq_skeleton]
  unfold ap k0_part4_skel
  extract_lets -underBinder +onlyGivenNames jp
  suffices hjp : J m X A K W G c 8 0 ⊢ WP c (jp ⟨⟩) (Post m X A K W G c 10 1 fun r => r.1 = k0_pay4 (X c) (W c)) by
    clear_value jp
    simp (proj := false) only [Prog.lift, Prog.bind_op, Prog.bind_ret, Prog.pure_eq_ret]
    split
    · next h => exact x_send m X A K W G c 4 (dn0_ok c h) rfl rfl rfl hjp
    · next h => exact j_skip m X A K W G c (nosend_skip m X A c 4 (dn0_no c h)) hjp
  simp (zeta := false) (zetaHave := false) (proj := false) only [jp, Prog.bind_op, Prog.bind_ret, Prog.pure_eq_ret]
  refine r_send m X A K W G c 8 (cw0_ok c) rfl rfl (fun _ => rfl) rfl rfl rfl ?_
  refine r_send m X A K W G c 12 (cc0_ok c) rfl rfl (fun _ => rfl) rfl rfl rfl ?_
  refine o_load m X A K W G c ((show ∀ c : Dv, live c 10 (keep 0) = true by decide +kernel) c) ?_
  refine j_wb m X A K W G c ?_
  refine j_out m X A K W G c fun _ => ?_
  refine j_put m X A K W G c (by decide) (g0 c) rfl ?_
  exact j_ret m X A K W G c rfl

theorem p5 (G : sProp 𝕄) (c : Dev nD) (v20 v24 v34 v40 v50 v54 : BitVec 32) (v122 : BitVec 1) (v123 : BitVec 32) :
    J m X A K W G c 10 1 ⊢ WP c (ap (k0_part5 (F := F)) c v20 v24 v34 v40 v50 v54 v122 v123) (Post m X A K W G c 13 1 fun _ => True) := by
  rw [k0_part5_eq_skeleton]
  unfold ap k0_part5_skel
  simp (zeta := false) (zetaHave := false) (proj := false) only [Prog.lift, Prog.bind_op, Prog.bind_ret, Prog.pure_eq_ret]
  refine x_recv m X A K W G c (n := 10) 1 (by decide) (x1_ok c) rfl ?_
  extract_lets -underBinder +onlyGivenNames v140 v141 v142 v143 v144 v145 jp
  suffices hjp : J m X A K W G c 12 1 ⊢ WP c (jp ⟨⟩) (Post m X A K W G c 13 1 fun _ => True) by
    clear_value jp
    simp (proj := false) only [Prog.lift, Prog.bind_op, Prog.bind_ret, Prog.pure_eq_ret]
    split
    · next h => exact x_send m X A K W G c 1 (up1_ok c h).1 rfl (src5 c 1 (by decide) (up1_ok c h).2 _) rfl hjp
    · next h => exact j_skip m X A K W G c (nosend_skip m X A c 1 (up1_no c h)) hjp
  simp (zeta := false) (zetaHave := false) (proj := false) only [jp, Prog.bind_op, Prog.bind_ret, Prog.pure_eq_ret]
  extract_lets -underBinder +onlyGivenNames jp
  suffices hjp : J m X A K W G c 13 1 ⊢ WP c (jp ⟨⟩) (Post m X A K W G c 13 1 fun _ => True) by
    clear_value jp
    simp (proj := false) only [Prog.lift, Prog.bind_op, Prog.bind_ret, Prog.pure_eq_ret]
    split
    · next h => exact x_send m X A K W G c 5 (dn1_ok c h).1 rfl (src5 c 1 (by decide) (dn1_ok c h).2 _) rfl hjp
    · next h => exact j_skip m X A K W G c (nosend_skip m X A c 5 (dn1_no c h)) hjp
  simp (zeta := false) (zetaHave := false) (proj := false) only [jp, Prog.bind_op, Prog.bind_ret, Prog.pure_eq_ret]
  exact j_ret m X A K W G c trivial

theorem p6 (G : sProp 𝕄) (c : Dev nD) (v20 v24 v28 v34 v40 v50 v54 : BitVec 32) (v152 : BitVec 1) :
    J m X A K W G c 13 1 ⊢ WP c (ap (k0_part6 (F := F)) c v20 v24 v28 v34 v40 v50 v54 v152) (Post m X A K W G c 18 1 fun _ => True) := by
  rw [k0_part6_eq_skeleton]
  unfold ap k0_part6_skel
  simp (zeta := false) (zetaHave := false) (proj := false) only [Prog.lift, Prog.bind_op, Prog.bind_ret, Prog.pure_eq_ret]
  extract_lets -underBinder +onlyGivenNames v162 v163 v164 v165 v166 v167 jp
  suffices hjp : J m X A K W G c 16 1 ⊢ WP c (jp ⟨⟩) (Post m X A K W G c 18 1 fun _ => True) by
    clear_value jp
    split
    · next h =>
      have e : tRecv (c.val / 4) (2 : Pl).val = 13 := by
        show (bif inner (c.val / 4) then 13 else 20) = 13
        rw [(x2_in c h).2]; rfl
      extract_lets -underBinder +onlyGivenNames v1132 v1133 v1134 v1135
      refine x_recv m X A K W G c (n := 13) 2 (by decide) (x2_in c h).1 e ?_
      extract_lets -underBinder +onlyGivenNames jq
      suffices hjq : J m X A K W G c 15 1 ⊢ WP c (jq ⟨⟩) (Post m X A K W G c 18 1 fun _ => True) by
        clear_value jq
        dsimp (proj := false) only
        split
        · next h' => exact x_send m X A K W G c 2 (up2_ok c h h').1 rfl (src5 c 2 (by decide) (up2_ok c h h').2 _) rfl hjq
        · next h' => exact j_skip m X A K W G c (nosend_skip m X A c 2 (up2_no c (Or.inr h'))) hjq
      simp (zeta := false) (zetaHave := false) (proj := false) only [jq, Prog.bind_op, Prog.bind_ret, Prog.pure_eq_ret]
      dsimp (proj := false) only
      split
      · next h' => exact x_send m X A K W G c 6 (dn2_ok c h h').1 rfl (src5 c 2 (by decide) (dn2_ok c h h').2 _) rfl hjp
      · next h' => exact j_skip m X A K W G c (nosend_skip m X A c 6 (dn2_no c (Or.inr h'))) hjp
    · next h =>
      have e := norecv_skip m X A c
      rw [x2_nin c h] at e
      refine j_skip m X A K W G c (n' := 14) ?_ ?_
      · exact e
      refine j_skip m X A K W G c (nosend_skip m X A c 2 (up2_no c (Or.inl h))) ?_
      exact j_skip m X A K W G c (nosend_skip m X A c 6 (dn2_no c (Or.inl h))) hjp
  simp (proj := false) only [jp, Prog.bind_op, Prog.bind_ret, Prog.pure_eq_ret]
  refine j_recv m X A K W G c (n := 16) 4 (by decide) rfl (fun _ => rfl) rfl rfl ?_
  refine j_recv m X A K W G c (n := 17) 8 (by decide) rfl (fun _ => rfl) rfl rfl ?_
  exact j_ret m X A K W G c trivial

theorem p7 (G : sProp 𝕄) (c : Dev nD) (v3 v20 v28 : BitVec 32) :
    J m X A K W G c 18 1 ⊢ WP c (ap (k0_part7 (F := F)) c v3 v20 v28) (Post m X A K W G c 20 2 fun r => r = k0_pay6 (bl X c 4) (W c)) := by
  rw [k0_part7_eq_skeleton]
  unfold ap k0_part7_skel
  simp (proj := false) only [Prog.lift, Prog.bind_op, Prog.bind_ret, Prog.pure_eq_ret]
  refine r_send m X A K W G c 9 (cw1_ok c) rfl (src5 c 1 (by decide) (src1 c) _) (fun _ => rfl) rfl rfl rfl ?_
  refine r_send m X A K W G c 13 (cc1_ok c) rfl (src5 c 1 (by decide) (src1 c) _) (fun _ => rfl) rfl rfl rfl ?_
  refine r_load m X A K W G c 4 ((show ∀ c : Dv, live c 20 (keep 4) = true by decide +kernel) c) (Memref.whole cc0_scratch3) rfl ?_
  refine j_wb m X A K W G c ?_
  refine j_out m X A K W G c fun _ => ?_
  refine j_put m X A K W G c (by decide) (g1 c) (pay5_up _ _) ?_
  exact j_ret m X A K W G c rfl

theorem p8 (G : sProp 𝕄) (c : Dev nD) (v3 v20 v34 : BitVec 32) (v121 : F .f32) (v220 : FVec F S1x1x1 .f32) :
    J m X A K W G c 20 2 ⊢ WP c (ap (k0_part8 (F := F)) c v3 v20 v34 v121 v220) (Post m X A K W G c 20 4 fun r => r.1 = k0_pay8 v121 v220 (bl X c 8) (W c) ∧ r.2 = k0_pay9 (bl X c 1) (W c)) := by
  rw [k0_part8_eq_skeleton]
  unfold ap k0_part8_skel
  simp (proj := false) only [Prog.lift, Prog.bind_op, Prog.bind_ret, Prog.pure_eq_ret]
  refine r_load m X A K W G c 8 ((show ∀ c : Dv, live c 20 (keep 8) = true by decide +kernel) c) (Memref.whole cc0_scratch4) rfl ?_
  refine j_wb m X A K W G c ?_
  refine j_out m X A K W G c fun _ => ?_
  refine j_put m X A K W G c (by decide) (g2 c) (pay5_up _ _) ?_
  refine x_load m X A K W G c 1 (by decide) (ld1 c) ((show ∀ c : Dv, live c 20 (keep 1) = true by decide +kernel) c) ?_
  refine j_wb m X A K W G c ?_
  refine j_out m X A K W G c fun _ => ?_
  refine j_put m X A K W G c (by decide) (g3 c) (pay5_up _ _) ?_
  exact j_ret m X A K W G c ⟨rfl, rfl⟩

theorem p9 (G : sProp 𝕄) (c : Dev nD) (v20 v24 v28 v40 : BitVec 32) (v152 : BitVec 1) (v240 : F .f32) (v252 : FVec F S256x128 .f32) :
    J m X A K W G c 20 4 ⊢ WP c (ap (k0_part9 (F := F)) c v20 v24 v28 v40 v152 v240 v252) (Post m X A K W G c 23 4 fun r => r = k0_pay10 v240 v252) := by
  rw [k0_part9_eq_skeleton]
  unfold ap k0_part9_skel
  extract_lets -underBinder +onlyGivenNames jp
  suffices hjp : J m X A K W G c 21 4 ⊢ WP c (jp ⟨⟩) (Post m X A K W G c 23 4 fun r => r = k0_pay10 v240 v252) by
    clear_value jp
    simp (proj := false) only [Prog.lift, Prog.bind_op, Prog.bind_ret, Prog.pure_eq_ret]
    split
    · next h =>
      have e : tRecv (c.val / 4) (2 : Pl).val = 20 := by
        show (bif inner (c.val / 4) then 13 else 20) = 20
        rw [(x2_out c h).2]; rfl
      exact x_recv m X A K W G c (n := 20) 2 (by decide) (x2_out c h).1 e hjp
    · next h =>
      have e := norecv_skip m X A c
      rw [x2_nout c h] at e
      exact j_skip m X A K W G c (n' := 21) e hjp
  simp (proj := false) only [jp, Prog.lift, Prog.bind_op, Prog.bind_ret, Prog.pure_eq_ret]
  refine j_recv m X A K W G c (n := 21) 5 (by decide) rfl (fun _ => rfl) rfl rfl ?_
  refine j_recv m X A K W G c (n := 22) 9 (by decide) rfl (fun _ => rfl) rfl rfl ?_
  exact j_ret m X A K W G c rfl

theorem p10 (G : sProp 𝕄) (c : Dev nD) (v3 v28 v34 : BitVec 32) :
    J m X A K W G c 23 4 ⊢ WP c (ap (k0_part10 (F := F)) c v3 v28 v34) (Post m X A K W G c 25 5 fun r => r = k0_pay12 (bl X c 5) (W c)) := by
  rw [k0_part10_eq_skeleton]
  unfold ap k0_part10_skel
  simp (proj := false) only [Prog.lift, Prog.bind_op, Prog.bind_ret, Prog.pure_eq_ret]
  refine r_send m X A K W G c 10 (cw2_ok c) rfl (src5 c 2 (by decide) (src2 c) _) (fun _ => rfl) rfl rfl rfl ?_
  refine r_send m X A K W G c 14 (cc2_ok c) rfl (src5 c 2 (by decide) (src2 c) _) (fun _ => rfl) rfl rfl rfl ?_
  refine r_load m X A K W G c 5 ((show ∀ c : Dv, live c 25 (keep 5) = true by decide +kernel) c) (Memref.whole cc0_scratch3) rfl ?_
  refine j_wb m X A K W G c ?_
  refine j_out m X A K W G c fun _ => ?_
  refine j_put m X A K W G c (by decide) (g4 c) (pay5_up _ _) ?_
  exact j_ret m X A K W G c rfl

theorem p11 (G : sProp 𝕄) (c : Dev nD) (v3 v20 v34 v40 : BitVec 32) (v260 : F .f32) (v316 : FVec F S1x256x128 .f32) :
    J m X A K W G c 25 5 ⊢ WP c (ap (k0_part11 (F := F)) c v3 v20 v34 v40 v260 v316) (Post m X A K W G c 25 6 fun r => r.1 = k0_pay14 v260 v316 (bl X c 9) (W c) ∧ r.2 = k0_pay15 (bl X c 2) (W c)) := by
  rw [k0_part11_eq_skeleton]
  unfold ap k0_part11_skel
  simp (proj := false) only [Prog.lift, Prog.bind_op, Prog.bind_ret, Prog.pure_eq_ret]
  refine r_load m X A K W G c 9 ((show ∀ c : Dv, live c 25 (keep 9) = true by decide +kernel) c) (Memref.whole cc0_scratch4) rfl ?_
  refine j_wb m X A K W G c ?_
  refine j_out m X A K W G c fun _ => ?_
  refine j_put m X A K W G c (by decide) (g5 c) (pay5_up _ _) ?_
  refine x_load m X A K W G c 2 (by decide) (ld2 c) ((show ∀ c : Dv, live c 25 (keep 2) = true by decide +kernel) c) ?_
  refine j_wb m X A K W G c ?_
  exact j_ret m X A K W G c ⟨rfl, rfl⟩

theorem p12 (G : sProp 𝕄) (c : Dev nD) (v20 v24 v46 v50 v54 : BitVec 32) (v338 : F .f32) :
    J m X A K W G c 25 6 ⊢ WP c (ap (k0_part12 (F := F)) c v20 v24 v46 v50 v54 v338 (k0_pay15 (bl X c 2) (W c))) (Post m X A K W G c 28 7 fun r => r.1 = k0_pay16 v338 (k0_pay15 (bl X c 2) (W c))) := by
  rw [k0_part12_eq_skeleton]
  unfold ap k0_part12_skel
  simp (zeta := false) (zetaHave := false) (proj := false) only [Prog.lift, Prog.bind_op, Prog.bind_ret, Prog.pure_eq_ret]
  refine j_out m X A K W G c fun _ => ?_
  refine j_put m X A K W G c (by decide) (g6 c) (pay5_up _ _) ?_
  refine x_recv m X A K W G c (n := 25) 3 (by decide) (x3_ok c) rfl ?_
  extract_lets -underBinder +onlyGivenNames v377 v378 v379 v380 v381 v382 jp
  suffices hjp : J m X A K W G c 27 7 ⊢ WP c (jp ⟨⟩) (Post m X A K W G c 28 7 fun r => r.1 = k0_pay16 v338 (k0_pay15 (bl X c 2) (W c))) by
    clear_value jp
    simp (proj := false) only [Prog.lift, Prog.bind_op, Prog.bind_ret, Prog.pure_eq_ret]
    split
    · next h => exact x_send m X A K W G c 3 (up3_ok c h).1 rfl (src5 c 3 (by decide) (up3_ok c h).2 _) rfl hjp
    · next h => exact j_skip m X A K W G c (nosend_skip m X A c 3 (up3_no c h)) hjp
  simp (zeta := false) (zetaHave := false) (proj := false) only [jp, Prog.bind_op, Prog.bind_ret, Prog.pure_eq_ret]
  extract_lets -underBinder +onlyGivenNames jp
  suffices hjp : J m X A K W G c 28 7 ⊢ WP c (jp ⟨⟩) (Post m X A K W G c 28 7 fun r => r.1 = k0_pay16 v338 (k0_pay15 (bl X c 2) (W c))) by
    clear_value jp
    simp (proj := false) only [Prog.lift, Prog.bind_op, Prog.bind_ret, Prog.pure_eq_ret]
    split
    · next h => exact x_send m X A K W G c 7 (dn3_ok c h).1 rfl (src5 c 3 (by decide) (dn3_ok c h).2 _) rfl hjp
    · next h => exact j_skip m X A K W G c (nosend_skip m X A c 7 (dn3_no c h)) hjp
  simp (zeta := false) (zetaHave := false) (proj := false) only [jp, Prog.bind_op, Prog.bind_ret, Prog.pure_eq_ret]
  exact j_ret m X A K W G c rfl

theorem p13 (G : sProp 𝕄) (c : Dev nD) (v20 v24 v28 v46 c1 : BitVec 32) :
    J m X A K W G c 28 7 ⊢ WP c (ap (k0_part13 (F := F)) c v20 v24 v28 v46 c1) (Post m X A K W G c 31 7 fun _ => True) := by
  rw [k0_part13_eq_skeleton]
  unfold ap k0_part13_skel
  simp (proj := false) only [Prog.lift, Prog.bind_op, Prog.bind_ret, Prog.pure_eq_ret]
  refine j_recv m X A K W G c (n := 28) 6 (by decide) rfl (fun _ => rfl) rfl rfl ?_
  refine j_recv m X A K W G c (n := 29) 10 (by decide) rfl (fun _ => rfl) rfl rfl ?_
  refine r_send m X A K W G c 11 (cw3_ok c) rfl (src5 c 3 (by decide) (src3 c) _) (fun _ => rfl) rfl rfl rfl ?_
  exact j_ret m X A K W G c trivial

end Cert.KernelIdeal.Pf

end
-- ==== Proof.KIPartsC.lean ====
module

public import proofs.«01_k».proof.Proof.KIPartsA

/-!
# The last part of the program: the maxima go round
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)
variable (K : Dev nD × Ce → ℕ)
variable (W : Dev nD → S4096x128.Idx → Elt F .bf16)

/-- A load of the maximum's buffer before it is written. -/
theorem j_rawMax {α : Type} (G : sProp 𝕄) (c : Dev nD) {Q : α → sProp 𝕄} {k : ℕ} {r : LoadRect S8x128} {hl : amM.view.LoadsAt r}
    {kk : (r.shape.Idx → Elt F .f32) → Prog (TpuEff nD τ sig (Elt F) Λ₀ .tc) α} (h2 : ∀ v, J m X A K W G c 66 k ⊢ WP c (kk v) Q) :
    J m X A K W G c 66 k ⊢ WP c (.op (.load amM r hl) kk) Q := by
  unfold J at *
  iintro ⟨#HI, Hs, HM⟩
  iapply (load_rawMax m X A c) $$ Hs
  iintro %v Hs
  iapply (h2 v)
  isplitr
  · iexact HI
  isplitl [Hs]
  · iexact Hs
  · iexact HM

/-- The `d`-th of the others' maxima, as it is read. -/
abbrev mx (c : Dev nD) (d : Fin 15) : S1x1x1.Idx → Elt F .f32 := first (A (mfrom c d))

theorem p26 (G : sProp 𝕄) (c : Dev nD) (v2 : BitVec 32) (v681 : F .f32) (hA : A c = k0_pay36 v681) :
    J m X A K W G c 64 16 ⊢ WP c (ap (k0_part26 (F := F)) c v2 v681) (Post m X A K W G c 68 16 fun _ => True) := by
  rw [k0_part26_eq_skeleton]
  unfold ap k0_part26_skel
  simp (proj := false) only [Prog.lift, Prog.bind_op, Prog.bind_ret, Prog.pure_eq_ret]
  refine j_done m X A K W G c 18 ((show ∀ c : Dv, act c 18 = true by decide +kernel) c) rfl (fun _ => rfl) rfl rfl ?_
  refine j_done m X A K W G c 19 ((show ∀ c : Dv, act c 19 = true by decide +kernel) c) rfl (fun _ => rfl) rfl rfl ?_
  refine j_rawMax m X A K W G c fun _ => ?_
  refine j_st m X A K W G c (step_putMax m X A c hA.symm) ?_
  refine j_sendMax m X A K W G c (n := 67) 0 rfl (by exact (show ∀ c : Dv, k0_dev27 c = (mpeer c 0).val by decide +kernel) c) rfl rfl rfl rfl rfl ?_
  exact j_ret m X A K W G c trivial

theorem p27 (G : sProp 𝕄) (c : Dev nD) (v2 : BitVec 32) :
    J m X A K W G c 68 16 ⊢ WP c (ap (k0_part27 (F := F)) c v2) (Post m X A K W G c 71 16 fun _ => True) := by
  rw [k0_part27_eq_skeleton]
  unfold ap k0_part27_skel
  simp (proj := false) only [Prog.lift, Prog.bind_op, Prog.bind_ret, Prog.pure_eq_ret]
  refine j_sendMax m X A K W G c (n := 68) 1 rfl (by exact (show ∀ c : Dv, k0_dev28 c = (mpeer c 1).val by decide +kernel) c) rfl rfl rfl rfl rfl ?_
  refine j_sendMax m X A K W G c (n := 69) 2 rfl (by exact (show ∀ c : Dv, k0_dev29 c = (mpeer c 2).val by decide +kernel) c) rfl rfl rfl rfl rfl ?_
  refine j_sendMax m X A K W G c (n := 70) 3 rfl (by exact (show ∀ c : Dv, k0_dev30 c = (mpeer c 3).val by decide +kernel) c) rfl rfl rfl rfl rfl ?_
  exact j_ret m X A K W G c trivial

theorem p28 (G : sProp 𝕄) (c : Dev nD) (v2 : BitVec 32) :
    J m X A K W G c 71 16 ⊢ WP c (ap (k0_part28 (F := F)) c v2) (Post m X A K W G c 74 16 fun _ => True) := by
  rw [k0_part28_eq_skeleton]
  unfold ap k0_part28_skel
  simp (proj := false) only [Prog.lift, Prog.bind_op, Prog.bind_ret, Prog.pure_eq_ret]
  refine j_sendMax m X A K W G c (n := 71) 4 rfl (by exact (show ∀ c : Dv, k0_dev31 c = (mpeer c 4).val by decide +kernel) c) rfl rfl rfl rfl rfl ?_
  refine j_sendMax m X A K W G c (n := 72) 5 rfl (by exact (show ∀ c : Dv, k0_dev32 c = (mpeer c 5).val by decide +kernel) c) rfl rfl rfl rfl rfl ?_
  refine j_sendMax m X A K W G c (n := 73) 6 rfl (by exact (show ∀ c : Dv, k0_dev33 c = (mpeer c 6).val by decide +kernel) c) rfl rfl rfl rfl rfl ?_
  exact j_ret m X A K W G c trivial

theorem p29 (G : sProp 𝕄) (c : Dev nD) (v2 : BitVec 32) :
    J m X A K W G c 74 16 ⊢ WP c (ap (k0_part29 (F := F)) c v2) (Post m X A K W G c 77 16 fun _ => True) := by
  rw [k0_part29_eq_skeleton]
  unfold ap k0_part29_skel
  simp (proj := false) only [Prog.lift, Prog.bind_op, Prog.bind_ret, Prog.pure_eq_ret]
  refine j_sendMax m X A K W G c (n := 74) 7 rfl (by exact (show ∀ c : Dv, k0_dev34 c = (mpeer c 7).val by decide +kernel) c) rfl rfl rfl rfl rfl ?_
  refine j_sendMax m X A K W G c (n := 75) 8 rfl (by exact (show ∀ c : Dv, k0_dev35 c = (mpeer c 8).val by decide +kernel) c) rfl rfl rfl rfl rfl ?_
  refine j_sendMax m X A K W G c (n := 76) 9 rfl (by exact (show ∀ c : Dv, k0_dev36 c = (mpeer c 9).val by decide +kernel) c) rfl rfl rfl rfl rfl ?_
  exact j_ret m X A K W G c trivial

theorem p30 (G : sProp 𝕄) (c : Dev nD) (v2 : BitVec 32) :
    J m X A K W G c 77 16 ⊢ WP c (ap (k0_part30 (F := F)) c v2) (Post m X A K W G c 80 16 fun _ => True) := by
  rw [k0_part30_eq_skeleton]
  unfold ap k0_part30_skel
  simp (proj := false) only [Prog.lift, Prog.bind_op, Prog.bind_ret, Prog.pure_eq_ret]
  refine j_sendMax m X A K W G c (n := 77) 10 rfl (by exact (show ∀ c : Dv, k0_dev37 c = (mpeer c 10).val by decide +kernel) c) rfl rfl rfl rfl rfl ?_
  refine j_sendMax m X A K W G c (n := 78) 11 rfl (by exact (show ∀ c : Dv, k0_dev38 c = (mpeer c 11).val by decide +kernel) c) rfl rfl rfl rfl rfl ?_
  refine j_sendMax m X A K W G c (n := 79) 12 rfl (by exact (show ∀ c : Dv, k0_dev39 c = (mpeer c 12).val by decide +kernel) c) rfl rfl rfl rfl rfl ?_
  exact j_ret m X A K W G c trivial

theorem p31 (G : sProp 𝕄) (c : Dev nD) (v2 : BitVec 32) (v681 : F .f32) (v773 v783 : BitVec 32) :
    J m X A K W G c 80 16 ⊢ WP c (ap (k0_part31 (F := F)) c v2 v681 v773 v783) (Post m X A K W G c 84 16 fun r => r.2 = k0_pay37 v681 (mx A c 0)) := by
  rw [k0_part31_eq_skeleton]
  unfold ap k0_part31_skel
  simp (proj := false) only [Prog.lift, Prog.bind_op, Prog.bind_ret, Prog.pure_eq_ret]
  refine j_sendMax m X A K W G c (n := 80) 13 rfl (by exact (show ∀ c : Dv, k0_dev40 c = (mpeer c 13).val by decide +kernel) c) rfl rfl rfl rfl rfl ?_
  refine j_sendMax m X A K W G c (n := 81) 14 rfl (by exact (show ∀ c : Dv, k0_dev41 c = (mpeer c 14).val by decide +kernel) c) rfl rfl rfl rfl rfl ?_
  refine j_recvMax m X A K W G c (n := 82) 0 rfl (fun _ => rfl) rfl rfl ?_
  refine j_st m X A K W G c (load_max m X A c 83 0 ((show ∀ c : Dv, live c 83 (mgot 0) = true by decide +kernel) c) rfl) ?_
  refine j_recvMax m X A K W G c (n := 83) 1 rfl (fun _ => rfl) rfl rfl ?_
  exact j_ret m X A K W G c rfl

theorem p32 (G : sProp 𝕄) (c : Dev nD) (w0 w1 w2 : BitVec 32) (v : F .f32) :
    J m X A K W G c 84 16 ⊢ WP c (ap (k0_part32 (F := F)) w0 w1 w2 v) (Post m X A K W G c 87 16 fun r => r = k0_pay38 v (mx A c 1) (mx A c 2) (mx A c 3)) := by
  rw [k0_part32_eq_skeleton]
  unfold ap k0_part32_skel
  simp (proj := false) only [Prog.lift, Prog.bind_op, Prog.bind_ret, Prog.pure_eq_ret]
  refine j_st m X A K W G c (load_max m X A c 84 1 ((show ∀ c : Dv, live c 84 (mgot 1) = true by decide +kernel) c) rfl) ?_
  refine j_recvMax m X A K W G c (n := 84) 2 rfl (fun _ => rfl) rfl rfl ?_
  refine j_st m X A K W G c (load_max m X A c 85 2 ((show ∀ c : Dv, live c 85 (mgot 2) = true by decide +kernel) c) rfl) ?_
  refine j_recvMax m X A K W G c (n := 85) 3 rfl (fun _ => rfl) rfl rfl ?_
  refine j_st m X A K W G c (load_max m X A c 86 3 ((show ∀ c : Dv, live c 86 (mgot 3) = true by decide +kernel) c) rfl) ?_
  refine j_recvMax m X A K W G c (n := 86) 4 rfl (fun _ => rfl) rfl rfl ?_
  exact j_ret m X A K W G c rfl

theorem p33 (G : sProp 𝕄) (c : Dev nD) (w0 w1 w2 : BitVec 32) (v : F .f32) :
    J m X A K W G c 87 16 ⊢ WP c (ap (k0_part33 (F := F)) w0 w1 w2 v) (Post m X A K W G c 90 16 fun r => r = k0_pay39 v (mx A c 4) (mx A c 5) (mx A c 6)) := by
  rw [k0_part33_eq_skeleton]
  unfold ap k0_part33_skel
  simp (proj := false) only [Prog.lift, Prog.bind_op, Prog.bind_ret, Prog.pure_eq_ret]
  refine j_st m X A K W G c (load_max m X A c 87 4 ((show ∀ c : Dv, live c 87 (mgot 4) = true by decide +kernel) c) rfl) ?_
  refine j_recvMax m X A K W G c (n := 87) 5 rfl (fun _ => rfl) rfl rfl ?_
  refine j_st m X A K W G c (load_max m X A c 88 5 ((show ∀ c : Dv, live c 88 (mgot 5) = true by decide +kernel) c) rfl) ?_
  refine j_recvMax m X A K W G c (n := 88) 6 rfl (fun _ => rfl) rfl rfl ?_
  refine j_st m X A K W G c (load_max m X A c 89 6 ((show ∀ c : Dv, live c 89 (mgot 6) = true by decide +kernel) c) rfl) ?_
  refine j_recvMax m X A K W G c (n := 89) 7 rfl (fun _ => rfl) rfl rfl ?_
  exact j_ret m X A K W G c rfl

theorem p34 (G : sProp 𝕄) (c : Dev nD) (w0 w1 w2 : BitVec 32) (v : F .f32) :
    J m X A K W G c 90 16 ⊢ WP c (ap (k0_part34 (F := F)) w0 w1 w2 v) (Post m X A K W G c 93 16 fun r => r = k0_pay40 v (mx A c 7) (mx A c 8) (mx A c 9)) := by
  rw [k0_part34_eq_skeleton]
  unfold ap k0_part34_skel
  simp (proj := false) only [Prog.lift, Prog.bind_op, Prog.bind_ret, Prog.pure_eq_ret]
  refine j_st m X A K W G c (load_max m X A c 90 7 ((show ∀ c : Dv, live c 90 (mgot 7) = true by decide +kernel) c) rfl) ?_
  refine j_recvMax m X A K W G c (n := 90) 8 rfl (fun _ => rfl) rfl rfl ?_
  refine j_st m X A K W G c (load_max m X A c 91 8 ((show ∀ c : Dv, live c 91 (mgot 8) = true by decide +kernel) c) rfl) ?_
  refine j_recvMax m X A K W G c (n := 91) 9 rfl (fun _ => rfl) rfl rfl ?_
  refine j_st m X A K W G c (load_max m X A c 92 9 ((show ∀ c : Dv, live c 92 (mgot 9) = true by decide +kernel) c) rfl) ?_
  refine j_recvMax m X A K W G c (n := 92) 10 rfl (fun _ => rfl) rfl rfl ?_
  exact j_ret m X A K W G c rfl

theorem p35 (G : sProp 𝕄) (c : Dev nD) (w0 w1 w2 : BitVec 32) (v : F .f32) :
    J m X A K W G c 93 16 ⊢ WP c (ap (k0_part35 (F := F)) w0 w1 w2 v) (Post m X A K W G c 96 16 fun r => r = k0_pay41 v (mx A c 10) (mx A c 11) (mx A c 12)) := by
  rw [k0_part35_eq_skeleton]
  unfold ap k0_part35_skel
  simp (proj := false) only [Prog.lift, Prog.bind_op, Prog.bind_ret, Prog.pure_eq_ret]
  refine j_st m X A K W G c (load_max m X A c 93 10 ((show ∀ c : Dv, live c 93 (mgot 10) = true by decide +kernel) c) rfl) ?_
  refine j_recvMax m X A K W G c (n := 93) 11 rfl (fun _ => rfl) rfl rfl ?_
  refine j_st m X A K W G c (load_max m X A c 94 11 ((show ∀ c : Dv, live c 94 (mgot 11) = true by decide +kernel) c) rfl) ?_
  refine j_recvMax m X A K W G c (n := 94) 12 rfl (fun _ => rfl) rfl rfl ?_
  refine j_st m X A K W G c (load_max m X A c 95 12 ((show ∀ c : Dv, live c 95 (mgot 12) = true by decide +kernel) c) rfl) ?_
  refine j_recvMax m X A K W G c (n := 95) 13 rfl (fun _ => rfl) rfl rfl ?_
  exact j_ret m X A K W G c rfl

theorem p36 (G : sProp 𝕄) (c : Dev nD) (w0 : BitVec 32) (v : F .f32) :
    J m X A K W G c 96 16 ⊢ WP c (ap (k0_part36 (F := F)) w0 v) (Post m X A K W G c 100 16 fun r => r = k0_pay42 v (mx A c 13) (mx A c 14)) := by
  rw [k0_part36_eq_skeleton]
  unfold ap k0_part36_skel
  simp (proj := false) only [Prog.lift, Prog.bind_op, Prog.bind_ret, Prog.pure_eq_ret]
  refine j_st m X A K W G c (load_max m X A c 96 13 ((show ∀ c : Dv, live c 96 (mgot 13) = true by decide +kernel) c) rfl) ?_
  refine j_recvMax m X A K W G c (n := 96) 14 rfl (fun _ => rfl) rfl rfl ?_
  refine j_st m X A K W G c (load_max m X A c 97 14 ((show ∀ c : Dv, live c 97 (mgot 14) = true by decide +kernel) c) rfl) ?_
  refine j_doneMax m X A K W G c (n := 97) 0 rfl (fun _ => rfl) rfl rfl ?_
  refine j_doneMax m X A K W G c (n := 98) 1 rfl (fun _ => rfl) rfl rfl ?_
  refine j_doneMax m X A K W G c (n := 99) 2 rfl (fun _ => rfl) rfl rfl ?_
  exact j_ret m X A K W G c rfl

theorem p37 (G : sProp 𝕄) (c : Dev nD)  :
    J m X A K W G c 100 16 ⊢ WP c (ap (k0_part37 (F := F)) ) (Post m X A K W G c 105 16 fun _ => True) := by
  rw [k0_part37_eq_skeleton]
  unfold ap k0_part37_skel
  simp (proj := false) only [Prog.lift, Prog.bind_op, Prog.bind_ret, Prog.pure_eq_ret]
  refine j_doneMax m X A K W G c (n := 100) 3 rfl (fun _ => rfl) rfl rfl ?_
  refine j_doneMax m X A K W G c (n := 101) 4 rfl (fun _ => rfl) rfl rfl ?_
  refine j_doneMax m X A K W G c (n := 102) 5 rfl (fun _ => rfl) rfl rfl ?_
  refine j_doneMax m X A K W G c (n := 103) 6 rfl (fun _ => rfl) rfl rfl ?_
  refine j_doneMax m X A K W G c (n := 104) 7 rfl (fun _ => rfl) rfl rfl ?_
  exact j_ret m X A K W G c trivial

theorem p38 (G : sProp 𝕄) (c : Dev nD)  :
    J m X A K W G c 105 16 ⊢ WP c (ap (k0_part38 (F := F)) ) (Post m X A K W G c 111 16 fun _ => True) := by
  rw [k0_part38_eq_skeleton]
  unfold ap k0_part38_skel
  simp (proj := false) only [Prog.lift, Prog.bind_op, Prog.bind_ret, Prog.pure_eq_ret]
  refine j_doneMax m X A K W G c (n := 105) 8 rfl (fun _ => rfl) rfl rfl ?_
  refine j_doneMax m X A K W G c (n := 106) 9 rfl (fun _ => rfl) rfl rfl ?_
  refine j_doneMax m X A K W G c (n := 107) 10 rfl (fun _ => rfl) rfl rfl ?_
  refine j_doneMax m X A K W G c (n := 108) 11 rfl (fun _ => rfl) rfl rfl ?_
  refine j_doneMax m X A K W G c (n := 109) 12 rfl (fun _ => rfl) rfl rfl ?_
  refine j_doneMax m X A K W G c (n := 110) 13 rfl (fun _ => rfl) rfl rfl ?_
  exact j_ret m X A K W G c trivial

end Cert.KernelIdeal.Pf

end
-- ==== Proof.KIPartsB.lean ====
module

public import proofs.«01_k».proof.Proof.KIPartsA

/-!
# The second half of the program: the last products, and the transfers' ends
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)
variable (K : Dev nD × Ce → ℕ)
variable (W : Dev nD → S4096x128.Idx → Elt F .bf16)

theorem p14 (G : sProp 𝕄) (c : Dev nD) (v3 v28 v40 : BitVec 32) (v358 : F .f32) (c1 : BitVec 32) :
    J m X A K W G c 31 7 ⊢ WP c (ap (k0_part14 (F := F)) c v3 v28 v40 v358 c1) (Post m X A K W G c 32 8 fun r => r.1 = k0_pay18 v358 (bl X c 6) (W c) ∧ r.2.2 = k0_pay19 (bl X c 10)) := by
  rw [k0_part14_eq_skeleton]
  unfold ap k0_part14_skel
  simp (proj := false) only [Prog.lift, Prog.bind_op, Prog.bind_ret, Prog.pure_eq_ret]
  refine r_send m X A K W G c 15 (cc3_ok c) rfl (src5 c 3 (by decide) (src3 c) _) (fun _ => rfl) rfl rfl rfl ?_
  refine r_load m X A K W G c 6 ((show ∀ c : Dv, live c 32 (keep 6) = true by decide +kernel) c) (Memref.whole cc0_scratch3) rfl ?_
  refine j_wb m X A K W G c ?_
  refine j_out m X A K W G c fun _ => ?_
  refine j_put m X A K W G c (by decide) (g7 c) (pay5_up _ _) ?_
  refine r_load m X A K W G c 10 ((show ∀ c : Dv, live c 32 (keep 10) = true by decide +kernel) c) (Memref.whole cc0_scratch4) rfl ?_
  exact j_ret m X A K W G c ⟨rfl, rfl⟩

theorem p15 (G : sProp 𝕄) (c : Dev nD) (v3 v20 v24 v46 : BitVec 32) (v443 : F .f32) (v447 : BitVec 32) :
    J m X A K W G c 32 8 ⊢ WP c (ap (k0_part15 (F := F)) c v3 v20 v24 v46 v443 v447 (k0_pay19 (bl X c 10))) (Post m X A K W G c 32 10 fun r => r = k0_pay22 v443 (k0_pay19 (bl X c 10)) (W c) (bl X c 3) (W c)) := by
  rw [k0_part15_eq_skeleton]
  unfold ap k0_part15_skel
  simp (proj := false) only [Prog.lift, Prog.bind_op, Prog.bind_ret, Prog.pure_eq_ret]
  refine j_wb m X A K W G c ?_
  refine j_out m X A K W G c fun _ => ?_
  refine j_put m X A K W G c (by decide) (g8 c) (pay5_up _ _) ?_
  refine x_load m X A K W G c 3 (by decide) (ld3 c) ((show ∀ c : Dv, live c 32 (keep 3) = true by decide +kernel) c) ?_
  refine j_wb m X A K W G c ?_
  refine j_out m X A K W G c fun _ => ?_
  refine j_put m X A K W G c (by decide) (g9 c) (pay5_up _ _) ?_
  exact j_ret m X A K W G c rfl

theorem p16 (G : sProp 𝕄) (c : Dev nD) (v3 v28 v46 : BitVec 32) (v481 : F .f32) :
    J m X A K W G c 32 10 ⊢ WP c (ap (k0_part16 (F := F)) c v3 v28 v46 v481) (Post m X A K W G c 34 11 fun r => r = k0_pay24 v481 (bl X c 7) (W c)) := by
  rw [k0_part16_eq_skeleton]
  unfold ap k0_part16_skel
  simp (proj := false) only [Prog.lift, Prog.bind_op, Prog.bind_ret, Prog.pure_eq_ret]
  refine j_recv m X A K W G c (n := 32) 7 (by decide) rfl (fun _ => rfl) rfl rfl ?_
  refine j_recv m X A K W G c (n := 33) 11 (by decide) rfl (fun _ => rfl) rfl rfl ?_
  refine r_load m X A K W G c 7 ((show ∀ c : Dv, live c 34 (keep 7) = true by decide +kernel) c) (Memref.whole cc0_scratch3) rfl ?_
  refine j_wb m X A K W G c ?_
  refine j_out m X A K W G c fun _ => ?_
  refine j_put m X A K W G c (by decide) (g10 c) (pay5_up _ _) ?_
  exact j_ret m X A K W G c rfl

theorem p17 (G : sProp 𝕄) (c : Dev nD) (v3 v24 v28 v46 : BitVec 32) (v515 : F .f32) :
    J m X A K W G c 34 11 ⊢ WP c (ap (k0_part17 (F := F)) c v3 v24 v28 v46 v515) (Post m X A K W G c 35 12 fun r => r.1 = k0_pay26 v515 (bl X c 11) (W c)) := by
  rw [k0_part17_eq_skeleton]
  unfold ap k0_part17_skel
  simp (proj := false) only [Prog.lift, Prog.bind_op, Prog.bind_ret, Prog.pure_eq_ret]
  refine r_load m X A K W G c 11 ((show ∀ c : Dv, live c 34 (keep 11) = true by decide +kernel) c) (Memref.whole cc0_scratch4) rfl ?_
  refine j_wb m X A K W G c ?_
  refine j_out m X A K W G c fun _ => ?_
  refine j_put m X A K W G c (by decide) (g11 c) (pay5_up _ _) ?_
  refine r_send m X A K W G c 16 (b0_ok c) rfl rfl (fun _ => rfl) rfl rfl rfl ?_
  exact j_ret m X A K W G c rfl

theorem p18 (G : sProp 𝕄) (c : Dev nD) (v3 v20 v24 v544 c0 : BitVec 32) :
    J m X A K W G c 35 12 ⊢ WP c (ap (k0_part18 (F := F)) c v3 v20 v24 v544 c0) (Post m X A K W G c 37 13 fun r => r = k0_pay28 (bl X c 12) (W c)) := by
  rw [k0_part18_eq_skeleton]
  unfold ap k0_part18_skel
  simp (proj := false) only [Prog.lift, Prog.bind_op, Prog.bind_ret, Prog.pure_eq_ret]
  refine r_send m X A K W G c 17 (b1_ok c) rfl rfl (fun _ => rfl) rfl rfl rfl ?_
  refine j_recv m X A K W G c (n := 36) 12 (by decide) rfl (fun _ => rfl) rfl rfl ?_
  refine r_load m X A K W G c 12 ((show ∀ c : Dv, live c 37 (keep 12) = true by decide +kernel) c) (Memref.whole cc0_scratch5) rfl ?_
  refine j_wb m X A K W G c ?_
  refine j_out m X A K W G c fun _ => ?_
  refine j_put m X A K W G c (by decide) (g12 c) (pay5_up _ _) ?_
  exact j_ret m X A K W G c rfl

/-- The word one denotes one. -/
theorem one_word : (1#32 : BitVec 32).toInt = ((1 : ℕ) : ℤ) := rfl

theorem p19 (G : sProp 𝕄) (c : Dev nD) (v3 v24 v28 v34 : BitVec 32) (v533 : F .f32) (v575 : FVec F S1x256x128 .f32) :
    J m X A K W G c 37 13 ⊢ WP c (ap (k0_part19 (F := F)) c v3 v24 v28 v34 v533 v575) (Post m X A K W G c 41 13 fun r => r.1 = k0_pay29 v533 v575) := by
  rw [k0_part19_eq_skeleton]
  unfold ap k0_part19_skel
  simp (proj := false) only [semSignalWord, semWaitWord, one_word, Prog.lift, Prog.bind_op, Prog.bind_ret, Prog.pure_eq_ret]
  refine j_credSignal m X A K W G c (n := 37) 0 rfl (by exact cred0 c) rfl rfl ?_
  refine j_credWait m X A K W G c (n := 38) 0 rfl (fun _ => rfl) rfl rfl ?_
  refine r_send m X A K W G c 18 (b2_ok c) rfl rfl (fun _ => rfl) rfl rfl rfl ?_
  refine j_recv m X A K W G c (n := 40) 13 (by decide) rfl (fun _ => rfl) rfl rfl ?_
  exact j_ret m X A K W G c rfl

theorem p20 (G : sProp 𝕄) (c : Dev nD) (v24 v28 : BitVec 32) (v579 : F .f32) (v600 v602 : BitVec 32) :
    J m X A K W G c 41 13 ⊢ WP c (ap (k0_part20 (F := F)) c v24 v28 v579 v600 v602) (Post m X A K W G c 44 14 fun r => r = k0_pay31 v579 (bl X c 13) (W c)) := by
  rw [k0_part20_eq_skeleton]
  unfold ap k0_part20_skel
  simp (proj := false) only [semSignalWord, semWaitWord, one_word, Prog.lift, Prog.bind_op, Prog.bind_ret, Prog.pure_eq_ret]
  refine r_load m X A K W G c 13 ((show ∀ c : Dv, live c 41 (keep 13) = true by decide +kernel) c) (Memref.whole cc0_scratch5) rfl ?_
  refine j_wb m X A K W G c ?_
  refine j_out m X A K W G c fun _ => ?_
  refine j_put m X A K W G c (by decide) (g13 c) (pay5_up _ _) ?_
  refine j_credSignal m X A K W G c (n := 41) 1 rfl (by exact cred1 c) rfl rfl ?_
  refine j_credWait m X A K W G c (n := 42) 1 rfl (fun _ => rfl) rfl rfl ?_
  refine r_send m X A K W G c 19 (b3_ok c) rfl rfl (fun _ => rfl) rfl rfl rfl ?_
  exact j_ret m X A K W G c rfl

theorem p21 (G : sProp 𝕄) (c : Dev nD) (v3 v24 v28 v40 : BitVec 32) (v617 : F .f32) :
    J m X A K W G c 44 14 ⊢ WP c (ap (k0_part21 (F := F)) c v3 v24 v28 v40 v617) (Post m X A K W G c 45 15 fun r => r = k0_pay33 v617 (bl X c 14) (W c)) := by
  rw [k0_part21_eq_skeleton]
  unfold ap k0_part21_skel
  simp (proj := false) only [Prog.lift, Prog.bind_op, Prog.bind_ret, Prog.pure_eq_ret]
  refine j_recv m X A K W G c (n := 44) 14 (by decide) rfl (fun _ => rfl) rfl rfl ?_
  refine r_load m X A K W G c 14 ((show ∀ c : Dv, live c 45 (keep 14) = true by decide +kernel) c) (Memref.whole cc0_scratch5) rfl ?_
  refine j_wb m X A K W G c ?_
  refine j_out m X A K W G c fun _ => ?_
  refine j_put m X A K W G c (by decide) (g14 c) (pay5_up _ _) ?_
  exact j_ret m X A K W G c rfl

theorem p22 (G : sProp 𝕄) (c : Dev nD) (v3 v20 v46 : BitVec 32) (v142 v145 : BitVec 1) (v655 : F .f32) :
    J m X A K W G c 45 15 ⊢ WP c (ap (k0_part22 (F := F)) c v3 v20 v46 v142 v145 v655) (Post m X A K W G c 49 16 fun r => r.1 = k0_pay35 v655 (bl X c 15) (W c)) := by
  rw [k0_part22_eq_skeleton]
  unfold ap k0_part22_skel
  simp (zeta := false) (zetaHave := false) (proj := false) only [Prog.lift, Prog.bind_op, Prog.bind_ret, Prog.pure_eq_ret]
  refine j_recv m X A K W G c (n := 45) 15 (by decide) rfl (fun _ => rfl) rfl rfl ?_
  refine r_load m X A K W G c 15 ((show ∀ c : Dv, live c 46 (keep 15) = true by decide +kernel) c) (Memref.whole cc0_scratch5) rfl ?_
  refine j_wb m X A K W G c ?_
  refine j_out m X A K W G c fun _ => ?_
  refine j_put m X A K W G c (by decide) (g15 c) (pay5_up _ _) ?_
  extract_lets -underBinder +onlyGivenNames jp
  suffices hjp : J m X A K W G c 47 16 ⊢ WP c (jp ⟨⟩) (Post m X A K W G c 49 16 fun r => r.1 = k0_pay35 v655 (bl X c 15) (W c)) by
    clear_value jp
    simp (proj := false) only [Prog.lift, Prog.bind_op, Prog.bind_ret, Prog.pure_eq_ret]
    split
    · next h => exact j_done m X A K W G c 0 ((wup0 c).1 h) rfl (fun _ => rfl) rfl rfl hjp
    · next h => exact j_nodone m X A K W G c 0 (Bool.eq_false_iff.2 fun e => h ((wup0 c).2 e)) rfl hjp
  simp (zeta := false) (zetaHave := false) (proj := false) only [jp, Prog.bind_op, Prog.bind_ret, Prog.pure_eq_ret]
  extract_lets -underBinder +onlyGivenNames jp
  suffices hjp : J m X A K W G c 48 16 ⊢ WP c (jp ⟨⟩) (Post m X A K W G c 49 16 fun r => r.1 = k0_pay35 v655 (bl X c 15) (W c)) by
    clear_value jp
    simp (proj := false) only [Prog.lift, Prog.bind_op, Prog.bind_ret, Prog.pure_eq_ret]
    split
    · next h => exact j_done m X A K W G c 4 ((wdn0 c).1 h) rfl (fun _ => rfl) rfl rfl hjp
    · next h => exact j_nodone m X A K W G c 4 (Bool.eq_false_iff.2 fun e => h ((wdn0 c).2 e)) rfl hjp
  simp (zeta := false) (zetaHave := false) (proj := false) only [jp, Prog.bind_op, Prog.bind_ret, Prog.pure_eq_ret]
  extract_lets -underBinder +onlyGivenNames jp
  suffices hjp : J m X A K W G c 49 16 ⊢ WP c (jp ⟨⟩) (Post m X A K W G c 49 16 fun r => r.1 = k0_pay35 v655 (bl X c 15) (W c)) by
    clear_value jp
    simp (proj := false) only [Prog.lift, Prog.bind_op, Prog.bind_ret, Prog.pure_eq_ret]
    split
    · next h => exact j_done m X A K W G c 1 ((wup1 c).1 h) rfl (fun _ => rfl) rfl rfl hjp
    · next h => exact j_nodone m X A K W G c 1 (Bool.eq_false_iff.2 fun e => h ((wup1 c).2 e)) rfl hjp
  simp (proj := false) only [jp, Prog.bind_op, Prog.bind_ret, Prog.pure_eq_ret]
  exact j_ret m X A K W G c rfl

theorem p23 (G : sProp 𝕄) (c : Dev nD) (v164 v167 v379 v382 : BitVec 1) (v690 c0 : BitVec 32) :
    J m X A K W G c 49 16 ⊢ WP c (ap (k0_part23 (F := F)) c v164 v167 v379 v382 v690 c0) (Post m X A K W G c 57 16 fun _ => True) := by
  rw [k0_part23_eq_skeleton]
  unfold ap k0_part23_skel
  extract_lets -underBinder +onlyGivenNames jp
  suffices hjp : J m X A K W G c 50 16 ⊢ WP c (jp ⟨⟩) (Post m X A K W G c 57 16 fun _ => True) by
    clear_value jp
    simp (proj := false) only [Prog.lift, Prog.bind_op, Prog.bind_ret, Prog.pure_eq_ret]
    split
    · next h => exact j_done m X A K W G c 5 ((wdn1 c).1 h) rfl (fun _ => rfl) rfl rfl hjp
    · next h => exact j_nodone m X A K W G c 5 (Bool.eq_false_iff.2 fun e => h ((wdn1 c).2 e)) rfl hjp
  simp (zeta := false) (zetaHave := false) (proj := false) only [jp, Prog.bind_op, Prog.bind_ret, Prog.pure_eq_ret]
  extract_lets -underBinder +onlyGivenNames jp
  suffices hjp : J m X A K W G c 51 16 ⊢ WP c (jp ⟨⟩) (Post m X A K W G c 57 16 fun _ => True) by
    clear_value jp
    simp (proj := false) only [Prog.lift, Prog.bind_op, Prog.bind_ret, Prog.pure_eq_ret]
    split
    · next h => exact j_done m X A K W G c 2 ((wup2 c).1 h) rfl (fun _ => rfl) rfl rfl hjp
    · next h => exact j_nodone m X A K W G c 2 (Bool.eq_false_iff.2 fun e => h ((wup2 c).2 e)) rfl hjp
  simp (zeta := false) (zetaHave := false) (proj := false) only [jp, Prog.bind_op, Prog.bind_ret, Prog.pure_eq_ret]
  extract_lets -underBinder +onlyGivenNames jp
  suffices hjp : J m X A K W G c 52 16 ⊢ WP c (jp ⟨⟩) (Post m X A K W G c 57 16 fun _ => True) by
    clear_value jp
    simp (proj := false) only [Prog.lift, Prog.bind_op, Prog.bind_ret, Prog.pure_eq_ret]
    split
    · next h => exact j_done m X A K W G c 6 ((wdn2 c).1 h) rfl (fun _ => rfl) rfl rfl hjp
    · next h => exact j_nodone m X A K W G c 6 (Bool.eq_false_iff.2 fun e => h ((wdn2 c).2 e)) rfl hjp
  simp (zeta := false) (zetaHave := false) (proj := false) only [jp, Prog.bind_op, Prog.bind_ret, Prog.pure_eq_ret]
  extract_lets -underBinder +onlyGivenNames jp
  suffices hjp : J m X A K W G c 53 16 ⊢ WP c (jp ⟨⟩) (Post m X A K W G c 57 16 fun _ => True) by
    clear_value jp
    simp (proj := false) only [Prog.lift, Prog.bind_op, Prog.bind_ret, Prog.pure_eq_ret]
    split
    · next h => exact j_done m X A K W G c 3 ((wup3 c).1 h) rfl (fun _ => rfl) rfl rfl hjp
    · next h => exact j_nodone m X A K W G c 3 (Bool.eq_false_iff.2 fun e => h ((wup3 c).2 e)) rfl hjp
  simp (zeta := false) (zetaHave := false) (proj := false) only [jp, Prog.bind_op, Prog.bind_ret, Prog.pure_eq_ret]
  extract_lets -underBinder +onlyGivenNames jp
  suffices hjp : J m X A K W G c 54 16 ⊢ WP c (jp ⟨⟩) (Post m X A K W G c 57 16 fun _ => True) by
    clear_value jp
    simp (proj := false) only [Prog.lift, Prog.bind_op, Prog.bind_ret, Prog.pure_eq_ret]
    split
    · next h => exact j_done m X A K W G c 7 ((wdn3 c).1 h) rfl (fun _ => rfl) rfl rfl hjp
    · next h => exact j_nodone m X A K W G c 7 (Bool.eq_false_iff.2 fun e => h ((wdn3 c).2 e)) rfl hjp
  simp (proj := false) only [jp, Prog.bind_op, Prog.bind_ret, Prog.pure_eq_ret]
  refine j_done m X A K W G c 8 ((show ∀ c : Dv, act c 8 = true by decide +kernel) c) rfl (fun _ => rfl) rfl rfl ?_
  refine j_done m X A K W G c 12 ((show ∀ c : Dv, act c 12 = true by decide +kernel) c) rfl (fun _ => rfl) rfl rfl ?_
  refine j_done m X A K W G c 9 ((show ∀ c : Dv, act c 9 = true by decide +kernel) c) rfl (fun _ => rfl) rfl rfl ?_
  exact j_ret m X A K W G c trivial

theorem p24 (G : sProp 𝕄) (c : Dev nD)  :
    J m X A K W G c 57 16 ⊢ WP c (ap (k0_part24 (F := F)) c) (Post m X A K W G c 61 16 fun _ => True) := by
  rw [k0_part24_eq_skeleton]
  unfold ap k0_part24_skel
  simp (proj := false) only [Prog.lift, Prog.bind_op, Prog.bind_ret, Prog.pure_eq_ret]
  refine j_done m X A K W G c 13 ((show ∀ c : Dv, act c 13 = true by decide +kernel) c) rfl (fun _ => rfl) rfl rfl ?_
  refine j_done m X A K W G c 10 ((show ∀ c : Dv, act c 10 = true by decide +kernel) c) rfl (fun _ => rfl) rfl rfl ?_
  refine j_done m X A K W G c 14 ((show ∀ c : Dv, act c 14 = true by decide +kernel) c) rfl (fun _ => rfl) rfl rfl ?_
  refine j_done m X A K W G c 11 ((show ∀ c : Dv, act c 11 = true by decide +kernel) c) rfl (fun _ => rfl) rfl rfl ?_
  exact j_ret m X A K W G c trivial

theorem p25 (G : sProp 𝕄) (c : Dev nD)  :
    J m X A K W G c 61 16 ⊢ WP c (ap (k0_part25 (F := F)) c) (Post m X A K W G c 64 16 fun _ => True) := by
  rw [k0_part25_eq_skeleton]
  unfold ap k0_part25_skel
  simp (proj := false) only [Prog.lift, Prog.bind_op, Prog.bind_ret, Prog.pure_eq_ret]
  refine j_done m X A K W G c 15 ((show ∀ c : Dv, act c 15 = true by decide +kernel) c) rfl (fun _ => rfl) rfl rfl ?_
  refine j_done m X A K W G c 16 ((show ∀ c : Dv, act c 16 = true by decide +kernel) c) rfl (fun _ => rfl) rfl rfl ?_
  refine j_done m X A K W G c 17 ((show ∀ c : Dv, act c 17 = true by decide +kernel) c) rfl (fun _ => rfl) rfl rfl ?_
  exact j_ret m X A K W G c trivial

end Cert.KernelIdeal.Pf

end
-- ==== Proof.KIPartsD.lean ====
module

public import proofs.«01_k».proof.Proof.KIPartsB

/-!
# The start of the program
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)
variable (K : Dev nD × Ce → ℕ)
variable (W : Dev nD → S4096x128.Idx → Elt F .bf16)

variable (xi : Dev nD → S256x4096.Idx → Elt F .f32) (wi : Dev nD → S4096x128.Idx → Elt F .f32)

abbrev xiM : Memref sig .tc .vmem S256x4096 .f32 := Memref.whole cc0_stg0_0
abbrev wiM : Memref sig .tc .vmem S4096x128 .f32 := Memref.whole cc0_stg1_0

/-- The inputs as they are staged. -/
def Gin (c : Dev nD) : sProp 𝕄 :=
  iprop((xiM.view.loc (c : Thread nD τ) ↦[Finset.univ]{fullShare} xi c) ∗ (wiM.view.loc (c : Thread nD τ) ↦[Finset.univ]{fullShare} wi c))

section
variable {α : Type}

theorem j_xi (c : Dev nD) {Q : α → sProp 𝕄} {n k : ℕ} {inb : ∀ a, (![0, 0] : Fin 2 → ℕ) a + S256x4096.size a ≤ S256x4096.size a}
    {hl : xiM.view.LoadsAt (Rect.unit (s := S256x4096) ![0, 0] S256x4096.size inb).toLoadRect}
    {kk : (S256x4096.Idx → Elt F .f32) → Prog (TpuEff nD τ sig (Elt F) Λ₀ .tc) α} (h2 : J m X A K W (Gin xi wi c) c n k ⊢ WP c (kk (xi c)) Q) :
    J m X A K W (Gin xi wi c) c n k ⊢ WP c (.op (.load xiM (Rect.unit (s := S256x4096) ![0, 0] S256x4096.size inb).toLoadRect hl) kk) Q := by
  have h : _ ⊢ iprop((_ -∗ WP c (kk _) Q) -∗ WP c (.op (.load xiM (Rect.unit (s := S256x4096) ![0, 0] S256x4096.size inb).toLoadRect hl) kk) Q) :=
    wp_load (defs := defs₀ (F := F)) 𝒱₀ (c : Thread nD τ) none Set.univ (Q := Q) (m := xiM) (r := (Rect.unit (s := S256x4096) ![0, 0] S256x4096.size inb).toLoadRect) (hl := hl) (k := kk)
      (S := Finset.univ) (q := fullShare) (f := xi c) (Finset.subset_univ _)
  have e : xiM.view.readAt (Elt F) (Rect.unit (s := S256x4096) ![0, 0] S256x4096.size inb).toLoadRect (xi c) = xi c :=
    Memref.readAt_unit_zero (Elt F) cc0_stg0_0 (by funext a; fin_cases a <;> rfl) inb (xi c)
  rw [e] at h
  unfold J Gin at *
  iintro ⟨HI, Hs, HM, Hx, Hw⟩
  iapply h $$ Hx
  iintro Hx
  iapply h2
  isplitl [HI]
  · iexact HI
  isplitl [Hs]
  · iexact Hs
  isplitl [HM]
  · iexact HM
  isplitl [Hx]
  · iexact Hx
  · iexact Hw

theorem j_wi (c : Dev nD) {Q : α → sProp 𝕄} {n k : ℕ} {inb : ∀ a, (![0, 0] : Fin 2 → ℕ) a + S4096x128.size a ≤ S4096x128.size a}
    {hl : wiM.view.LoadsAt (Rect.unit (s := S4096x128) ![0, 0] S4096x128.size inb).toLoadRect}
    {kk : (S4096x128.Idx → Elt F .f32) → Prog (TpuEff nD τ sig (Elt F) Λ₀ .tc) α} (h2 : J m X A K W (Gin xi wi c) c n k ⊢ WP c (kk (wi c)) Q) :
    J m X A K W (Gin xi wi c) c n k ⊢ WP c (.op (.load wiM (Rect.unit (s := S4096x128) ![0, 0] S4096x128.size inb).toLoadRect hl) kk) Q := by
  have h : _ ⊢ iprop((_ -∗ WP c (kk _) Q) -∗ WP c (.op (.load wiM (Rect.unit (s := S4096x128) ![0, 0] S4096x128.size inb).toLoadRect hl) kk) Q) :=
    wp_load (defs := defs₀ (F := F)) 𝒱₀ (c : Thread nD τ) none Set.univ (Q := Q) (m := wiM) (r := (Rect.unit (s := S4096x128) ![0, 0] S4096x128.size inb).toLoadRect) (hl := hl) (k := kk)
      (S := Finset.univ) (q := fullShare) (f := wi c) (Finset.subset_univ _)
  have e : wiM.view.readAt (Elt F) (Rect.unit (s := S4096x128) ![0, 0] S4096x128.size inb).toLoadRect (wi c) = wi c :=
    Memref.readAt_unit_zero (Elt F) cc0_stg1_0 (by funext a; fin_cases a <;> rfl) inb (wi c)
  rw [e] at h
  unfold J Gin at *
  iintro ⟨HI, Hs, HM, Hx, Hw⟩
  iapply h $$ Hw
  iintro Hw
  iapply h2
  isplitl [HI]
  · iexact HI
  isplitl [Hs]
  · iexact Hs
  isplitl [HM]
  · iexact HM
  isplitl [Hx]
  · iexact Hx
  · iexact Hw

/-- A device reads its own number. -/
theorem j_dev (G : sProp 𝕄) (c : Dev nD) {Q : α → sProp 𝕄} {n k : ℕ} {kk : Dev nD → Prog (TpuEff nD τ sig (Elt F) Λ₀ .tc) α} (h2 : J m X A K W G c n k ⊢ WP c (kk c) Q) :
    J m X A K W G c n k ⊢ WP c (.op .deviceId kk) Q := by
  rw [show WP c (.op .deviceId kk) Q = WP c (kk c) Q from wp_deviceId ..]
  exact h2

/-- A load of the block's buffer before it is written. -/
theorem j_raw (G : sProp 𝕄) (c : Dev nD) {Q : α → sProp 𝕄} {k : ℕ} {r : LoadRect S256x4096} {hl : xbM.view.LoadsAt r}
    {kk : (r.shape.Idx → Elt F .bf16) → Prog (TpuEff nD τ sig (Elt F) Λ₀ .tc) α} (h2 : ∀ v, J m X A K W G c 0 k ⊢ WP c (kk v) Q) :
    J m X A K W G c 0 k ⊢ WP c (.op (.load xbM r hl) kk) Q := by
  unfold J at *
  iintro ⟨#HI, Hs, HM⟩
  iapply (load_raw m X A c) $$ Hs
  iintro %v Hs
  iapply (h2 v)
  isplitr
  · iexact HI
  isplitl [Hs]
  · iexact Hs
  · iexact HM

/-- The weights are stored, nothing being multiplied yet. -/
theorem j_setW (G : sProp 𝕄) (c : Dev nD) (W' : Dev nD → S4096x128.Idx → Elt F .bf16) {Q : α → sProp 𝕄} {n : ℕ} {inb : ∀ a, (![0, 0] : Fin 2 → ℕ) a + S4096x128.size a ≤ S4096x128.size a}
    {hx : (wbM.access (Rect.unit (s := S4096x128) ![0, 0] S4096x128.size inb)).Stores Finset.univ} {hm}
    {kk : PUnit → Prog (TpuEff nD τ sig (Elt F) Λ₀ .tc) α} (h2 : J m X A K W G c n 0 ⊢ WP c (kk ⟨⟩) Q) :
    J m X A K W' G c n 0 ⊢ WP c (.op (.store wbM (Rect.unit (s := S4096x128) ![0, 0] S4096x128.size inb) (W c) Finset.univ hx hm) kk) Q := by
  have h : _ ⊢ iprop((_ -∗ WP c (kk ⟨⟩) Q) -∗ WP c (.op (.store wbM (Rect.unit (s := S4096x128) ![0, 0] S4096x128.size inb) (W c) Finset.univ hx hm) kk) Q) :=
    wp_store (defs := defs₀ (F := F)) 𝒱₀ (c : Thread nD τ) none Set.univ (Q := Q) (m := wbM) (r := Rect.unit (s := S4096x128) ![0, 0] S4096x128.size inb) (w := W c) (Mk := Finset.univ)
      (hx := hx) (hm := hm) (k := kk) (S := Finset.univ) (f := W' c) (Finset.subset_univ _)
  have e : (wbM.access (Rect.unit (s := S4096x128) ![0, 0] S4096x128.size inb)).write (Elt F) (W' c) (W c) Finset.univ = W c :=
    Memref.write_access_unit_zero_univ (Elt F) cc0_scratch1 (by funext a; fin_cases a <;> rfl) inb (W' c) (W c)
  rw [e] at h
  unfold J Mem at *
  iintro ⟨HI, Hs, ⟨Hw, ⟨%f, Ho, -⟩⟩, HG⟩
  iapply h $$ Hw
  iintro Hw
  iapply h2
  isplitl [HI]
  · iexact HI
  isplitl [Hs]
  · iexact Hs
  isplitr [HG]
  · isplitl [Hw]
    · iexact Hw
    · iexists f
      isplitl [Ho]
      · iexact Ho
      · ipureintro; exact fun j hj => absurd hj (Nat.not_lt_zero j)
  · iexact HG

end

theorem p1 (G : sProp 𝕄) (c : Dev nD) :
    J m X A K W G c 0 0 ⊢ WP c (ap (k0_part1 (F := F))) (Post m X A K W G c 0 0 fun r => r.1 = c) := by
  rw [k0_part1_eq_skeleton]
  unfold ap k0_part1_skel
  simp (proj := false) only [Prog.lift, Prog.bind_op, Prog.bind_ret, Prog.pure_eq_ret]
  refine j_dev m X A K W G c ?_
  exact j_ret m X A K W G c rfl

theorem p2 (c : Dev nD) (hX : X c = k0_pay1 (xi c)) (v3 v20 c0 : BitVec 32) :
    J m X A K W (Gin xi wi c) c 0 0 ⊢ WP c (ap (k0_part2 (F := F)) v3 v20 c0) (Post m X A K W (Gin xi wi c) c 1 0 fun r => r.2.2.2.2 = k0_pay2 (wi c)) := by
  rw [k0_part2_eq_skeleton]
  unfold ap k0_part2_skel
  simp (proj := false) only [Prog.lift, Prog.bind_op, Prog.bind_ret, Prog.pure_eq_ret]
  refine j_xi m X A K W xi wi c ?_
  refine j_raw m X A K W _ c fun _ => ?_
  refine j_st m X A K W _ c (step_putBlock m X A c hX.symm) ?_
  refine j_wi m X A K W xi wi c ?_
  refine j_wb m X A K W _ c ?_
  exact j_ret m X A K W _ c rfl

/-- What a device waits for at the barrier. -/
theorem bar_word (c : Dev nD) : (k0_amt1 c).toInt = (((duT c 0).card : ℕ) : ℤ) := bar_amt c

theorem p3 (G : sProp 𝕄) (c : Dev nD) (W' : Dev nD → S4096x128.Idx → Elt F .bf16) (v20 v24 v28 v50 v54 : BitVec 32) :
    J m X A K W' G c 1 0 ⊢ WP c (ap (k0_part3 (F := F)) c v20 v24 v28 v50 v54 (W c)) (Post m X A K W G c 7 0 fun _ => True) := by
  rw [k0_part3_eq_skeleton]
  unfold ap k0_part3_skel
  simp (zeta := false) (zetaHave := false) (proj := false) only [semSignalWord, semWaitWord, one_word, bar_word c, Prog.lift, Prog.bind_op, Prog.bind_ret, Prog.pure_eq_ret]
  refine j_setW m X A K W G c W' ?_
  extract_lets -underBinder +onlyGivenNames v67
  refine j_barSignal m X A K W G c (n := 1) 0 (sig_next c).2 rfl (by exact (sig_next c).1) rfl rfl ?_
  refine j_barSignal m X A K W G c (n := 2) 1 (sig_prev c).2 rfl (by exact (sig_prev c).1) rfl rfl ?_
  extract_lets -underBinder +onlyGivenNames jp
  suffices hjp : J m X A K W G c 4 0 ⊢ WP c (jp ⟨⟩) (Post m X A K W G c 7 0 fun _ => True) by
    clear_value jp
    skip
    split
    · next h => exact j_barSignal m X A K W G c (n := 3) 2 (sig_up c h).2 rfl (by exact (sig_up c h).1) rfl rfl hjp
    · next h => exact j_skip m X A K W G c (nosig_skip m X A c 2 (sig_nup c h)) hjp
  simp (zeta := false) (zetaHave := false) (proj := false) only [jp, Prog.bind_op, Prog.bind_ret, Prog.pure_eq_ret]
  extract_lets -underBinder +onlyGivenNames jp
  suffices hjp : J m X A K W G c 5 0 ⊢ WP c (jp ⟨⟩) (Post m X A K W G c 7 0 fun _ => True) by
    clear_value jp
    skip
    split
    · next h => exact j_barSignal m X A K W G c (n := 4) 3 (sig_down c h).2 rfl (by exact (sig_down c h).1) rfl rfl hjp
    · next h => exact j_skip m X A K W G c (nosig_skip m X A c 3 (sig_ndown c h)) hjp
  simp (zeta := false) (zetaHave := false) (proj := false) only [jp, bar_word c, Prog.bind_op, Prog.bind_ret, Prog.pure_eq_ret]
  refine j_barWait m X A K W G c (fun _ => rfl) rfl rfl ?_
  extract_lets -underBinder +onlyGivenNames jp
  suffices hjp : J m X A K W G c 7 0 ⊢ WP c (jp ⟨⟩) (Post m X A K W G c 7 0 fun _ => True) by
    clear_value jp
    simp (proj := false) only [Prog.lift, Prog.bind_op, Prog.bind_ret, Prog.pure_eq_ret]
    split
    · next h => exact x_send m X A K W G c 0 (up0_ok c h) rfl rfl rfl hjp
    · next h => exact j_skip m X A K W G c (nosend_skip m X A c 0 (up0_no c h)) hjp
  simp (zeta := false) (zetaHave := false) (proj := false) only [jp, Prog.bind_op, Prog.bind_ret, Prog.pure_eq_ret]
  exact j_ret m X A K W G c trivial

end Cert.KernelIdeal.Pf

end
-- ==== Proof.KIBody.lean ====
module

public import proofs.«01_k».proof.Proof.KIPartsC
public import proofs.«01_k».proof.Proof.KIPartsD

/-!
# The whole body

The pieces of the program one after another, and what they leave in the result's buffer.
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)
variable (K : Dev nD × Ce → ℕ)
variable (W : Dev nD → S4096x128.Idx → Elt F .bf16)

/-! ## What comes out -/

/-- The largest value of a device's own columns. -/
def ownMax (c : Dev nD) : F .f32 :=
  k0_pay35 (k0_pay33 (k0_pay31 (k0_pay29 (k0_pay26 (k0_pay24 (k0_pay22 (k0_pay18 (k0_pay16 (k0_pay14 (k0_pay10 (k0_pay8 (k0_pay4 (X c) (W c))
    (k0_pay6 (bl X c 4) (W c)) (bl X c 8) (W c)) (k0_pay9 (bl X c 1) (W c))) (k0_pay12 (bl X c 5) (W c)) (bl X c 9) (W c)) (k0_pay15 (bl X c 2) (W c)))
    (bl X c 6) (W c)) (k0_pay19 (bl X c 10)) (W c) (bl X c 3) (W c)) (bl X c 7) (W c)) (bl X c 11) (W c)) (k0_pay28 (bl X c 12) (W c)))
    (bl X c 13) (W c)) (bl X c 14) (W c)) (bl X c 15) (W c)

/-- The largest value of all, as a device finds it. -/
def allMax (c : Dev nD) : F .f32 :=
  k0_pay42 (k0_pay41 (k0_pay40 (k0_pay39 (k0_pay38 (k0_pay37 (ownMax X W c) (mx A c 0)) (mx A c 1) (mx A c 2) (mx A c 3)) (mx A c 4) (mx A c 5) (mx A c 6))
    (mx A c 7) (mx A c 8) (mx A c 9)) (mx A c 10) (mx A c 11) (mx A c 12)) (mx A c 13) (mx A c 14)

/-- The device whose block a row of the result is in, and the place in the block. -/
def rowDev (j : S4096x128.Idx) : Dv := ⟨(j 0).val / 256, by have h : (j 0).val < 4096 := (j 0).isLt; omega⟩
def rowIn (j : S4096x128.Idx) : S256x128.Idx := fun a => ⟨(![(j 0).val % 256, (j 1).val] : Fin 2 → ℕ) a, by
  match a with
  | 0 => show (j 0).val % 256 < 256; omega
  | 1 => exact (j 1).isLt⟩

theorem rowOf_rowIn (j : S4096x128.Idx) : rowOf (rowDev j) (rowIn j) = j := by
  funext a
  refine Fin.ext ?_
  match a with
  | 0 => show 256 * ((j 0).val / 256) + (j 0).val % 256 = (j 0).val; omega
  | 1 => show 0 + (j 1).val = (j 1).val; omega

/-- The columns' values, all rows. -/
def yAll (c : Dev nD) : S4096x128.Idx → Elt F .f32 := fun j => k0_pay3 (X (rowDev j)) (W c) (rowIn j)

theorem fill_all (c : Dev nD) (f : S4096x128.Idx → Elt F .f32) (hf : Fill X W c 16 f) : f = yAll X W c := by
  funext j
  obtain ⟨k, hk⟩ := oseq_surj c (rowDev j)
  have h := hf k.val k.isLt (rowIn j)
  rw [hk, rowOf_rowIn] at h
  exact h

section
variable {α : Type}

theorem j_outAll (G : sProp 𝕄) (c : Dev nD) {Q : α → sProp 𝕄} {n : ℕ} {inb : ∀ a, (![0, 0] : Fin 2 → ℕ) a + S4096x128.size a ≤ S4096x128.size a}
    {hl : outM.view.LoadsAt (Rect.unit (s := S4096x128) ![0, 0] S4096x128.size inb).toLoadRect}
    {kk : (S4096x128.Idx → Elt F .f32) → Prog (TpuEff nD τ sig (Elt F) Λ₀ .tc) α} (h2 : J m X A K W G c n 16 ⊢ WP c (kk (yAll X W c)) Q) :
    J m X A K W G c n 16 ⊢ WP c (.op (.load outM (Rect.unit (s := S4096x128) ![0, 0] S4096x128.size inb).toLoadRect hl) kk) Q := by
  refine j_mem m X A K W G c (k' := 16) ?_ h2
  unfold Mem
  iintro ⟨Hw, ⟨%f, Ho, %hf⟩⟩ Hk
  have hf' := fill_all X W c f hf
  subst hf'
  have h : _ ⊢ iprop((_ -∗ WP c (kk _) Q) -∗ WP c (.op (.load outM (Rect.unit (s := S4096x128) ![0, 0] S4096x128.size inb).toLoadRect hl) kk) Q) :=
    wp_load (defs := defs₀ (F := F)) 𝒱₀ (c : Thread nD τ) none Set.univ (Q := Q) (m := outM) (r := (Rect.unit (s := S4096x128) ![0, 0] S4096x128.size inb).toLoadRect) (hl := hl) (k := kk)
      (S := Finset.univ) (q := fullShare) (f := yAll X W c) (Finset.subset_univ _)
  have e : outM.view.readAt (Elt F) (Rect.unit (s := S4096x128) ![0, 0] S4096x128.size inb).toLoadRect (yAll X W c) = yAll X W c :=
    Memref.readAt_unit_zero (Elt F) cc0_stg2_0 (by funext a; fin_cases a <;> rfl) inb (yAll X W c)
  rw [e] at h
  iapply h $$ Ho
  iintro Ho
  iapply Hk
  isplitl [Hw]
  · iexact Hw
  · iexists (yAll X W c)
    isplitl [Ho]
    · iexact Ho
    · ipureintro; exact hf

/-- One piece after another, as the program writes it. -/
theorem j_seq {β : Type} (G : sProp 𝕄) (c : Dev nD) {n k n' k' : ℕ} {φ : β → Prop} {p : Prog (TpuEff nD τ sig (Elt F) Λ₀ .tc) β}
    {f : β → Prog (TpuEff nD τ sig (Elt F) Λ₀ .tc) α} {Q : α → sProp 𝕄}
    (h : J m X A K W G c n k ⊢ WP c p (Post m X A K W G c n' k' φ)) (h2 : ∀ r, φ r → J m X A K W G c n' k' ⊢ WP c (f r) Q) :
    J m X A K W G c n k ⊢ WP c (p >>= f) Q := j_bind m X A K W G c h h2

/-- The same where the piece stores the weights. -/
theorem j_seqW {β : Type} (G : sProp 𝕄) (c : Dev nD) (W' : Dev nD → S4096x128.Idx → Elt F .bf16) {n k n' k' : ℕ} {φ : β → Prop} {p : Prog (TpuEff nD τ sig (Elt F) Λ₀ .tc) β}
    {f : β → Prog (TpuEff nD τ sig (Elt F) Λ₀ .tc) α} {Q : α → sProp 𝕄}
    (h : J m X A K W' G c n k ⊢ WP c p (Post m X A K W G c n' k' φ)) (h2 : ∀ r, φ r → J m X A K W G c n' k' ⊢ WP c (f r) Q) :
    J m X A K W' G c n k ⊢ WP c (p >>= f) Q := by
  rw [show WP c (p >>= f) Q = WP c p (fun a => WP c (f a) Q) from wp_bind ..]
  refine BIBase.Entails.trans h (wp_mono _ _ _ fun r => ?_)
  unfold Post
  iintro ⟨%hr, H⟩
  iapply (h2 r hr)
  iexact H

/-- The whole result is stored. -/
theorem j_last (G : sProp 𝕄) (c : Dev nD) {Q : α → sProp 𝕄} {n k : ℕ} {inb : ∀ a, (![0, 0] : Fin 2 → ℕ) a + S4096x128.size a ≤ S4096x128.size a}
    {v : S4096x128.Idx → Elt F .f32} {hx : (outM.access (Rect.unit (s := S4096x128) ![0, 0] S4096x128.size inb)).Stores Finset.univ} {hm}
    {kk : PUnit → Prog (TpuEff nD τ sig (Elt F) Λ₀ .tc) α}
    (h2 : iprop(Inv m X A K ∗ St m X A c n ∗ (wbM.view.loc (c : Thread nD τ) ↦[Finset.univ]{fullShare} W c) ∗ (outM.view.loc (c : Thread nD τ) ↦[Finset.univ]{fullShare} v) ∗ G) ⊢ WP c (kk ⟨⟩) Q) :
    J m X A K W G c n k ⊢ WP c (.op (.store outM (Rect.unit (s := S4096x128) ![0, 0] S4096x128.size inb) v Finset.univ hx hm) kk) Q := by
  unfold J Mem
  iintro ⟨HI, Hs, ⟨Hw, ⟨%f, Ho, -⟩⟩, HG⟩
  have h : _ ⊢ iprop((_ -∗ WP c (kk ⟨⟩) Q) -∗ WP c (.op (.store outM (Rect.unit (s := S4096x128) ![0, 0] S4096x128.size inb) v Finset.univ hx hm) kk) Q) :=
    wp_store (defs := defs₀ (F := F)) 𝒱₀ (c : Thread nD τ) none Set.univ (Q := Q) (m := outM) (r := Rect.unit (s := S4096x128) ![0, 0] S4096x128.size inb) (w := v) (Mk := Finset.univ)
      (hx := hx) (hm := hm) (k := kk) (S := Finset.univ) (f := f) (Finset.subset_univ _)
  have e : (outM.access (Rect.unit (s := S4096x128) ![0, 0] S4096x128.size inb)).write (Elt F) f v Finset.univ = v :=
    Memref.write_access_unit_zero_univ (Elt F) cc0_stg2_0 (by funext a; fin_cases a <;> rfl) inb f v
  rw [e] at h
  iapply h $$ Ho
  iintro Ho
  iapply h2
  isplitl [HI]
  · iexact HI
  isplitl [Hs]
  · iexact Hs
  isplitl [Hw]
  · iexact Hw
  isplitl [Ho]
  · iexact Ho
  · iexact HG

end

variable (xi : Dev nD → S256x4096.Idx → Elt F .f32) (wi : Dev nD → S4096x128.Idx → Elt F .f32)

/-- The result. -/
def outV (c : Dev nD) : S4096x128.Idx → Elt F .f32 := k0_pay43 (allMax X A W c) (yAll X W c)

theorem p39 (c : Dev nD) (hX : X c = k0_pay1 (xi c)) (hW : W c = k0_pay2 (wi c)) (hA : A c = k0_pay36 (ownMax X W c)) (W' : Dev nD → S4096x128.Idx → Elt F .bf16) :
    J m X A K W' (Gin xi wi c) c 0 0 ⊢ WP c (ap (k0_part39 (F := F))) (Post m X A K W (Gin xi wi c) c 112 16 fun r => r = outV X A W c) := by
  rw [k0_part39_eq_skeleton]
  unfold ap k0_part39_skel
  refine j_seq m X A K W' _ c (p1 m X A K W' _ c) ?_
  rintro ⟨d0, v2, v3, v20, v24, v28, v34, c0⟩ h
  have h : c = d0 := h.symm
  subst h
  refine j_seq m X A K W' _ c (p2 m X A K W' xi wi c hX _ _ _) ?_
  rintro ⟨v40, v46, v50, v54, v66⟩ h
  have h : v66 = W c := h.trans hW.symm
  subst h
  refine j_seqW m X A K W _ c W' (p3 m X A K W _ c W' _ _ _ _ _) ?_
  rintro - -
  refine j_seq m X A K W _ c (p4 m X A K W _ c _ _ _ _ _ _) ?_
  rintro ⟨v121, v122, v123⟩ h
  have h : v121 = _ := h
  subst h
  refine j_seq m X A K W _ c (p5 m X A K W _ c _ _ _ _ _ _ _ _) ?_
  rintro ⟨v142, v145, v152⟩ -
  refine j_seq m X A K W _ c (p6 m X A K W _ c _ _ _ _ _ _ _ _) ?_
  rintro ⟨v164, v167⟩ -
  refine j_seq m X A K W _ c (p7 m X A K W _ c _ _ _) ?_
  rintro v220 h
  have h : v220 = _ := h
  subst h
  refine j_seq m X A K W _ c (p8 m X A K W _ c _ _ _ _ _) ?_
  rintro ⟨v240, v252⟩ ⟨h, h2⟩
  have h : v240 = _ := h
  have h2 : v252 = _ := h2
  subst h h2
  refine j_seq m X A K W _ c (p9 m X A K W _ c _ _ _ _ _ _ _) ?_
  rintro v260 h
  have h : v260 = _ := h
  subst h
  refine j_seq m X A K W _ c (p10 m X A K W _ c _ _ _) ?_
  rintro v316 h
  have h : v316 = _ := h
  subst h
  refine j_seq m X A K W _ c (p11 m X A K W _ c _ _ _ _ _ _) ?_
  rintro ⟨v338, v350⟩ ⟨h, h2⟩
  have h : v338 = _ := h
  have h2 : v350 = _ := h2
  subst h h2
  refine j_seq m X A K W _ c (p12 m X A K W _ c _ _ _ _ _ _) ?_
  rintro ⟨v358, v379, v382, c1⟩ h
  have h : v358 = _ := h
  subst h
  refine j_seq m X A K W _ c (p13 m X A K W _ c _ _ _ _ _) ?_
  rintro c2 -
  refine j_seq m X A K W _ c (p14 m X A K W _ c _ _ _ _ _) ?_
  rintro ⟨v443, v447, v449⟩ ⟨h, h2⟩
  have h : v443 = _ := h
  have h2 : v449 = _ := h2
  subst h h2
  refine j_seq m X A K W _ c (p15 m X A K W _ c _ _ _ _ _ _) ?_
  rintro v481 h
  have h : v481 = _ := h
  subst h
  refine j_seq m X A K W _ c (p16 m X A K W _ c _ _ _ _) ?_
  rintro v515 h
  have h : v515 = _ := h
  subst h
  refine j_seq m X A K W _ c (p17 m X A K W _ c _ _ _ _ _) ?_
  rintro ⟨v533, v544, c3⟩ h
  have h : v533 = _ := h
  subst h
  refine j_seq m X A K W _ c (p18 m X A K W _ c _ _ _ _ _) ?_
  rintro v575 h
  have h : v575 = _ := h
  subst h
  refine j_seq m X A K W _ c (p19 m X A K W _ c _ _ _ _ _ _) ?_
  rintro ⟨v579, v600, v602⟩ h
  have h : v579 = _ := h
  subst h
  refine j_seq m X A K W _ c (p20 m X A K W _ c _ _ _ _ _) ?_
  rintro v617 h
  have h : v617 = _ := h
  subst h
  refine j_seq m X A K W _ c (p21 m X A K W _ c _ _ _ _ _) ?_
  rintro v655 h
  have h : v655 = _ := h
  subst h
  refine j_seq m X A K W _ c (p22 m X A K W _ c _ _ _ _ _ _) ?_
  rintro ⟨v681, v690, c4⟩ h
  have h : v681 = _ := h
  subst h
  refine j_seq m X A K W _ c (p23 m X A K W _ c _ _ _ _ _ _) ?_
  rintro - -
  refine j_seq m X A K W _ c (p24 m X A K W _ c ) ?_
  rintro - -
  refine j_seq m X A K W _ c (p25 m X A K W _ c ) ?_
  rintro - -
  refine j_seq m X A K W _ c (p26 m X A K W _ c _ _ hA) ?_
  rintro ⟨v773, v783⟩ -
  refine j_seq m X A K W _ c (p27 m X A K W _ c _) ?_
  rintro ⟨v793, v803, v813⟩ -
  refine j_seq m X A K W _ c (p28 m X A K W _ c _) ?_
  rintro ⟨v823, v833, v843⟩ -
  refine j_seq m X A K W _ c (p29 m X A K W _ c _) ?_
  rintro ⟨v853, v863, v873⟩ -
  refine j_seq m X A K W _ c (p30 m X A K W _ c _) ?_
  rintro ⟨v883, v893, v903⟩ -
  refine j_seq m X A K W _ c (p31 m X A K W _ c _ _ _ _) ?_
  rintro ⟨v913, v930⟩ h
  have h : v930 = _ := h
  subst h
  refine j_seq m X A K W _ c (p32 m X A K W _ c _ _ _ _) ?_
  rintro v957 h
  have h : v957 = _ := h
  subst h
  refine j_seq m X A K W _ c (p33 m X A K W _ c _ _ _ _) ?_
  rintro v984 h
  have h : v984 = _ := h
  subst h
  refine j_seq m X A K W _ c (p34 m X A K W _ c _ _ _ _) ?_
  rintro v1011 h
  have h : v1011 = _ := h
  subst h
  refine j_seq m X A K W _ c (p35 m X A K W _ c _ _ _ _) ?_
  rintro v1038 h
  have h : v1038 = _ := h
  subst h
  refine j_seq m X A K W _ c (p36 m X A K W _ c _ _) ?_
  rintro v1056 h
  have h : v1056 = _ := h
  subst h
  refine j_seq m X A K W _ c (p37 m X A K W _ c ) ?_
  rintro - -
  refine j_seq m X A K W _ c (p38 m X A K W _ c ) ?_
  rintro - -
  simp (proj := false) only [Prog.lift, Prog.bind_op, Prog.bind_ret, Prog.pure_eq_ret]
  refine j_doneMax m X A K W _ c (n := 111) 14 rfl (fun _ => rfl) rfl rfl ?_
  refine j_outAll m X A K W _ c ?_
  exact j_ret m X A K W _ c rfl

/-- The whole body: from the start of the protocol to its end, the result stored. -/
theorem body_ok (c : Dev nD) (hX : X c = k0_pay1 (xi c)) (hW : W c = k0_pay2 (wi c)) (hA : A c = k0_pay36 (ownMax X W c)) (W' : Dev nD → S4096x128.Idx → Elt F .bf16)
    {Q : PUnit → sProp 𝕄}
    (hQ : iprop(Inv m X A K ∗ St m X A c 112 ∗ (wbM.view.loc (c : Thread nD τ) ↦[Finset.univ]{fullShare} W c)
      ∗ (outM.view.loc (c : Thread nD τ) ↦[Finset.univ]{fullShare} outV X A W c) ∗ Gin xi wi c) ⊢ iprop(|={Set.univ}=> Q ⟨⟩)) :
    J m X A K W' (Gin xi wi c) c 0 0 ⊢ WP c (ap (cc0_body (F := F))) Q := by
  rw [cc0_body_eq_skeleton]
  unfold ap cc0_body_skel
  refine j_seqW m X A K W _ c W' (p39 m X A K W xi wi c hX hW hA W') ?_
  rintro r h
  subst h
  simp (proj := false) only [Prog.lift, Prog.bind_op, Prog.bind_ret, Prog.pure_eq_ret]
  refine j_outAll m X A K W _ c ?_
  refine j_last m X A K W _ c ?_
  rw [show WP c (.ret ⟨⟩) Q = iprop(|={Set.univ}=> Q ⟨⟩) from wp_ret ..]
  exact hQ

end Cert.KernelIdeal.Pf

end
-- ==== Proof.KIGhost.lean ====
module

public import proofs.«01_k».proof.Proof.KISteps
public import proofs.«01_k».proof.Proof.MeshT6

/-!
# The ghost state a device starts with
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)

/-! ## A device's things, family by family -/

def gg (c : Dev nD) (n : ℕ) (r : Res) : sProp 𝕄 := if live c n r = true then Rs m X A c r else iprop(emp)

theorem Hs_eq (c : Dev nD) (n : ℕ) : Hs m X A c n = iprop((bigSep Finset.univ fun x : Fin 8 × Tx => gg m X A c n (.inl x))
    ∗ (bigSep Finset.univ fun x : Fin 5 × Pl => gg m X A c n (.inr (.inl x)))
    ∗ (bigSep Finset.univ fun x : Fin 10 × Fin 15 => gg m X A c n (.inr (.inr (.inl x))))
    ∗ (bigSep Finset.univ fun x : Fin 15 => gg m X A c n (.inr (.inr (.inr x))))) := by
  unfold Hs
  rw [bigSep_filter, bigSep_univ_sum, bigSep_univ_sum, bigSep_univ_sum]
  rfl

section Fams
variable {M : Type} [URA M]
theorem f4 (Φ : Fin 4 → sProp M) : bigSep Finset.univ Φ = iprop(Φ 0 ∗ Φ 1 ∗ Φ 2 ∗ Φ 3) := bigSep_univ_eq_bigSepL [0, 1, 2, 3] (by decide) (by decide) Φ
theorem f5 (Φ : Fin 5 → sProp M) : bigSep Finset.univ Φ = iprop(Φ 0 ∗ Φ 1 ∗ Φ 2 ∗ Φ 3 ∗ Φ 4) := bigSep_univ_eq_bigSepL [0, 1, 2, 3, 4] (by decide) (by decide) Φ
theorem f8 (Φ : Fin 8 → sProp M) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ
theorem f10 (Φ : Fin 10 → sProp M) : bigSep Finset.univ Φ = iprop(Φ 0 ∗ Φ 1 ∗ Φ 2 ∗ Φ 3 ∗ Φ 4 ∗ Φ 5 ∗ Φ 6 ∗ Φ 7 ∗ Φ 8 ∗ Φ 9) :=
  bigSep_univ_eq_bigSepL [0, 1, 2, 3, 4, 5, 6, 7, 8, 9] (by decide) (by decide) Φ
theorem f15 (Φ : Fin 15 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
theorem f2 (Φ : Fin 2 → sProp M) : bigSep Finset.univ Φ = iprop(Φ 0 ∗ Φ 1) := bigSep_univ_eq_bigSepL [0, 1] (by decide) (by decide) Φ

def ceE : (Pl ⊕ Tx ⊕ Fin 2 ⊕ Fin 15 ⊕ Fin 15) ≃ Ce :=
  Equiv.ofBijective (Sum.elim ceR (Sum.elim ceS (Sum.elim ceC (Sum.elim ceMS ceMR)))) (by decide +kernel)
/-- The semaphores of a device, kind by kind. -/
theorem fCe (Φ : Ce → sProp M) : bigSep Finset.univ Φ
    = iprop((bigSep Finset.univ fun p : Pl => Φ (ceR p)) ∗ (bigSep Finset.univ fun i : Tx => Φ (ceS i)) ∗ (bigSep Finset.univ fun l : Fin 2 => Φ (ceC l))
      ∗ (bigSep Finset.univ fun d : Fin 15 => Φ (ceMS d)) ∗ (bigSep Finset.univ fun d : Fin 15 => Φ (ceMR d))) := by
  rw [bigSep_univ_equiv ceE, bigSep_univ_sum, bigSep_univ_sum, bigSep_univ_sum, bigSep_univ_sum]
  rfl
/-- The first place apart. -/
theorem fPl (Φ : Pl → sProp M) : bigSep Finset.univ Φ = iprop(Φ 0 ∗ bigSep Finset.univ fun p : Pl => if (!Nat.beq p.val 0) = true then Φ p else iprop(emp)) := by
  rw [bigSep_univ_at _ 0]
  refine congrArg (fun a : sProp M => iprop(Φ 0 ∗ a)) ?_
  rw [show (Finset.univ : Finset Pl).erase 0 = Finset.univ.filter (fun p : Pl => (!Nat.beq p.val 0) = true) from by decide]
  exact bigSep_filter Finset.univ (fun p : Pl => (!Nat.beq p.val 0) = true) Φ
end Fams

section In
variable {J : Type} [Fintype J] (c : Dev nD) (n : ℕ) (f : J → Res) (b : J → Bool)
theorem in_cond (h : ∀ i, live c n (f i) = b i) :
    (bigSep Finset.univ fun i => if b i = true then Rs m X A c (f i) else iprop(emp)) ⊢ bigSep Finset.univ fun i => gg m X A c n (f i) :=
  bigSep_mono fun i _ => Entails.of_eq (show _ = gg m X A c n (f i) from by unfold gg; rw [h i])
theorem in_all (h : ∀ i, live c n (f i) = true) : (bigSep Finset.univ fun i => Rs m X A c (f i)) ⊢ bigSep Finset.univ fun i => gg m X A c n (f i) :=
  bigSep_mono fun i _ => Entails.of_eq (show _ = gg m X A c n (f i) from by unfold gg; rw [if_pos (h i)])
theorem in_none (h : ∀ i, live c n (f i) = false) : (iprop(emp) : sProp 𝕄) ⊢ bigSep Finset.univ fun i => gg m X A c n (f i) :=
  (Entails.of_eq (bigSep_emp_const _).symm).trans (bigSep_mono fun i _ => Entails.of_eq (show _ = gg m X A c n (f i) from by unfold gg; rw [if_neg (by rw [h i]; decide)]; rfl))
theorem out_cond (h : ∀ i, live c n (f i) = b i) :
    (bigSep Finset.univ fun i => gg m X A c n (f i)) ⊢ (bigSep Finset.univ fun i => if b i = true then Rs m X A c (f i) else iprop(emp)) :=
  bigSep_mono fun i _ => Entails.of_eq (show gg m X A c n (f i) = _ from by unfold gg; rw [h i])
theorem out_all (h : ∀ i, live c n (f i) = true) : (bigSep Finset.univ fun i => gg m X A c n (f i)) ⊢ (bigSep Finset.univ fun i => Rs m X A c (f i)) :=
  bigSep_mono fun i _ => Entails.of_eq (show gg m X A c n (f i) = _ from by unfold gg; rw [if_pos (h i)])
theorem gg_pos {r : Res} (h : live c n r = true) : gg m X A c n r = Rs m X A c r := if_pos h
theorem gg_neg {r : Res} (h : live c n r = false) : gg m X A c n r = iprop(emp) := if_neg (by rw [h]; decide)
end In

/-! ## The tokens -/

def tokOf (x : Dev nD × Tk) : GSem nD τ sig × ℕ × Fin 4 := (cell (tk x).1, 0, (tk x).2)
def cells : Finset (GSem nD τ sig) := Finset.univ.map ⟨cell, cell_inj⟩
def toks : Finset (GSem nD τ sig × ℕ × Fin 4) := (Finset.univ.filter fun x : Dev nD × Tk => tact x.1 x.2 = true).image tokOf
theorem tokOf_inj : Set.InjOn tokOf (Finset.univ.filter fun x : Dev nD × Tk => tact x.1 x.2 = true) := by
  rintro ⟨c, t⟩ h ⟨c', t'⟩ h' e
  have h1 := (Finset.mem_filter.1 h).2
  have h2 := (Finset.mem_filter.1 h').2
  have e1 : (tk (c, t)).1 = (tk (c', t')).1 := cell_inj (congrArg (fun y : GSem nD τ sig × ℕ × Fin 4 => y.1) e)
  have e2 : (tk (c, t)).2 = (tk (c', t')).2 := congrArg (fun y : GSem nD τ sig × ℕ × Fin 4 => y.2.2) e
  rw [← tk_inv c t h1, ← tk_inv c' t' h2, Prod.ext e1 e2]

/-- The tokens a device pays with. -/
def pT (c : Dev nD) : sProp 𝕄 := bigSep Finset.univ fun t : Tk => if tact c t = true then dutyTok ER (cell (tk (c, t)).1) 0 (tk (c, t)).2 else iprop(emp)
def pA (c : Dev nD) : sProp 𝕄 := bigSep Finset.univ fun k : Ce => atPos ER (cell (c, k)) 0 ∅ 0

/-- What a device's ghost state is at the start; -/
def G (c : Dev nD) : sProp 𝕄 :=
  iprop((bigSep Finset.univ fun k : Ce => roundState ER (Rd m X A) (cell (c, k)) 0)
    ∗ (pA c ∗ bigSep Finset.univ fun k : Ce => reached ER (cell (c, k)) 0) ∗ pT c)
def records (K : Dev nD × Ce → ℕ) : sProp 𝕄 :=
  iprop((bigSep Finset.univ fun ck : Dev nD × Ce => cellInv ER (Rd m X A) (K ck) (cell ck))
    ∗ bigSep Finset.univ fun ck : Dev nD × Ce => reached ER (cell ck) 0)
instance records_persistent (K : Dev nD × Ce → ℕ) : BI.Persistent (records m X A K) := by unfold records; infer_instance
/-- and once the cells' invariants are made. -/
def G' (c : Dev nD) : sProp 𝕄 := iprop(∃ K, records m X A K ∗ pA c ∗ pT c)

theorem fund_all : BI.own (ER (initOf cells toks)) ⊢ (|==> bigSep Finset.univ (G m X A) : sProp 𝕄) := by
  have hX (Φ : GSem nD τ sig → sProp 𝕄) : bigSep cells Φ = bigSep Finset.univ fun c : Dev nD => bigSep Finset.univ fun k : Ce => Φ (cell (c, k)) := by
    unfold cells; rw [bigSep_map, bigSep_univ_prod]; rfl
  have hT : bigSep toks (fun x => (dutyTok ER x.1 x.2.1 x.2.2 : sProp 𝕄)) = bigSep Finset.univ fun c : Dev nD => pT c := by
    classical
    unfold toks; rw [bigSep_image_of_injOn tokOf_inj, bigSep_filter, bigSep_univ_prod]; rfl
  iintro HX
  imod (Rounds.fund ER (Rd m X A) cells toks) $$ HX with ⟨Hst, Hr, Hat, Htok⟩
  imodintro
  ihave Hst' := (Entails.of_eq (hX fun g => roundState ER (Rd m X A) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']
    · unfold pA; iexact Hat'
    · iexact Hr'
  iexact Htok'

/-! ## The semaphores -/

/-- The kernel's own semaphores: all but the barrier. -/
def osem (j : Fin 67) : SemLoc sig := semOf (3 + j.val)

def locE (c : Dev nD) : Ce ≃ Fin 68 :=
  Equiv.ofBijective (fun k => (⟨locN (c.val / 4) k.val - 3, by have := locN_lt (pz c) k; have := loc_lo (pz c) k; simp only [pz] at *; omega⟩ : Fin 68))
    (Finite.injective_iff_bijective.1 fun k k' h => by
      have h1 := loc_lo (pz c) k
      have h2 := loc_lo (pz c) k'
      have h3 : locN (c.val / 4) k.val - 3 = locN (c.val / 4) k'.val - 3 := congrArg Fin.val h
      simp only [pz] at h1 h2
      exact locN_inj (pz c) k k' (by simp only [pz]; omega))

theorem sems_eq (c : Dev nD) :
    iprop(Pipeline.ownSems0 (Ix := Unit) (Name := ℕ) (U := UU) (Lvl := ℕ) (Val := Elt F) (τ := τ) osem c ∗ unscopedSems0 c)
      = (bigSep Finset.univ fun k : Ce => semVal (cell (c, k)) 0 : sProp 𝕄) := by
  have hu : (unscopedSems0 c : sProp 𝕄) = bigSep Finset.univ fun j : Fin 1 => semVal ((c.tc : Thread nD τ), semOf (70 + j.val)) 0 := by
    unfold unscopedSems0
    rw [bigSep_eq_bigSepL_of_eq [semOf 70] (by decide) (by decide), bigSep_univ_eq_bigSepL [(0 : Fin 1)] (by decide) (by decide)]
    rfl
  have hk : (bigSep Finset.univ fun k : Ce => (semVal (cell (c, k)) 0 : sProp 𝕄))
      = bigSep Finset.univ fun j : Fin 68 => semVal ((c.tc : Thread nD τ), semOf (3 + j.val)) 0 := by
    rw [bigSep_univ_equiv (locE c) (fun j : Fin 68 => (semVal ((c.tc : Thread nD τ), semOf (3 + j.val)) 0 : sProp 𝕄))]
    refine bigSep_congr fun k _ => ?_
    have h1 := loc_lo (pz c) k
    simp only [pz] at h1
    have h2 : 3 + (locE c k).val = locN (c.val / 4) k.val := by
      show 3 + (locN (c.val / 4) k.val - 3) = _
      omega
    rw [h2]; rfl
  rw [hu, hk, bigSep_univ_equiv (finSumFinEquiv : Fin 67 ⊕ Fin 1 ≃ Fin 68), bigSep_univ_sum]
  unfold Pipeline.ownSems0 osem
  refine congrArg₂ (fun a b : sProp 𝕄 => iprop(a ∗ b)) ?_ ?_
  · exact bigSep_congr fun j _ => rfl
  · refine bigSep_congr fun j _ => ?_
    have : 3 + (finSumFinEquiv (Sum.inr j : Fin 67 ⊕ Fin 1)).val = 70 + j.val := by
      rw [finSumFinEquiv_apply_right]; simp only [Fin.val_natAdd]; omega
    rw [this]

theorem core_alloc (c : Dev nD) :
    iprop(Pipeline.ownSems0 (Ix := Unit) (Name := ℕ) (U := UU) (Lvl := ℕ) (Val := Elt F) (τ := τ) osem c ∗ unscopedSems0 c ∗ G m X A c)
      ⊢ |={Set.univ}=> iprop((bigSep Finset.univ fun k => iprop(∃ κ : ℕ, cellInv ER (Rd m X A) κ (cell (c, k))))
          ∗ (bigSep Finset.univ fun k : Ce => reached ER (cell (c, k)) 0) ∗ pA c ∗ pT c) := by
  unfold G
  iintro ⟨Hos, Hus, Hst, ⟨Hat, Hre⟩, Htok⟩
  ihave Hv := (Entails.of_eq (sems_eq (F := F) c)) $$ [Hos Hus]
  · isplitl [Hos] <;> iassumption
  imod (show iprop((bigSep Finset.univ fun k : Ce => semVal (cell (c, k)) 0) ∗ bigSep Finset.univ fun k : Ce => roundState ER (Rd m X A) (cell (c, k)) 0)
      ⊢ (|={Set.univ}=> bigSep Finset.univ fun k => iprop(∃ κ : ℕ, cellInv ER (Rd m X A) κ (cell (c, k))) : sProp 𝕄) from by
        rw [← bigSep_sep']
        exact (bigSep_mono fun k _ => (Rounds.body_intro ER (Rd m X A) (cell (c, k))).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  iexact Htok

theorem bs_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m X A) κ (cell (c, k))))
          ∗ (bigSep Finset.univ fun k : Ce => reached ER (cell (c, k)) 0) ∗ pA c ∗ pT c) : sProp 𝕄)
      ⊢ bigSep Finset.univ (G' m X A) := by
  rw [bigSep_sep', bigSep_sep', ← bigSep_univ_prod (fun ck : Dev nD × Ce => iprop(∃ κ : ℕ, cellInv ER (Rd m X A) κ (cell ck))),
    ← bigSep_univ_prod (fun ck : Dev nD × Ce => (reached ER (cell ck) 0 : sProp 𝕄))]
  iintro ⟨HI, #HR, Hl⟩
  ihave HK := (BI.bigSep_exists_pi Finset.univ (fun (ck : Dev nD × Ce) (κ : ℕ) => (cellInv ER (Rd m X A) κ (cell ck) : sProp 𝕄))) $$ HI
  icases HK with ⟨%K, #HI⟩
  iapply (bs_with (R := records m X A K) (Φ := fun c => iprop(pA c ∗ pT c)) fun c _ => show _ ⊢ G' m X A c from by unfold G'; iintro H; iexists K; iexact H)
  isplitr
  · unfold records; isplitl; · iexact HI
    iexact HR
  · iexact Hl

/-- Every device's invariants at once. -/
theorem glob : (bigSep Finset.univ fun c => iprop(Pipeline.ownSems0 (Ix := Unit) (Name := ℕ) (U := UU) (Lvl := ℕ) (Val := Elt F) (τ := τ) osem c ∗ unscopedSems0 c ∗ G m X A c) : sProp 𝕄)
    ⊢ |={Set.univ}=> bigSep Finset.univ (G' m X A) :=
  ((bigSep_mono fun c _ => core_alloc m X A c).trans (bigSep_fupd _ _)).trans (BI.fupd_mono (regroup m X A))

/-! ## The credits -/

abbrev O₀ (c : Dev nD) : CellTallies nD τ sig Unit := Ow c 0

theorem owed_at (d c : Dev nD) (k : Ce) :
    O₀ d (cell (c, k)) () = ∑ o : Ob, if oact d o = true ∧ otgt d o = (c, k) then amtC k else 0 := by
  unfold O₀ Ow
  rw [Finset.sum_apply, Finsupp.finset_sum_apply]
  refine Finset.sum_congr rfl fun o _ => ?_
  by_cases h : oact d o = true
  · rw [if_pos ⟨h, Nat.zero_le _⟩, tallyAt_apply]
    by_cases e : otgt d o = (c, k)
    · rw [if_pos ⟨congrArg cell e.symm, rfl⟩, if_pos ⟨h, e⟩]; unfold amtO; rw [e]
    · rw [if_neg (fun h' => e (cell_inj h'.1.symm)), if_neg (fun h' => e h'.2)]
  · rw [if_neg (fun h' => h h'.1), if_neg (fun h' => h h'.1)]; rfl

def lc (c : Dev nD) (k : Ce) : CellTallies nD τ sig Unit := tallyOn (cell (c, k)) (launchCredit (Pipeline.owing O₀) 0 (cell (c, k)))

theorem lc_of (c : Dev nD) (k : Ce) (n : ℕ) (h : (∑ x : Dev nD × Ob, if oact x.1 x.2 = true ∧ otgt x.1 x.2 = (c, k) then amtC k else 0) = n) :
    lc c k = tallyAt (cell (c, k)) () n := by
  unfold lc tallyAt; refine congrArg _ (Finsupp.ext fun u => ?_); cases u
  rw [Pipeline.launchCredit_owing, Finsupp.single_eq_same, Finset.sum_congr rfl fun d _ => owed_at d c k, ← h, Fintype.sum_prod_type]

theorem lc_one (c : Dev nD) (k : Ce) (hk : filled k.val = true) : lc c k = tallyAt (cell (c, k)) () (amtC k) := by
  refine lc_of c k _ ?_
  obtain ⟨h1, h2⟩ := ob_to c k hk
  have hk0 : k ≠ 0 := fun h => by rw [h] at hk; revert hk; decide
  rw [Finset.sum_eq_single (obOf c k.val)]
  · rw [if_pos ⟨h1, h2⟩]
  · rintro ⟨d, o⟩ - hne
    rw [if_neg]
    rintro ⟨ha, ht⟩
    refine hne ?_
    have := ob_of d o ha (by rw [ht]; exact hk0)
    rw [ht] at this
    exact this.symm
  · exact fun h => absurd (Finset.mem_univ _) h

theorem lc_bar (c : Dev nD) : lc c 0 = tallyAt (cell (c, 0)) () (duT c 0).card := by
  refine lc_of c 0 _ ?_
  have e : ∀ x : Dev nD × Ob, (if oact x.1 x.2 = true ∧ otgt x.1 x.2 = (c, 0) then amtC 0 else 0)
      = match x.2 with | .inl t => (if bact x.1 t = true ∧ bpeer x.1 t = c then 1 else 0) | .inr _ => 0 := by
    rintro ⟨d, (t | o)⟩
    · refine if_congr ?_ rfl rfl
      show (bact d t = true ∧ (bpeer d t, (0 : Ce)) = (c, 0)) ↔ _
      rw [Prod.mk.injEq]; simp
    · rw [if_neg]
      rintro ⟨h1, h2⟩
      obtain ⟨t, ht⟩ := ob_bar d (.inr o) (by rw [h2]) h1
      cases ht
  rw [Finset.sum_congr rfl fun x _ => e x]
  have hd : (duT c 0).card = _ := (bar_count c).symm
  rw [hd, Finset.card_filter, Fintype.sum_prod_type, Fintype.sum_prod_type]
  refine Finset.sum_congr rfl fun d _ => ?_
  rw [Fintype.sum_sum_type]
  simp

def pC (c : Dev nD) : sProp 𝕄 := bigSep Finset.univ fun k : Ce => cred (lc c k)
theorem creds (c : Dev nD) : (Pipeline.launchCred O₀ c : sProp 𝕄) ⊢ pC c := by
  have hinj : Set.InjOn (fun k : Ce => (cell (c, k)).2) (Finset.univ : Finset Ce) := fun k _ k' _ h => by
    have : cell (c, k) = cell (c, k') := Prod.ext rfl h
    exact congrArg Prod.snd (cell_inj this)
  unfold Pipeline.launchCred pC
  refine BIBase.Entails.trans (bs_sub (Finset.subset_univ (Finset.univ.image fun k : Ce => (cell (c, k)).2)) _) ?_
  rw [bigSep_image_of_injOn hinj]
  exact Entails.refl _

end Cert.KernelIdeal.Pf

end
-- ==== Proof.KIMem.lean ====
module

public import proofs.«01_k».proof.Proof.KIGhost

/-!
# The buffers a device starts with and ends with
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)

/-! ## The buffers, slot by slot -/

theorem cut {ℓ : Loc nD τ sig} {B : Type} [Fintype B] (I : B → Finset (Idx ℓ)) (hd : ∀ b b', b ≠ b' → Disjoint (I b) (I b')) (hc : Finset.univ.biUnion I = Finset.univ) :
    iprop(∃ f : Buf (Elt F) ℓ, ℓ ↦{fullShare} f) ⊢ (bigSep Finset.univ fun b => iprop(∃ f : Buf (Elt F) ℓ, ℓ ↦[I b]{fullShare} f) : sProp 𝕄) := by
  have h : ∀ f : Buf (Elt F) ℓ, (ℓ ↦{fullShare} f) ⊢ (bigSep Finset.univ fun b => iprop(∃ f : Buf (Elt F) ℓ, ℓ ↦[I b]{fullShare} f) : sProp 𝕄) := fun f =>
    (Entails.of_eq (Ring.pointsTo_blocks I hd hc f)).trans
      (bigSep_mono fun b _ => show (ℓ ↦[I b]{fullShare} f : sProp 𝕄) ⊢ iprop(∃ f : Buf (Elt F) ℓ, ℓ ↦[I b]{fullShare} f) from by iintro H; iexists f; iexact H)
  iintro ⟨%f, H⟩
  iapply (h f); iexact H

abbrev I5 (b : Fin 3) : Finset S3x256x4096.Idx := (Rect.unit (s := S3x256x4096) ![b.val, 0, 0] S1x256x4096.size (inb5 b)).set
theorem d5 (b b' : Fin 3) (h : b ≠ b') : Disjoint (I5 b) (I5 b') :=
  Ring.lead_disjoint (s := S3x256x4096) (0 : Fin 3) 1 (fun b : Fin 3 => ![b.val, 0, 0]) S1x256x4096.size inb5 (fun b => (Nat.one_mul _).symm) rfl b b' h
theorem c5 : Finset.univ.biUnion I5 = Finset.univ :=
  Ring.lead_cover (s := S3x256x4096) (0 : Fin 3) 1 (fun b : Fin 3 => ![b.val, 0, 0]) S1x256x4096.size inb5 (fun b => (Nat.one_mul _).symm)
    (fun b a ha => by fin_cases a; exacts [absurd rfl ha, rfl, rfl]) rfl (fun a ha => by fin_cases a; exacts [absurd rfl ha, rfl, rfl]) rfl
theorem s5 (b : Fin 3) : (slot5 b).view.set = I5 b := (View.set_reshape _ _).trans (View.set_slice_whole _ _)
theorem e5 (c : Dev nD) (s : Fin 3) : (Ex (F := F) c (slot5 s) : sProp 𝕄)
    = iprop(∃ f : Buf (Elt F) ((c : Thread nD τ).loc cc0_scratch2), ((c : Thread nD τ).loc cc0_scratch2) ↦[I5 s]{fullShare} f) := by
  unfold Ex; rw [s5]
theorem in5 (c : Dev nD) : iprop(∃ f : Buf (Elt F) ((c : Thread nD τ).loc cc0_scratch2), ((c : Thread nD τ).loc cc0_scratch2) ↦{fullShare} f)
    ⊢ (bigSep Finset.univ fun s : Fin 3 => Ex (F := F) c (slot5 s) : sProp 𝕄) :=
  (cut (ℓ := (c : Thread nD τ).loc cc0_scratch2) I5 d5 c5).trans (bigSep_mono fun s _ => Entails.of_eq (e5 c s).symm)
include m in
theorem out5 (c : Dev nD) : (bigSep Finset.univ fun s : Fin 3 => Ex (F := F) c (slot5 s) : sProp 𝕄)
    ⊢ iprop(∃ f : Buf (Elt F) ((c : Thread nD τ).loc cc0_scratch2), ((c : Thread nD τ).loc cc0_scratch2) ↦{fullShare} f) :=
  (bigSep_mono fun s _ => Entails.of_eq (e5 c s)).trans (Ring.pointsTo_blocks_join_exists (ℓ := (c : Thread nD τ).loc cc0_scratch2) I5 d5 c5 (m ((c : Thread nD τ).loc cc0_scratch2)))

abbrev I6 (b : Fin 4) : Finset S4x256x4096.Idx := (Rect.unit (s := S4x256x4096) ![b.val, 0, 0] S1x256x4096.size (inb6 b)).set
theorem d6 (b b' : Fin 4) (h : b ≠ b') : Disjoint (I6 b) (I6 b') :=
  Ring.lead_disjoint (s := S4x256x4096) (0 : Fin 3) 1 (fun b : Fin 4 => ![b.val, 0, 0]) S1x256x4096.size inb6 (fun b => (Nat.one_mul _).symm) rfl b b' h
theorem c6 : Finset.univ.biUnion I6 = Finset.univ :=
  Ring.lead_cover (s := S4x256x4096) (0 : Fin 3) 1 (fun b : Fin 4 => ![b.val, 0, 0]) S1x256x4096.size inb6 (fun b => (Nat.one_mul _).symm)
    (fun b a ha => by fin_cases a; exacts [absurd rfl ha, rfl, rfl]) rfl (fun a ha => by fin_cases a; exacts [absurd rfl ha, rfl, rfl]) rfl
theorem s6 (b : Fin 4) : (slot6 b).view.set = I6 b := (View.set_reshape _ _).trans (View.set_slice_whole _ _)
theorem e6 (c : Dev nD) (s : Fin 4) : (Ex (F := F) c (slot6 s) : sProp 𝕄)
    = iprop(∃ f : Buf (Elt F) ((c : Thread nD τ).loc cc0_scratch3), ((c : Thread nD τ).loc cc0_scratch3) ↦[I6 s]{fullShare} f) := by
  unfold Ex; rw [s6]
theorem in6 (c : Dev nD) : iprop(∃ f : Buf (Elt F) ((c : Thread nD τ).loc cc0_scratch3), ((c : Thread nD τ).loc cc0_scratch3) ↦{fullShare} f)
    ⊢ (bigSep Finset.univ fun s : Fin 4 => Ex (F := F) c (slot6 s) : sProp 𝕄) :=
  (cut (ℓ := (c : Thread nD τ).loc cc0_scratch3) I6 d6 c6).trans (bigSep_mono fun s _ => Entails.of_eq (e6 c s).symm)
include m in
theorem out6 (c : Dev nD) : (bigSep Finset.univ fun s : Fin 4 => Ex (F := F) c (slot6 s) : sProp 𝕄)
    ⊢ iprop(∃ f : Buf (Elt F) ((c : Thread nD τ).loc cc0_scratch3), ((c : Thread nD τ).loc cc0_scratch3) ↦{fullShare} f) :=
  (bigSep_mono fun s _ => Entails.of_eq (e6 c s)).trans (Ring.pointsTo_blocks_join_exists (ℓ := (c : Thread nD τ).loc cc0_scratch3) I6 d6 c6 (m ((c : Thread nD τ).loc cc0_scratch3)))

abbrev I7 (b : Fin 4) : Finset S4x256x4096.Idx := (Rect.unit (s := S4x256x4096) ![b.val, 0, 0] S1x256x4096.size (inb6 b)).set
theorem d7 (b b' : Fin 4) (h : b ≠ b') : Disjoint (I7 b) (I7 b') :=
  Ring.lead_disjoint (s := S4x256x4096) (0 : Fin 3) 1 (fun b : Fin 4 => ![b.val, 0, 0]) S1x256x4096.size inb6 (fun b => (Nat.one_mul _).symm) rfl b b' h
theorem c7 : Finset.univ.biUnion I7 = Finset.univ :=
  Ring.lead_cover (s := S4x256x4096) (0 : Fin 3) 1 (fun b : Fin 4 => ![b.val, 0, 0]) S1x256x4096.size inb6 (fun b => (Nat.one_mul _).symm)
    (fun b a ha => by fin_cases a; exacts [absurd rfl ha, rfl, rfl]) rfl (fun a ha => by fin_cases a; exacts [absurd rfl ha, rfl, rfl]) rfl
theorem s7 (b : Fin 4) : (slot7 b).view.set = I7 b := (View.set_reshape _ _).trans (View.set_slice_whole _ _)
theorem e7 (c : Dev nD) (s : Fin 4) : (Ex (F := F) c (slot7 s) : sProp 𝕄)
    = iprop(∃ f : Buf (Elt F) ((c : Thread nD τ).loc cc0_scratch4), ((c : Thread nD τ).loc cc0_scratch4) ↦[I7 s]{fullShare} f) := by
  unfold Ex; rw [s7]
theorem in7 (c : Dev nD) : iprop(∃ f : Buf (Elt F) ((c : Thread nD τ).loc cc0_scratch4), ((c : Thread nD τ).loc cc0_scratch4) ↦{fullShare} f)
    ⊢ (bigSep Finset.univ fun s : Fin 4 => Ex (F := F) c (slot7 s) : sProp 𝕄) :=
  (cut (ℓ := (c : Thread nD τ).loc cc0_scratch4) I7 d7 c7).trans (bigSep_mono fun s _ => Entails.of_eq (e7 c s).symm)
include m in
theorem out7 (c : Dev nD) : (bigSep Finset.univ fun s : Fin 4 => Ex (F := F) c (slot7 s) : sProp 𝕄)
    ⊢ iprop(∃ f : Buf (Elt F) ((c : Thread nD τ).loc cc0_scratch4), ((c : Thread nD τ).loc cc0_scratch4) ↦{fullShare} f) :=
  (bigSep_mono fun s _ => Entails.of_eq (e7 c s)).trans (Ring.pointsTo_blocks_join_exists (ℓ := (c : Thread nD τ).loc cc0_scratch4) I7 d7 c7 (m ((c : Thread nD τ).loc cc0_scratch4)))

abbrev I8 (b : Fin 2) : Finset S2x256x4096.Idx := (Rect.unit (s := S2x256x4096) ![b.val, 0, 0] S1x256x4096.size (inb8 b)).set
theorem d8 (b b' : Fin 2) (h : b ≠ b') : Disjoint (I8 b) (I8 b') :=
  Ring.lead_disjoint (s := S2x256x4096) (0 : Fin 3) 1 (fun b : Fin 2 => ![b.val, 0, 0]) S1x256x4096.size inb8 (fun b => (Nat.one_mul _).symm) rfl b b' h
theorem c8 : Finset.univ.biUnion I8 = Finset.univ :=
  Ring.lead_cover (s := S2x256x4096) (0 : Fin 3) 1 (fun b : Fin 2 => ![b.val, 0, 0]) S1x256x4096.size inb8 (fun b => (Nat.one_mul _).symm)
    (fun b a ha => by fin_cases a; exacts [absurd rfl ha, rfl, rfl]) rfl (fun a ha => by fin_cases a; exacts [absurd rfl ha, rfl, rfl]) rfl
theorem s8 (b : Fin 2) : (slot8 b).view.set = I8 b := (View.set_reshape _ _).trans (View.set_slice_whole _ _)
theorem e8 (c : Dev nD) (s : Fin 2) : (Ex (F := F) c (slot8 s) : sProp 𝕄)
    = iprop(∃ f : Buf (Elt F) ((c : Thread nD τ).loc cc0_scratch5), ((c : Thread nD τ).loc cc0_scratch5) ↦[I8 s]{fullShare} f) := by
  unfold Ex; rw [s8]
theorem in8 (c : Dev nD) : iprop(∃ f : Buf (Elt F) ((c : Thread nD τ).loc cc0_scratch5), ((c : Thread nD τ).loc cc0_scratch5) ↦{fullShare} f)
    ⊢ (bigSep Finset.univ fun s : Fin 2 => Ex (F := F) c (slot8 s) : sProp 𝕄) :=
  (cut (ℓ := (c : Thread nD τ).loc cc0_scratch5) I8 d8 c8).trans (bigSep_mono fun s _ => Entails.of_eq (e8 c s).symm)
include m in
theorem out8 (c : Dev nD) : (bigSep Finset.univ fun s : Fin 2 => Ex (F := F) c (slot8 s) : sProp 𝕄)
    ⊢ iprop(∃ f : Buf (Elt F) ((c : Thread nD τ).loc cc0_scratch5), ((c : Thread nD τ).loc cc0_scratch5) ↦{fullShare} f) :=
  (bigSep_mono fun s _ => Entails.of_eq (e8 c s)).trans (Ring.pointsTo_blocks_join_exists (ℓ := (c : Thread nD τ).loc cc0_scratch5) I8 d8 c8 (m ((c : Thread nD τ).loc cc0_scratch5)))

abbrev IA (b : Fin 15) : Finset S15x8x128.Idx := (Rect.unit (s := S15x8x128) ![b.val, 0, 0] S1x8x128.size (inbA b)).set
theorem dA (b b' : Fin 15) (h : b ≠ b') : Disjoint (IA b) (IA b') :=
  Ring.lead_disjoint (s := S15x8x128) (0 : Fin 3) 1 (fun b : Fin 15 => ![b.val, 0, 0]) S1x8x128.size inbA (fun b => (Nat.one_mul _).symm) rfl b b' h
theorem cA : Finset.univ.biUnion IA = Finset.univ :=
  Ring.lead_cover (s := S15x8x128) (0 : Fin 3) 1 (fun b : Fin 15 => ![b.val, 0, 0]) S1x8x128.size inbA (fun b => (Nat.one_mul _).symm)
    (fun b a ha => by fin_cases a; exacts [absurd rfl ha, rfl, rfl]) rfl (fun a ha => by fin_cases a; exacts [absurd rfl ha, rfl, rfl]) rfl
theorem sA (b : Fin 15) : (slotA b).view.set = IA b := (View.set_reshape _ _).trans (View.set_slice_whole _ _)
theorem eA (c : Dev nD) (s : Fin 15) : (Ex (F := F) c (slotA s) : sProp 𝕄)
    = iprop(∃ f : Buf (Elt F) ((c : Thread nD τ).loc cc0_scratch7), ((c : Thread nD τ).loc cc0_scratch7) ↦[IA s]{fullShare} f) := by
  unfold Ex; rw [sA]
theorem inA (c : Dev nD) : iprop(∃ f : Buf (Elt F) ((c : Thread nD τ).loc cc0_scratch7), ((c : Thread nD τ).loc cc0_scratch7) ↦{fullShare} f)
    ⊢ (bigSep Finset.univ fun s : Fin 15 => Ex (F := F) c (slotA s) : sProp 𝕄) :=
  (cut (ℓ := (c : Thread nD τ).loc cc0_scratch7) IA dA cA).trans (bigSep_mono fun s _ => Entails.of_eq (eA c s).symm)
include m in
theorem outA (c : Dev nD) : (bigSep Finset.univ fun s : Fin 15 => Ex (F := F) c (slotA s) : sProp 𝕄)
    ⊢ iprop(∃ f : Buf (Elt F) ((c : Thread nD τ).loc cc0_scratch7), ((c : Thread nD τ).loc cc0_scratch7) ↦{fullShare} f) :=
  (bigSep_mono fun s _ => Entails.of_eq (eA c s)).trans (Ring.pointsTo_blocks_join_exists (ℓ := (c : Thread nD τ).loc cc0_scratch7) IA dA cA (m ((c : Thread nD τ).loc cc0_scratch7)))

section Fams
variable {M : Type} [URA M]
theorem f3 (Φ : Fin 3 → sProp M) : bigSep Finset.univ Φ = iprop(Φ 0 ∗ Φ 1 ∗ Φ 2) := bigSep_univ_eq_bigSepL [0, 1, 2] (by decide) (by decide) Φ
theorem f16 (Φ : Fin 16 → sProp M) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
end Fams

theorem whole_Ex (c : Dev nD) {s : Shape} {e : EltTy} (M : Memref sig .tc .vmem s e) (h : M.view.set = Finset.univ) :
    Ex (F := F) c M = iprop(∃ f : Buf (Elt F) (M.view.loc (c : Thread nD τ)), M.view.loc (c : Thread nD τ) ↦{fullShare} f) := by
  unfold Ex; rw [h]

def colE (c : Dev nD) : Fin 3 ≃ Fin 3 := Equiv.ofBijective _ (col_bij (pz c))
theorem col_eq (c : Dev nD) : (bigSep Finset.univ fun s : Fin 3 => Ex (F := F) c (slot5 s) : sProp 𝕄)
    = iprop(Ex (F := F) c (plM c 1) ∗ Ex (F := F) c (plM c 2) ∗ Ex (F := F) c (plM c 3)) := by
  rw [bigSep_univ_equiv (colE c), f3]; rfl
theorem pl6_eq (c : Dev nD) : (bigSep Finset.univ fun s : Fin 4 => Ex (F := F) c (slot6 s) : sProp 𝕄)
    = iprop(Ex (F := F) c (plM c 4) ∗ Ex (F := F) c (plM c 5) ∗ Ex (F := F) c (plM c 6) ∗ Ex (F := F) c (plM c 7)) := by
  rw [bigSep_univ_eq_bigSepL [0, 1, 2, 3] (by decide) (by decide)]; rfl
theorem pl7_eq (c : Dev nD) : (bigSep Finset.univ fun s : Fin 4 => Ex (F := F) c (slot7 s) : sProp 𝕄)
    = iprop(Ex (F := F) c (plM c 8) ∗ Ex (F := F) c (plM c 9) ∗ Ex (F := F) c (plM c 10) ∗ Ex (F := F) c (plM c 11)) := by
  rw [bigSep_univ_eq_bigSepL [0, 1, 2, 3] (by decide) (by decide)]; rfl
theorem pl8_eq (c : Dev nD) : (bigSep Finset.univ fun s : Fin 2 => Ex (F := F) c (slot8 s) : sProp 𝕄)
    = iprop(Ex (F := F) c (plM c 12) ∗ Ex (F := F) c (plM c 13)) := by
  rw [bigSep_univ_eq_bigSepL [0, 1] (by decide) (by decide)]; rfl
theorem pl8_eq' (c : Dev nD) : (bigSep Finset.univ fun s : Fin 2 => Ex (F := F) c (slot8 s) : sProp 𝕄)
    = iprop(Ex (F := F) c (plM c 14) ∗ Ex (F := F) c (plM c 15)) := by
  rw [bigSep_univ_eq_bigSepL [0, 1] (by decide) (by decide)]; rfl

/-- The slots of a device's maxima buffer, by the device that writes them. -/
theorem slots_eq (c : Dev nD) : (bigSep Finset.univ fun s : Fin 15 => Ex (F := F) c (slotA s) : sProp 𝕄) = bigSep (subF c 0) (slotRes (F := F) c) := by
  have hs : (Finset.univ : Finset (Fin 15)) = (subF c 0).image (sl c) := by
    symm
    rw [Finset.eq_univ_iff_forall]
    intro s
    obtain ⟨e, he, h⟩ := sl_bij c s
    exact Finset.mem_image.2 ⟨e, Finset.mem_filter.2 ⟨Finset.mem_univ _, (inSub_own c e).2 he⟩, h⟩
  rw [hs, bigSep_image_of_injOn (s := subF c 0) (f := sl c) (fun e he e' he' h =>
    sl_inj c e e' ((inSub_own c e).1 (Finset.mem_filter.1 he).2) ((inSub_own c e').1 (Finset.mem_filter.1 he').2) h)]
  rfl

/-- A device's buffers at the start: every slot, holding anything. -/
def pM (c : Dev nD) : sProp 𝕄 :=
  iprop((Ex (F := F) c (plM c 0) ∗ Ex (F := F) c (plM c 1) ∗ Ex (F := F) c (plM c 2) ∗ Ex (F := F) c (plM c 3) ∗ Ex (F := F) c (plM c 4) ∗ Ex (F := F) c (plM c 5) ∗ Ex (F := F) c (plM c 6) ∗ Ex (F := F) c (plM c 7) ∗ Ex (F := F) c (plM c 8) ∗ Ex (F := F) c (plM c 9) ∗ Ex (F := F) c (plM c 10) ∗ Ex (F := F) c (plM c 11) ∗ Ex (F := F) c (plM c 12) ∗ Ex (F := F) c (plM c 13)) ∗ Ex (F := F) c amM ∗ bigSep (subF c 0) (slotRes (F := F) c))

theorem mem_in (c : Dev nD) :
    iprop((∃ f : Buf (Elt F) ((c : Thread nD τ).loc cc0_scratch0), ((c : Thread nD τ).loc cc0_scratch0) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)) ⊢ (pM c : sProp 𝕄) := by
  unfold pM
  iintro ⟨H0, H2, H3, H4, H5, H6, H7⟩
  ihave H0' := (Entails.of_eq (whole_Ex (F := F) c xbM (View.set_whole _)).symm) $$ H0
  ihave H2' := ((in5 (F := F) c).trans (Entails.of_eq (col_eq c))) $$ H2
  ihave H3' := ((in6 (F := F) c).trans (Entails.of_eq (pl6_eq c))) $$ H3
  ihave H4' := ((in7 (F := F) c).trans (Entails.of_eq (pl7_eq c))) $$ H4
  ihave H5' := ((in8 (F := F) c).trans (Entails.of_eq (pl8_eq c))) $$ H5
  ihave H6' := (Entails.of_eq (whole_Ex (F := F) c amM (View.set_whole _)).symm) $$ H6
  ihave H7' := ((inA (F := F) c).trans (Entails.of_eq (slots_eq c))) $$ H7
  icases H2' with ⟨A1, A2, A3⟩
  icases H3' with ⟨A4, A5, A6, A7⟩
  icases H4' with ⟨A8, A9, A10, A11⟩
  icases H5' with ⟨A12, A13⟩
  isplitl [H0' A1 A2 A3 A4 A5 A6 A7 A8 A9 A10 A11 A12 A13]
  · isplitl [H0']; · iexact H0'
    isplitl [A1]; · iexact A1
    isplitl [A2]; · iexact A2
    isplitl [A3]; · iexact A3
    isplitl [A4]; · iexact A4
    isplitl [A5]; · iexact A5
    isplitl [A6]; · iexact A6
    isplitl [A7]; · iexact A7
    isplitl [A8]; · iexact A8
    isplitl [A9]; · iexact A9
    isplitl [A10]; · iexact A10
    isplitl [A11]; · iexact A11
    isplitl [A12]; · iexact A12
    iexact A13
  isplitl [H6']; · iexact H6'
  iexact H7'

/-- and at the end. -/
def pE (c : Dev nD) : sProp 𝕄 :=
  iprop((Ex (F := F) c (plM c 0) ∗ Ex (F := F) c (plM c 1) ∗ Ex (F := F) c (plM c 2) ∗ Ex (F := F) c (plM c 3) ∗ Ex (F := F) c (plM c 4) ∗ Ex (F := F) c (plM c 5) ∗ Ex (F := F) c (plM c 6) ∗ Ex (F := F) c (plM c 7) ∗ Ex (F := F) c (plM c 8) ∗ Ex (F := F) c (plM c 9) ∗ Ex (F := F) c (plM c 10) ∗ Ex (F := F) c (plM c 11) ∗ Ex (F := F) c (plM c 14) ∗ Ex (F := F) c (plM c 15)) ∗ Ex (F := F) c amM ∗ bigSep Finset.univ fun s : Fin 15 => Ex (F := F) c (slotA s))

include m in
theorem mem_out (c : Dev nD) : (pE c : sProp 𝕄) ⊢
    iprop((∃ f : Buf (Elt F) ((c : Thread nD τ).loc cc0_scratch0), ((c : Thread nD τ).loc cc0_scratch0) ↦{fullShare} f)
      ∗ (∃ f : Buf (Elt F) ((c : Thread nD τ).loc cc0_scratch2), ((c : Thread nD τ).loc cc0_scratch2) ↦{fullShare} f)
      ∗ (∃ f : Buf (Elt F) ((c : Thread nD τ).loc cc0_scratch3), ((c : Thread nD τ).loc cc0_scratch3) ↦{fullShare} f)
      ∗ (∃ f : Buf (Elt F) ((c : Thread nD τ).loc cc0_scratch4), ((c : Thread nD τ).loc cc0_scratch4) ↦{fullShare} f)
      ∗ (∃ f : Buf (Elt F) ((c : Thread nD τ).loc cc0_scratch5), ((c : Thread nD τ).loc cc0_scratch5) ↦{fullShare} f)
      ∗ (∃ f : Buf (Elt F) ((c : Thread nD τ).loc cc0_scratch6), ((c : Thread nD τ).loc cc0_scratch6) ↦{fullShare} f)
      ∗ (∃ f : Buf (Elt F) ((c : Thread nD τ).loc cc0_scratch7), ((c : Thread nD τ).loc cc0_scratch7) ↦{fullShare} f)) := by
  unfold pE
  iintro ⟨⟨A0, A1, A2, A3, A4, A5, A6, A7, A8, A9, A10, A11, A14, A15⟩, H6, H7⟩
  isplitl [A0]; · iapply (Entails.of_eq (whole_Ex (F := F) c xbM (View.set_whole _))); iexact A0
  isplitl [A1 A2 A3]
  · iapply ((Entails.of_eq (col_eq (F := F) c).symm).trans (out5 m c))
    isplitl [A1]; · iexact A1
    isplitl [A2]; · iexact A2
    iexact A3
  isplitl [A4 A5 A6 A7]
  · iapply ((Entails.of_eq (pl6_eq (F := F) c).symm).trans (out6 m c))
    isplitl [A4]; · iexact A4
    isplitl [A5]; · iexact A5
    isplitl [A6]; · iexact A6
    iexact A7
  isplitl [A8 A9 A10 A11]
  · iapply ((Entails.of_eq (pl7_eq (F := F) c).symm).trans (out7 m c))
    isplitl [A8]; · iexact A8
    isplitl [A9]; · iexact A9
    isplitl [A10]; · iexact A10
    iexact A11
  isplitl [A14 A15]
  · iapply ((Entails.of_eq (pl8_eq' (F := F) c).symm).trans (out8 m c))
    isplitl [A14]; · iexact A14
    iexact A15
  isplitl [H6]; · iapply (Entails.of_eq (whole_Ex (F := F) c amM (View.set_whole _))); iexact H6
  iapply (outA m c); iexact H7

end Cert.KernelIdeal.Pf

end
-- ==== Proof.KIEnds.lean ====
module

public import proofs.«01_k».proof.Proof.KIMem

/-!
# What a device starts with and ends with
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (X : Dev nD → S256x4096.Idx → Elt F .bf16) (A : Dev nD → S8x128.Idx → Elt F .f32)

theorem drop_r {M : Type} [URA M] {P Q : sProp M} : iprop(P ∗ Q) ⊢ P := by iintro ⟨H, -⟩; iexact H

/-! ## At the start -/

theorem pT_eq (c : Dev nD) : (pT c : sProp 𝕄) = iprop(
    ((bigSep Finset.univ fun t : Fin 4 => if bact c t = true then dutyTok ER (cell (bpeer c t, 0)) 0 t else iprop(emp))
      ∗ (bigSep Finset.univ fun i : Tx => if act c i = true then dutyTok ER (cell (peer c i, ceR (dpl c i))) 0 0 else iprop(emp))
      ∗ (bigSep Finset.univ fun l : Fin 2 => dutyTok ER (cell (ctgt c l, ceC l)) 0 0)
      ∗ (bigSep Finset.univ fun d : Fin 15 => dutyTok ER (cell (mpeer c d, ceMR d)) 0 0))
    ∗ (bigSep Finset.univ fun i : Tx => if act c i = true then dutyTok ER (cell (c, ceS i)) 0 0 else iprop(emp))
    ∗ (bigSep Finset.univ fun d : Fin 15 => dutyTok ER (cell (c, ceMS d)) 0 0)) := by
  unfold pT
  rw [bigSep_univ_sum, bigSep_univ_sum, bigSep_univ_sum, bigSep_univ_sum, bigSep_univ_sum]
  rfl

theorem pA_eq (c : Dev nD) : (pA c : sProp 𝕄) = iprop(
    (atPos ER (cell (c, 0)) 0 ∅ 0 ∗ bigSep Finset.univ fun p : Pl => if (!Nat.beq p.val 0) = true then atPos ER (cell (c, ceR p)) 0 ∅ 0 else iprop(emp))
    ∗ (bigSep Finset.univ fun i : Tx => atPos ER (cell (c, ceS i)) 0 ∅ 0) ∗ (bigSep Finset.univ fun l : Fin 2 => atPos ER (cell (c, ceC l)) 0 ∅ 0)
    ∗ (bigSep Finset.univ fun d : Fin 15 => atPos ER (cell (c, ceMS d)) 0 ∅ 0) ∗ (bigSep Finset.univ fun d : Fin 15 => atPos ER (cell (c, ceMR d)) 0 ∅ 0)) := by
  unfold pA
  rw [fCe, fPl]
  rfl

theorem fil : (∀ p : Pl, (!Nat.beq p.val 0) = true → filled (ceR p).val = true) ∧ (∀ l : Fin 2, filled (ceC l).val = true) ∧ (∀ d : Fin 15, filled (ceMR d).val = true) := by
  decide +kernel
theorem amt_R (p : Pl) (h : (!Nat.beq p.val 0) = true) : amtC (ceR p) = N := by
  have h1 : p.val ≠ 0 := fun e => by rw [e] at h; revert h; decide
  unfold amtC ceR; rw [if_neg h1, if_pos (by simp only; omega)]
theorem amt_C (l : Fin 2) : amtC (ceC l) = 1 := by
  unfold amtC ceC; rw [if_neg (by simp only; omega), if_neg (by simp only; omega), if_pos (by simp only; omega)]
theorem amt_M (d : Fin 15) : amtC (ceMR d) = NA := by
  unfold amtC ceMR; rw [if_neg (by simp only; omega), if_neg (by simp only; omega), if_neg (by simp only; omega)]

theorem pC_eq (c : Dev nD) : (pC c : sProp 𝕄) ⊢ iprop(
    (cred (tallyAt (cell (c, 0)) () (duT c 0).card) ∗ bigSep Finset.univ fun p : Pl => if (!Nat.beq p.val 0) = true then cred (tallyAt (cell (c, ceR p)) () N) else iprop(emp))
    ∗ (bigSep Finset.univ fun l : Fin 2 => cred (tallyAt (cell (c, ceC l)) () 1))
    ∗ (bigSep Finset.univ fun d : Fin 15 => cred (tallyAt (cell (c, ceMR d)) () NA))) := by
  unfold pC
  rw [fCe, fPl]
  have e1 : (bigSep Finset.univ fun p : Pl => if (!Nat.beq p.val 0) = true then cred (lc c (ceR p)) else (iprop(emp) : sProp 𝕄))
      = bigSep Finset.univ fun p : Pl => if (!Nat.beq p.val 0) = true then cred (tallyAt (cell (c, ceR p)) () N) else iprop(emp) :=
    bigSep_congr fun p _ => by
      by_cases h : (!Nat.beq p.val 0) = true
      · rw [if_pos h, if_pos h, lc_one c _ (fil.1 p h), amt_R p h]
      · rw [if_neg h, if_neg h]
  have e2 : (bigSep Finset.univ fun l : Fin 2 => (cred (lc c (ceC l)) : sProp 𝕄)) = bigSep Finset.univ fun l : Fin 2 => cred (tallyAt (cell (c, ceC l)) () 1) :=
    bigSep_congr fun l _ => by rw [lc_one c _ (fil.2.1 l), amt_C l]
  have e3 : (bigSep Finset.univ fun d : Fin 15 => (cred (lc c (ceMR d)) : sProp 𝕄)) = bigSep Finset.univ fun d : Fin 15 => cred (tallyAt (cell (c, ceMR d)) () NA) :=
    bigSep_congr fun d _ => by rw [lc_one c _ (fil.2.2 d), amt_M d]
  have e0 : (cred (lc c (ceR 0)) : sProp 𝕄) = cred (tallyAt (cell (c, 0)) () (duT c 0).card) := by rw [show ceR 0 = 0 from rfl, lc_bar]
  rw [e0, e1, e2, e3]
  iintro ⟨⟨H0, H1⟩, -, H2, -, H3⟩
  isplitl [H0 H1]
  · isplitl [H0] <;> iassumption
  isplitl [H2] <;> iassumption

theorem t_start (c : Dev nD) :
    iprop((bigSep Finset.univ fun i : Tx => if act c i = true then dutyTok ER (cell (c, ceS i)) 0 0 else iprop(emp))
      ∗ (bigSep Finset.univ fun i : Tx => if act c i = true then dutyTok ER (cell (peer c i, ceR (dpl c i))) 0 0 else iprop(emp))
      ∗ (bigSep Finset.univ fun i : Tx => atPos ER (cell (c, ceS i)) 0 ∅ 0))
      ⊢ bigSep Finset.univ fun x : Fin 8 × Tx => gg m X A c 0 (.inl x) := by
  rw [bigSep_univ_prod, f8]
  iintro ⟨H1, H2, H3⟩
  isplitl [H1]; · iapply (in_cond m X A c 0 (fun i => tokS i) (fun i => act c i) (fun i => (l0_tx c i).1)); iexact H1
  isplitl [H2]; · iapply (in_cond m X A c 0 (fun i => tokR i) (fun i => act c i) (fun i => (l0_tx c i).2.1)); iexact H2
  isplitr; · iapply (in_none m X A c 0 (fun i => crdS i) (fun i => (l0_tx c i).2.2.1)); iempintro
  isplitl [H3]; · iapply (in_all m X A c 0 (fun i => posS i) (fun i => (l0_tx c i).2.2.2.1)); iexact H3
  isplitr; · iapply (in_none m X A c 0 (fun i => valS i) (fun i => (l0_tx c i).2.2.2.2.1)); iempintro
  isplitr; · iapply (in_none m X A c 0 (fun i => dst i) (fun i => (l0_tx c i).2.2.2.2.2.1)); iempintro
  isplitr; · iapply (in_none m X A c 0 (fun i => srct i) (fun i => (l0_tx c i).2.2.2.2.2.2.1)); iempintro
  iapply (in_none m X A c 0 (fun i => slts i) (fun i => (l0_tx c i).2.2.2.2.2.2.2)); iempintro

theorem raw_in (c : Dev nD) : iprop(Ex (F := F) c (plM c 0) ∗ Ex (F := F) c (plM c 1) ∗ Ex (F := F) c (plM c 2) ∗ Ex (F := F) c (plM c 3) ∗ Ex (F := F) c (plM c 4) ∗ Ex (F := F) c (plM c 5) ∗ Ex (F := F) c (plM c 6) ∗ Ex (F := F) c (plM c 7) ∗ Ex (F := F) c (plM c 8) ∗ Ex (F := F) c (plM c 9) ∗ Ex (F := F) c (plM c 10) ∗ Ex (F := F) c (plM c 11) ∗ Ex (F := F) c (plM c 12) ∗ Ex (F := F) c (plM c 13)) ⊢ bigSep Finset.univ fun p : Pl => gg m X A c 0 (raw p) := by
  have e : ∀ p : Pl, Nat.blt p.val 14 = true → Ex (F := F) c (plM c p) ⊢ gg m X A c 0 (raw p) := fun p h =>
    Entails.of_eq (gg_pos m X A c 0 (r := raw p) ((l0_pl c p).2.2.1.trans h)).symm
  have e' : ∀ p : Pl, Nat.blt p.val 14 = false → (iprop(emp) : sProp 𝕄) ⊢ gg m X A c 0 (raw p) := fun p h =>
    Entails.of_eq (gg_neg m X A c 0 (r := raw p) ((l0_pl c p).2.2.1.trans h)).symm
  rw [f16]
  iintro ⟨H0, H1, H2, H3, H4, H5, H6, H7, H8, H9, H10, H11, H12, H13⟩
  isplitl [H0]; · iapply (e 0 rfl); iexact H0
  isplitl [H1]; · iapply (e 1 rfl); iexact H1
  isplitl [H2]; · iapply (e 2 rfl); iexact H2
  isplitl [H3]; · iapply (e 3 rfl); iexact H3
  isplitl [H4]; · iapply (e 4 rfl); iexact H4
  isplitl [H5]; · iapply (e 5 rfl); iexact H5
  isplitl [H6]; · iapply (e 6 rfl); iexact H6
  isplitl [H7]; · iapply (e 7 rfl); iexact H7
  isplitl [H8]; · iapply (e 8 rfl); iexact H8
  isplitl [H9]; · iapply (e 9 rfl); iexact H9
  isplitl [H10]; · iapply (e 10 rfl); iexact H10
  isplitl [H11]; · iapply (e 11 rfl); iexact H11
  isplitl [H12]; · iapply (e 12 rfl); iexact H12
  isplitl [H13]; · iapply (e 13 rfl); iexact H13
  isplitr; · iapply (e' 14 rfl); iempintro
  iapply (e' 15 rfl); iempintro

theorem p_start (c : Dev nD) :
    iprop((bigSep Finset.univ fun p : Pl => if (!Nat.beq p.val 0) = true then atPos ER (cell (c, ceR p)) 0 ∅ 0 else iprop(emp))
      ∗ (bigSep Finset.univ fun p : Pl => if (!Nat.beq p.val 0) = true then cred (tallyAt (cell (c, ceR p)) () N) else iprop(emp))
      ∗ (Ex (F := F) c (plM c 0) ∗ Ex (F := F) c (plM c 1) ∗ Ex (F := F) c (plM c 2) ∗ Ex (F := F) c (plM c 3) ∗ Ex (F := F) c (plM c 4) ∗ Ex (F := F) c (plM c 5) ∗ Ex (F := F) c (plM c 6) ∗ Ex (F := F) c (plM c 7) ∗ Ex (F := F) c (plM c 8) ∗ Ex (F := F) c (plM c 9) ∗ Ex (F := F) c (plM c 10) ∗ Ex (F := F) c (plM c 11) ∗ Ex (F := F) c (plM c 12) ∗ Ex (F := F) c (plM c 13)))
      ⊢ bigSep Finset.univ fun x : Fin 5 × Pl => gg m X A c 0 (.inr (.inl x)) := by
  have h := Entails.of_eq (bigSep_sep' Finset.univ
    (fun p : Pl => if (!Nat.beq p.val 0) = true then (atPos ER (cell (c, ceR p)) 0 ∅ 0 : sProp 𝕄) else iprop(emp))
    (fun p : Pl => if (!Nat.beq p.val 0) = true then cred (tallyAt (cell (c, ceR p)) () N) else iprop(emp))).symm
  have h2 : (bigSep Finset.univ fun p : Pl => iprop((if (!Nat.beq p.val 0) = true then (atPos ER (cell (c, ceR p)) 0 ∅ 0 : sProp 𝕄) else iprop(emp))
        ∗ (if (!Nat.beq p.val 0) = true then cred (tallyAt (cell (c, ceR p)) () N) else iprop(emp))))
      ⊢ bigSep Finset.univ fun p : Pl => if (!Nat.beq p.val 0) = true then Rs m X A c (posR p) else iprop(emp) :=
    bigSep_mono fun p _ => by
      by_cases h : (!Nat.beq p.val 0) = true
      · rw [if_pos h, if_pos h, if_pos h]; exact Entails.refl _
      · rw [if_neg h, if_neg h, if_neg h]; exact drop_r
  rw [bigSep_univ_prod, f5]
  iintro ⟨H1, H2, H3⟩
  isplitl [H1 H2]
  · iapply ((h.trans h2).trans (in_cond m X A c 0 (fun p => posR p) (fun p => !Nat.beq p.val 0) (fun p => (l0_pl c p).1)))
    isplitl [H1]; · iexact H1
    iexact H2
  isplitr; · iapply (in_none m X A c 0 (fun i => valR i) (fun i => (l0_pl c i).2.1)); iempintro
  isplitl [H3]; · iapply (raw_in m X A c); iexact H3
  isplitr; · iapply (in_none m X A c 0 (fun i => keep i) (fun i => (l0_pl c i).2.2.2.1)); iempintro
  iapply (in_none m X A c 0 (fun i => slt i) (fun i => (l0_pl c i).2.2.2.2)); iempintro

theorem m_start (c : Dev nD) :
    iprop((bigSep Finset.univ fun d : Fin 15 => dutyTok ER (cell (c, ceMS d)) 0 0)
      ∗ (bigSep Finset.univ fun d : Fin 15 => dutyTok ER (cell (mpeer c d, ceMR d)) 0 0)
      ∗ (bigSep Finset.univ fun d : Fin 15 => atPos ER (cell (c, ceMS d)) 0 ∅ 0)
      ∗ (bigSep Finset.univ fun d : Fin 15 => atPos ER (cell (c, ceMR d)) 0 ∅ 0)
      ∗ (bigSep Finset.univ fun d : Fin 15 => cred (tallyAt (cell (c, ceMR d)) () NA)))
      ⊢ bigSep Finset.univ fun x : Fin 10 × Fin 15 => gg m X A c 0 (.inr (.inr (.inl x))) := by
  have h := Entails.of_eq (bigSep_sep' Finset.univ (fun d : Fin 15 => (atPos ER (cell (c, ceMR d)) 0 ∅ 0 : sProp 𝕄))
    (fun d : Fin 15 => cred (tallyAt (cell (c, ceMR d)) () NA))).symm
  rw [bigSep_univ_prod, f10]
  iintro ⟨H1, H2, H3, H4, H5⟩
  isplitl [H1]; · iapply (in_all m X A c 0 (fun i => mtokS i) (fun i => (l0_m c i).1)); iexact H1
  isplitl [H2]; · iapply (in_all m X A c 0 (fun i => mtokR i) (fun i => (l0_m c i).2.1)); iexact H2
  isplitr; · iapply (in_none m X A c 0 (fun i => mdst i) (fun i => (l0_m c i).2.2.1)); iempintro
  isplitr; · iapply (in_none m X A c 0 (fun i => mcrd i) (fun i => (l0_m c i).2.2.2.1)); iempintro
  isplitl [H3]; · iapply (in_all m X A c 0 (fun i => mposS i) (fun i => (l0_m c i).2.2.2.2.1)); iexact H3
  isplitr; · iapply (in_none m X A c 0 (fun i => mvalS i) (fun i => (l0_m c i).2.2.2.2.2.1)); iempintro
  isplitr; · iapply (in_none m X A c 0 (fun i => msrc i) (fun i => (l0_m c i).2.2.2.2.2.2.1)); iempintro
  isplitl [H4 H5]
  · iapply (h.trans (in_all m X A c 0 (fun i => mposR i) (fun i => (l0_m c i).2.2.2.2.2.2.2.1)))
    isplitl [H4]; · iexact H4
    iexact H5
  isplitr; · iapply (in_none m X A c 0 (fun i => mvalR i) (fun i => (l0_m c i).2.2.2.2.2.2.2.2.1)); iempintro
  iapply (in_none m X A c 0 (fun i => mgot i) (fun i => (l0_m c i).2.2.2.2.2.2.2.2.2)); iempintro

theorem o_start (c : Dev nD) :
    iprop((bigSep Finset.univ fun t : Fin 4 => if bact c t = true then dutyTok ER (cell (bpeer c t, 0)) 0 t else iprop(emp))
      ∗ (atPos ER (cell (c, 0)) 0 ∅ 0 ∗ cred (tallyAt (cell (c, 0)) () (duT c 0).card))
      ∗ (bigSep Finset.univ fun l : Fin 2 => dutyTok ER (cell (ctgt c l, ceC l)) 0 0)
      ∗ (bigSep Finset.univ fun l : Fin 2 => atPos ER (cell (c, ceC l)) 0 ∅ 0)
      ∗ (bigSep Finset.univ fun l : Fin 2 => cred (tallyAt (cell (c, ceC l)) () 1))
      ∗ Ex (F := F) c amM ∗ bigSep (subF c 0) (slotRes (F := F) c))
      ⊢ bigSep Finset.univ fun x : Fin 15 => gg m X A c 0 (.inr (.inr (.inr x))) := by
  have hb : (bigSep Finset.univ fun t : Fin 4 => if bact c t = true then dutyTok ER (cell (bpeer c t, 0)) 0 t else (iprop(emp) : sProp 𝕄))
      ⊢ iprop(gg m X A c 0 (btok 0) ∗ gg m X A c 0 (btok 1) ∗ gg m X A c 0 (btok 2) ∗ gg m X A c 0 (btok 3)) := by
    rw [f4]
    unfold gg
    rw [l0_b c 0, l0_b c 1, l0_b c 2, l0_b c 3]
    exact Entails.refl _
  have y : ∀ (r : Res) (P : sProp 𝕄), P = Rs m X A c r → live c 0 r = true → P ⊢ gg m X A c 0 r := fun r P e h => Entails.of_eq (e.trans (gg_pos m X A c 0 h).symm)
  have n : ∀ r : Res, live c 0 r = false → (iprop(emp) : sProp 𝕄) ⊢ gg m X A c 0 r := fun r h => Entails.of_eq (gg_neg m X A c 0 h).symm
  obtain ⟨l4, l5, l6, l7, l8, l9, l10, l11, l12, l13, l14⟩ := l0_o c
  rw [f2, f2, f2, f15]
  iintro ⟨Hb, Hp, ⟨C0, C1⟩, ⟨P0, P1⟩, ⟨R0, R1⟩, Ha, Hs⟩
  ihave Hb' := hb $$ Hb
  icases Hb' with ⟨B0, B1, B2, B3⟩
  isplitl [B0]; · iexact B0
  isplitl [B1]; · iexact B1
  isplitl [B2]; · iexact B2
  isplitl [B3]; · iexact B3
  isplitl [Hp]; · iapply (y bpos iprop(atPos ER (cell (c, 0)) 0 ∅ 0 ∗ cred (tallyAt (cell (c, 0)) () (duT c 0).card)) rfl l4); iexact Hp
  isplitr; · iapply (n bval l5); iempintro
  isplitl [C0]; · iapply (y (ctok 0) (dutyTok ER (cell (ctgt c 0, ceC 0)) 0 0) rfl l6); iexact C0
  isplitl [C1]; · iapply (y (ctok 1) (dutyTok ER (cell (ctgt c 1, ceC 1)) 0 0) rfl l7); iexact C1
  isplitl [P0 R0]
  · iapply (y (cpos 0) iprop(atPos ER (cell (c, ceC 0)) 0 ∅ 0 ∗ cred (tallyAt (cell (c, ceC 0)) () 1)) rfl l8)
    isplitl [P0] <;> iassumption
  isplitl [P1 R1]
  · iapply (y (cpos 1) iprop(atPos ER (cell (c, ceC 1)) 0 ∅ 0 ∗ cred (tallyAt (cell (c, ceC 1)) () 1)) rfl l9)
    isplitl [P1] <;> iassumption
  isplitr; · iapply (n (cval 0) l10); iempintro
  isplitr; · iapply (n (cval 1) l11); iempintro
  isplitl [Ha]; · iapply (y araw (Ex (F := F) c amM) rfl l12); iexact Ha
  isplitr; · iapply (n akeep l13); iempintro
  iapply (y oslt (bigSep (subF c 0) (slotRes (F := F) c)) rfl l14); iexact Hs

/-- A device's tokens, positions, credits and buffers are what it holds at the start. -/
theorem hs_start (c : Dev nD) : iprop(pT c ∗ pA c ∗ pC c ∗ pM (F := F) c) ⊢ Hs m X A c 0 := by
  rw [Hs_eq, pT_eq, pA_eq]
  unfold pM
  iintro ⟨⟨⟨T1, T2, T3, T4⟩, T5, T6⟩, ⟨⟨A0, A1⟩, A2, A3, A4, A5⟩, HC, M1, M2, M3⟩
  ihave HC' := (pC_eq (F := F) c) $$ HC
  icases HC' with ⟨⟨C0, C1⟩, C2, C3⟩
  isplitl [T5 T2 A2]
  · iapply (t_start m X A c)
    isplitl [T5]; · iexact T5
    isplitl [T2]; · iexact T2
    iexact A2
  isplitl [A1 C1 M1]
  · iapply (p_start m X A c)
    isplitl [A1]; · iexact A1
    isplitl [C1]; · iexact C1
    iexact M1
  isplitl [T6 T4 A4 A5 C3]
  · iapply (m_start m X A c)
    isplitl [T6]; · iexact T6
    isplitl [T4]; · iexact T4
    isplitl [A4]; · iexact A4
    isplitl [A5]; · iexact A5
    iexact C3
  iapply (o_start m X A c)
  isplitl [T1]; · iexact T1
  isplitl [A0 C0]
  · isplitl [A0] <;> iassumption
  isplitl [T3]; · iexact T3
  isplitl [A3]; · iexact A3
  isplitl [C2]; · iexact C2
  isplitl [M2]; · iexact M2
  iexact M3

/-! ## At the end -/

/-- What is kept of a place and what its transfers gave back make the whole of it. -/
theorem place_join (c : Dev nD) (p : Pl) : iprop(Rs m X A c (keep p) ∗ bigSep (outs p).toFinset fun i => srcP m X c i) ⊢ Ex (F := F) c (plM c p) := by
  have hne : (20 : Fin 21) ∉ (outs p).toFinset.map Fin.castSuccEmb := fun h => by
    obtain ⟨i, -, hi⟩ := Finset.mem_map.1 h
    have := congrArg Fin.val hi; have h2 := i.isLt
    simp at this; omega
  refine BIBase.Entails.trans ?_ (At_Ex m c (plM c p) (X (org c p)))
  rw [At_deal m c (plM c p) (users p) ⟨20, Finset.mem_insert_self _ _⟩]
  conv => rhs; unfold users
  rw [bs_insert hne, bigSep_map]
  refine sep_mono_right (bigSep_mono fun i hi => ?_)
  have hs : src i = p := by
    have := (List.mem_filter.1 (List.mem_toFinset.1 hi)).2
    rw [Nat.beq_eq] at this
    exact Fin.ext this
  unfold srcP shr; rw [hs]; exact Entails.refl _

/-- The transfers, place by place. -/
theorem by_place {M : Type} [URA M] (Φ : Tx → sProp M) : bigSep Finset.univ Φ = bigSep Finset.univ fun p : Pl => bigSep (outs p).toFinset Φ := by
  have h1 : ∀ i : Tx, Φ i = bigSep Finset.univ fun p : Pl => if p ∈ ({src i} : Finset Pl) then Φ i else BI.emp := fun i => by
    rw [← bigSep_filter, Finset.filter_mem_eq_inter, Finset.univ_inter, bigSep_singleton]
  have h2 : ∀ p : Pl, bigSep (outs p).toFinset Φ = bigSep Finset.univ fun i : Tx => if p ∈ ({src i} : Finset Pl) then Φ i else BI.emp := fun p => by
    rw [← bigSep_filter]
    exact congrArg (fun s => bigSep s Φ) (Finset.ext fun i => by simp only [Finset.mem_filter, Finset.mem_univ, true_and]; exact (out_src i p).symm)
  rw [bigSep_congr fun i _ => h1 i, bigSep_congr (s := (Finset.univ : Finset Pl)) fun p _ => h2 p,
    ← bigSep_univ_prod (fun x : Tx × Pl => if x.2 ∈ ({src x.1} : Finset Pl) then Φ x.1 else BI.emp),
    ← bigSep_univ_prod (fun x : Pl × Tx => if x.1 ∈ ({src x.2} : Finset Pl) then Φ x.2 else BI.emp),
    bigSep_univ_equiv (Equiv.prodComm Pl Tx)]
  rfl

theorem places_out (c : Dev nD) :
    iprop((bigSep Finset.univ fun p : Pl => if (Nat.blt p.val 12 || Nat.ble 14 p.val) = true then Rs m X A c (keep p) else iprop(emp))
      ∗ bigSep Finset.univ fun i : Tx => srcP m X c i) ⊢ iprop(Ex (F := F) c (plM c 0) ∗ Ex (F := F) c (plM c 1) ∗ Ex (F := F) c (plM c 2) ∗ Ex (F := F) c (plM c 3) ∗ Ex (F := F) c (plM c 4) ∗ Ex (F := F) c (plM c 5) ∗ Ex (F := F) c (plM c 6) ∗ Ex (F := F) c (plM c 7) ∗ Ex (F := F) c (plM c 8) ∗ Ex (F := F) c (plM c 9) ∗ Ex (F := F) c (plM c 10) ∗ Ex (F := F) c (plM c 11) ∗ Ex (F := F) c (plM c 14) ∗ Ex (F := F) c (plM c 15)) := by
  have e1 : (bigSep Finset.univ fun i : Tx => srcP m X c i) = bigSep Finset.univ fun p : Pl => bigSep (outs p).toFinset fun i => srcP m X c i := by
    exact by_place _
  rw [e1, ← bigSep_sep']
  refine BIBase.Entails.trans (bigSep_mono (Ψ := fun p : Pl => if (Nat.blt p.val 12 || Nat.ble 14 p.val) = true then Ex (F := F) c (plM c p) else iprop(emp)) fun p _ => ?_) ?_
  · by_cases h : (Nat.blt p.val 12 || Nat.ble 14 p.val) = true
    · rw [if_pos h, if_pos h]; exact place_join m X A c p
    · rw [if_neg h, if_neg h]; exact drop_r
  · have t : ∀ p : Pl, (Nat.blt p.val 12 || Nat.ble 14 p.val) = true → (if (Nat.blt p.val 12 || Nat.ble 14 p.val) = true then Ex (F := F) c (plM c p) else iprop(emp)) ⊢ Ex (F := F) c (plM c p) := fun p h =>
      Entails.of_eq (if_pos h)
    rw [f16]
    iintro ⟨H0, H1, H2, H3, H4, H5, H6, H7, H8, H9, H10, H11, -, -, H14, H15⟩
    isplitl [H0]; · iapply (t 0 rfl); iexact H0
    isplitl [H1]; · iapply (t 1 rfl); iexact H1
    isplitl [H2]; · iapply (t 2 rfl); iexact H2
    isplitl [H3]; · iapply (t 3 rfl); iexact H3
    isplitl [H4]; · iapply (t 4 rfl); iexact H4
    isplitl [H5]; · iapply (t 5 rfl); iexact H5
    isplitl [H6]; · iapply (t 6 rfl); iexact H6
    isplitl [H7]; · iapply (t 7 rfl); iexact H7
    isplitl [H8]; · iapply (t 8 rfl); iexact H8
    isplitl [H9]; · iapply (t 9 rfl); iexact H9
    isplitl [H10]; · iapply (t 10 rfl); iexact H10
    isplitl [H11]; · iapply (t 11 rfl); iexact H11
    isplitl [H14]; · iapply (t 14 rfl); iexact H14
    iapply (t 15 rfl); iexact H15

theorem am_join (c : Dev nD) : iprop(At m c amM (shrA 15) (A c) ∗ bigSep Finset.univ fun d : Fin 15 => At m c amM (shrA d.castSucc) (A c)) ⊢ Ex (F := F) c amM := by
  refine BIBase.Entails.trans ?_ (At_Ex m c amM (A c))
  have e : At m c amM fullShare (A c) = iprop((bigSep Finset.univ fun d : Fin 15 => At m c amM (shrA d.castSucc) (A c)) ∗ At m c amM (shrA 15) (A c)) := by
    rw [At_deal m c amM (Finset.univ : Finset (Fin 16)) Finset.univ_nonempty, bigSep_univ_equiv (finSumFinEquiv : Fin 15 ⊕ Fin 1 ≃ Fin 16), bigSep_univ_sum,
      bigSep_univ_eq_bigSepL [(0 : Fin 1)] (by decide) (by decide)]
    rfl
  rw [e]
  iintro ⟨H1, H2⟩
  isplitl [H2]; · iexact H2
  iexact H1

/-- What a device holds at the end: its semaphores at zero and its buffers. -/
theorem hs_end (c : Dev nD) : Hs m X A c 112 ⊢ iprop((bigSep Finset.univ fun k : Ce => semVal (cell (c, k)) 0) ∗ pE (F := F) c) := by
  rw [Hs_eq, bigSep_univ_prod, f8, bigSep_univ_prod, f5, bigSep_univ_prod, f10, f15 (fun x => gg m X A c 112 (.inr (.inr (.inr x)))), fCe, fPl (fun p => semVal (cell (c, ceR p)) 0), f2]
  unfold pE
  obtain ⟨l4, l5, l6, l7, l8, l9, l10, l11, l12, l13, l14⟩ := l1_o c
  have y : ∀ (r : Res) (P : sProp 𝕄), Rs m X A c r = P → live c 112 r = true → gg m X A c 112 r ⊢ P := fun r P e h => Entails.of_eq ((gg_pos m X A c 112 h).trans e)
  have hA : (bigSep Finset.univ fun d : Fin 15 => At m c (slotA d) fullShare (A (mfrom c d))) ⊢ (bigSep Finset.univ fun d : Fin 15 => Ex (F := F) c (slotA d) : sProp 𝕄) :=
    bigSep_mono fun d _ => At_Ex m c (slotA d) (A (mfrom c d))
  iintro ⟨⟨-, -, -, -, V1, -, S1, -⟩, ⟨-, V2, -, S2, -⟩, ⟨-, -, -, -, -, V3, S3, -, V4, S4⟩, -, -, -, -, -, V5, -, -, -, -, V6, V7, -, S5, -⟩
  ihave V1' := (out_all m X A c 112 (fun i => valS i) (fun i => (l1_tx c i).2.2.2.2.1)) $$ V1
  ihave S1' := (out_all m X A c 112 (fun i => srct i) (fun i => (l1_tx c i).2.2.2.2.2.2.1)) $$ S1
  ihave V2' := (out_cond m X A c 112 (fun i => valR i) (fun p => !Nat.beq p.val 0) (fun i => (l1_pl c i).2.1)) $$ V2
  ihave S2' := (out_cond m X A c 112 (fun i => keep i) (fun p => Nat.blt p.val 12 || Nat.ble 14 p.val) (fun i => (l1_pl c i).2.2.2.1)) $$ S2
  ihave V3' := (out_all m X A c 112 (fun i => mvalS i) (fun i => (l1_m c i).2.2.2.2.2.1)) $$ V3
  ihave S3' := (out_all m X A c 112 (fun i => msrc i) (fun i => (l1_m c i).2.2.2.2.2.2.1)) $$ S3
  ihave V4' := (out_all m X A c 112 (fun i => mvalR i) (fun i => (l1_m c i).2.2.2.2.2.2.2.2.1)) $$ V4
  ihave S4' := (out_all m X A c 112 (fun i => mgot i) (fun i => (l1_m c i).2.2.2.2.2.2.2.2.2)) $$ S4
  ihave V5' := (y (.inr (.inr (.inr 5))) (semVal (cell (c, ceR 0)) 0) rfl l5) $$ V5
  ihave V6' := (y (.inr (.inr (.inr 10))) (semVal (cell (c, ceC 0)) 0) rfl l10) $$ V6
  ihave V7' := (y (.inr (.inr (.inr 11))) (semVal (cell (c, ceC 1)) 0) rfl l11) $$ V7
  ihave S5' := (y (.inr (.inr (.inr 13))) (At m c amM (shrA 15) (A c)) rfl l13) $$ S5
  isplitl [V1' V2' V3' V4' V5' V6' V7']
  · isplitl [V5' V2']
    · isplitl [V5']; · iexact V5'
      iexact V2'
    isplitl [V1']; · iexact V1'
    isplitl [V6' V7']
    · isplitl [V6']; · iexact V6'
      iexact V7'
    isplitl [V3']; · iexact V3'
    iexact V4'
  isplitl [S2' S1']
  · iapply (places_out m X A c)
    isplitl [S2']; · iexact S2'
    iexact S1'
  isplitl [S5' S3']
  · iapply (am_join m A c)
    isplitl [S5']; · iexact S5'
    iexact S3'
  iapply hA
  iexact S4'

end Cert.KernelIdeal.Pf

end
-- ==== Proof.KILaunch.lean ====
module

public import proofs.«01_k».proof.Proof.KIBody
public import proofs.«01_k».proof.Proof.KIEnds
public import Idealize.ShloMosaic.Lib.Pipeline.CollectiveSegs

/-!
# The launch

What a device starts from and ends with, the body's obligation, and the run of the program.
-/

@[expose] public section

set_option maxRecDepth 16384

noncomputable section

namespace Cert.KernelIdeal.Pf

open Cert.KernelIdeal Cert.KernelIdeal.Gen Cert.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (ρ : Dev nD → PrngReg)

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-! ## The contents -/

/-- The inputs as a device is given them, and in the narrow type the products are of. -/
def xS (c : Dev nD) : S256x4096.Idx → Elt F .f32 := iblk m c 0 t₀
def wS (c : Dev nD) : S4096x128.Idx → Elt F .f32 := iblk m c 1 t₀
def xT (c : Dev nD) : S256x4096.Idx → Elt F .bf16 := k0_pay1 (xS m c)
def wT (c : Dev nD) : S4096x128.Idx → Elt F .bf16 := k0_pay2 (wS m c)
/-- A device's own largest value, as it is sent. -/
def aT (c : Dev nD) : S8x128.Idx → Elt F .f32 := k0_pay36 (ownMax (xT m) (wT m) c)
/-- A device's result. -/
def oT (c : Dev nD) : S4096x128.Idx → Elt F .f32 := outV (xT m) (aT m) (wT m) c

/-! ## What a device starts from and ends with -/

def start (c : Dev nD) : sProp 𝕄 := iprop((∃ K, Inv m (xT m) (aT m) K) ∗ pT c ∗ pA c ∗ pC c)
def Φ₀ (c : Dev nD) : sProp 𝕄 :=
  iprop((∃ K, Inv m (xT m) (aT m) K) ∗ Hs m (xT m) (aT m) c 0
    ∗ ∃ f : Buf (Elt F) ((c : Thread nD τ).loc cc0_scratch1), ((c : Thread nD τ).loc cc0_scratch1) ↦{fullShare} f)
def Φ₁ (c : Dev nD) : sProp 𝕄 :=
  iprop(Hs m (xT m) (aT m) c 112
    ∗ ∃ f : Buf (Elt F) ((c : Thread nD τ).loc cc0_scratch1), ((c : Thread nD τ).loc cc0_scratch1) ↦{fullShare} f)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xS m c
    | ⟨1, _⟩ => wS m c
    | ⟨2, _⟩ => oT m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- At the end a device owes nothing. -/
theorem Ow_end (c : Dev nD) : Ow c 112 = 0 := by
  unfold Ow
  exact Finset.sum_eq_zero fun o _ => if_neg fun h => absurd h.2 (Nat.not_le.2 (ow_pos c o).2)

/-! ## The body -/

set_option maxRecDepth 4000 in
def bodyPre (c : Dev nD) : sProp 𝕄 :=
  iprop(Φ₀ m c ∗ (dats m ρ 0 c).owesAt () t₀.castSucc
    ∗ (∃ d, stg c cc0_stg0_0 ((dats m ρ 0 c).before (0 : Fin 3) t₀ d))
    ∗ (∃ d, stg c cc0_stg1_0 ((dats m ρ 0 c).before (1 : Fin 3) t₀ d))
    ∗ (∃ d, stg c cc0_stg2_0 ((dats m ρ 0 c).before (2 : Fin 3) t₀ d)))
def bodyPost (c : Dev nD) : sProp 𝕄 :=
  iprop(Φ₁ m c ∗ (dats m ρ 0 c).owesAt () t₀.succ ∗ stg c cc0_stg0_0 (xS m c) ∗ stg c cc0_stg1_0 (wS m c) ∗ stg c cc0_stg2_0 (oT m c))

theorem body_post (K : Dev nD × Ce → ℕ) (c : Dev nD) :
    iprop(Inv m (xT m) (aT m) K ∗ St m (xT m) (aT m) c 112 ∗ (wbM.view.loc (c : Thread nD τ) ↦[Finset.univ]{fullShare} wT m c)
      ∗ (outM.view.loc (c : Thread nD τ) ↦[Finset.univ]{fullShare} outV (xT m) (aT m) (wT m) c) ∗ Gin (xS m) (wS m) c)
      ⊢ iprop(|={Set.univ}=> bodyPost m ρ c) := by
  unfold St Gin bodyPost Φ₁ Dat.owesAt Pipeline.owesWithin stg
  rw [Ow_end, show (dats m ρ 0 c).owed t₀.succ = 0 from rfl]
  iintro ⟨-, ⟨HS, ⟨%W, HO⟩⟩, Hw, Hout, Hx, Hwi⟩
  imodintro
  isplitl [HS Hw]
  · isplitl [HS]; · iexact HS
    iexists (wT m c); iexact Hw
  isplitl [HO]
  · iexists W
    isplitr; · ipureintro; exact fun _ _ => Or.inl trivial
    iexact HO
  isplitl [Hx]
  · iexists (xS m c); isplitr; · (ipureintro; rfl)
    iexact Hx
  isplitl [Hwi]
  · iexists (wS m c); isplitr; · (ipureintro; rfl)
    iexact Hwi
  iexists (oT m c); isplitr; · (ipureintro; rfl)
  iexact Hout

theorem before_x (c : Dev nD) (d) : (dats m ρ 0 c).before (0 : Fin 3) t₀ d = xS m c := by
  unfold Dat.before; rw [if_pos (fetch0_0 t₀)]; rfl
theorem before_w (c : Dev nD) (d) : (dats m ρ 0 c).before (1 : Fin 3) t₀ d = wS m c := by
  unfold Dat.before; rw [if_pos (fetch0_1 t₀)]; rfl

theorem body_pre (c : Dev nD) : bodyPre m ρ c ⊢ WP c (ap (cc0_body (F := F))) (fun _ => bodyPost m ρ c) := by
  unfold bodyPre Φ₀ stg
  iintro ⟨⟨⟨%K, #HI⟩, HS, ⟨%f1, Hw⟩⟩, Ho, ⟨%d0, %g0, %hg0, Hx⟩, ⟨%d1, %g1, %hg1, Hwi⟩, ⟨%d2, %g2, -, Hout⟩⟩
  have hx : g0 = xS m c := hg0.trans (before_x m ρ c d0)
  have hw : g1 = wS m c := hg1.trans (before_w m ρ c d1)
  subst hx
  subst hw
  have hb := body_ok m (xT m) (aT m) K (wT m) (xS m) (wS m) c rfl rfl rfl (fun _ => f1) (Q := fun _ => bodyPost m ρ c) (body_post m ρ K c)
  iapply hb
  unfold J St Mem Gin
  isplitr; · iexact HI
  unfold Dat.owesAt Pipeline.owesWithin
  icases Ho with ⟨%W, -, HO⟩
  isplitl [HS HO]
  · isplitl [HS]; · iexact HS
    iexists W; iexact HO
  isplitl [Hw Hout]
  · isplitl [Hw]; · iexact Hw
    iexists g2
    isplitl [Hout]; · iexact Hout
    ipureintro; exact fun j hj => absurd hj (Nat.not_lt_zero j)
  isplitl [Hx]; · iexact Hx
  iexact Hwi

set_option maxRecDepth 4000 in
/-- The body's obligation on a device. -/
theorem body_obligation (c : Dev nD) : BodyObligation (dats (F := F) m ρ 0 c) (defs₀ (F := F)) 𝒱₀ () Set.univ := fun t => by
  rw [fin_N t]
  rw [bigSep_W0, bigSep_W0]
  simp only [owns_whole_eq]
  exact body_pre m ρ c

/-! ## Into the body and out of it -/

theorem ownSemFacts : Pipeline.OwnSemFacts cfg0.spec osem := by decide +kernel
theorem share_eq (c : Dev nD) (w : Fin cfg0.W) : (dats m ρ 0 c).share w = fullShare := by unfold Dat.share; split <;> rfl
def u₀ : UU := (initOf (Pipeline.cells cfgs cellOf_inj) (Pipeline.launchToks cfgs cellOf_inj), initOf cells toks)

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m (xT m) (aT m) c)
      ⊢ |={Set.univ}=> iprop(start m c ∗ emp) := by
  unfold start G' records
  iintro ⟨-, Hlev, Hcr, -, ⟨%K, ⟨H1, H2⟩, HA, HT⟩⟩
  ihave Hc := (creds (F := F) c) $$ Hcr
  imodintro
  isplitl
  · isplitl [H1 H2 Hlev]
    · iexists K
      unfold Inv
      isplitl [H1]; · iexact H1
      isplitl [H2]; · iexact H2
      iexact Hlev
    isplitl [HT]; · iexact HT
    isplitl [HA]; · iexact HA
    iexact Hc
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ start
  iintro ⟨⟨HI, HT, HA, HC⟩, -, H0, H1, H2, H3, H4, H5, H6, H7⟩
  isplitl [HI]; · iexact HI
  isplitr [H1]
  · iapply (hs_start m (xT m) (aT m) c)
    isplitl [HT]; · iexact HT
    isplitl [HA]; · iexact HA
    isplitl [HC]; · iexact HC
    iapply (mem_in (F := F) c)
    isplitl [H0]; · iexact H0
    isplitl [H2]; · iexact H2
    isplitl [H3]; · iexact H3
    isplitl [H4]; · iexact H4
    isplitl [H5]; · iexact H5
    isplitl [H6]; · iexact H6
    iexact H7
  · iexact H1

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m c from rfl, scopedRest0_eq]
  unfold Φ₁
  iintro ⟨HS, H1⟩
  ihave HE := (hs_end m (xT m) (aT m) c) $$ HS
  icases HE with ⟨Hz, HE⟩
  ihave Hz' := (Entails.of_eq (sems_eq (F := F) c).symm) $$ Hz
  icases Hz' with ⟨Hz1, Hz2⟩
  ihave HM := (mem_out m c) $$ HE
  icases HM with ⟨H0, H2, H3, H4, H5, H6, H7⟩
  isplitl [Hz2]; · iexact Hz2
  isplitl [Hz1]; · iexact Hz1
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-! ## The waits of the staging -/

theorem lv_cell (ck : Dev nD × Ce) : lv (cell ck) () = lvC ck.1 ck.2 := by unfold lv; rw [dec_cell]

/-- A staging semaphore is no cell. -/
theorem lv_stage (c : Dev nD) (j : ℕ) (h : j < 3) : lv ((c : Thread nD τ), semOf j) () = 0 := by
  unfold lv
  have hn : dec ((c : Thread nD τ), semOf j) = none := by
    unfold dec Function.partialInv
    refine dif_neg ?_
    rintro ⟨⟨c', k⟩, hk⟩
    have h2 : semOf (locN (c'.val / 4) k.val) = semOf j := congrArg Prod.snd hk
    have h3 := semOf_inj (locN_lt (pz c') k) (by omega) h2
    have := loc_lo (pz c') k
    have h4 : locN (pz c').val k.val = locN (c'.val / 4) k.val := rfl
    omega
  rw [hn]

theorem mayWait_stage (c : Dev nD) (j : ℕ) (hj : j < 3) (O : CellTallies nD τ sig Unit) (hO : O = O₀ c ∨ O = 0) :
    (levAts L lv : sProp 𝕄) ⊢ MayWait (c : Thread nD τ) (semOf j) () O := by
  rcases hO with rfl | rfl
  · exact MayOwe.of_cut (L := L) (lev := lv) 0 (fun p hp => by rw [Finset.mem_singleton.mp hp, L_tc]; exact Finset.mem_singleton_self _)
      (fun g u hg => by obtain ⟨o, _, _, rfl⟩ := Ow_pos hg; exact (L_tc _ _).symm ▸ Finset.mem_singleton_self _)
      (fun p hp => by rw [Finset.mem_singleton.mp hp]; exact Nat.le_of_eq (lv_stage c j hj))
      (fun g u hg => by
        obtain ⟨o, _, _, rfl⟩ := Ow_pos hg
        exact (lv_cell (otgt c o)).symm ▸ (ow_pos c o).1)
  · rw [MayWait_zero]; iintro -; iempintro

theorem stage_sem (w : Fin cfg0.W) (s : Fin (cfg0.win w).nbuf) : ∃ j, j < 3 ∧ SemLoc.dma ((cfg0.win w).sem s) = semOf j := by
  fin_cases w <;> fin_cases s
  · exact ⟨0, by decide, rfl⟩
  · exact ⟨1, by decide, rfl⟩
  · exact ⟨2, by decide, rfl⟩

theorem waits (c : Dev nD) : (levAts L lv : sProp 𝕄) ⊢ Pipeline.cellsWaits cfgs (dats m ρ) () 0 c :=
  Pipeline.cellsWaits_intro cfgs (dats m ρ) () 0 c fun w s t => by
    obtain ⟨j, hj, e⟩ := stage_sem w s
    have h := mayWait_stage (F := F) c j hj ((dats m ρ 0 c).owed t) (by
      rcases t with ⟨_ | _, ht⟩
      · exact Or.inl rfl
      · exact Or.inr rfl)
    rw [← e] at h
    exact h

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

/-- From any memory with zero counters every fair execution ends, with each device's arrays at what was computed and
    every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m (xT m) (aT m)) (G' := G' m (xT m) (aT m)) (u₀ := u₀)
    (hu₀ := by
      unfold u₀
      iintro Hu
      ihave H := (ownU_pair _ _) $$ Hu
      icases H with ⟨HP, HX⟩
      imod (fund_all m (xT m) (aT m)) $$ HX with HG
      imodintro
      isplitl [HP] <;> iassumption)
    (hglob := glob m (xT m) (aT m))
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments after the run hold what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

/-- The frame: the arguments are unchanged and the counters are at zero. -/
theorem frame_all : θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c 0).trans (finalA_x m ρ c), (h.1 c 1).trans (finalA_w m ρ c)⟩, h.2⟩) (run_main m ρ)

end Cert.KernelIdeal.Pf

end
-- ==== Proof.VMath.lean ====
module

public import Idealize.ShloMosaic.Lib.Pointwise
public import Idealize.ShloMosaic.PureOps.Ideal.Laws

/-!
# Maxima and the quantiser over the extended reals

A maximum is known by what it lies below.  The scale is the largest value over 448, so no quotient leaves the range and
the clipping changes nothing, whatever the scale is.
-/

@[expose] public section

noncomputable section

namespace Cert.Value

open Idealize.ShloMosaic

theorem ofBits_neg_top : Ideal.ofBits .f32 0xFF800000#32 = ⊥ := by simp [Ideal.ofBits, Ideal.ieee]
theorem ofBits_448 : Ideal.ofBits .f32 0x43E00000#32 = ((448 : ℝ) : EReal) := by
  simp [Ideal.ofBits, Ideal.ieee]; norm_num; exact_mod_cast (by norm_num : (14680064 : ℝ) * (1 / 32768) = 448)
theorem ofBits_neg_448 : Ideal.ofBits .f32 0xC3E00000#32 = ((-448 : ℝ) : EReal) := by
  simp [Ideal.ofBits, Ideal.ieee]; norm_num; exact_mod_cast (by norm_num : (14680064 : ℝ) * (1 / 32768) = 448)

/-- The largest of all values of an array. -/
theorem max_total_le {s t : Shape} {axes : List (Fin s.rank)} (src : FVec Ideal s .f32) (h : s.Reduces axes t) (ht : ∀ b, t.size b = 1)
    (hφ : FKind.Formats .f32) (hacc : (0xFF800000#32 : BitVec FTy.f32.bits) = FKind.maximumf.neutral .f32 hφ) (j : t.Idx) (a : EReal) :
    (multiReduction .maximumf axes t src 0xFF800000#32 h hφ hacc j : EReal) ≤ a ↔ ∀ i, (src i : EReal) ≤ a := by
  rw [multiReduction_maximumf_eq_fold]
  rw [Finset.filter_true_of_mem fun i _ => funext fun b => Fin.ext (by
    have := (h.drop i b).isLt; have := (j b).isLt; have := ht b; omega)]
  refine (Finset.fold_max_le (β := EReal) a).trans ?_
  constructor
  · intro h i; exact h.2 i (Finset.mem_univ i)
  · intro h; refine ⟨?_, fun i _ => h i⟩
    show Ideal.ofBits .f32 0xFF800000#32 ≤ a
    rw [ofBits_neg_top]; exact bot_le

theorem cast_all {s t : Shape} (v : FVec Ideal s .f32) (h : s.ShapeCasts t) (a : EReal) :
    (∀ i, (shapeCast t v h i : EReal) ≤ a) ↔ ∀ i, (v i : EReal) ≤ a := by
  unfold shapeCast
  exact ⟨fun hh i => by simpa using hh ((Shape.reshapeEquiv h).symm i), fun hh i => hh _⟩

/-- The clipping of the quotient changes nothing. -/
theorem quant (y M : EReal) (h0 : 0 ≤ y) (h1 : y ≤ M) :
    Ideal.div y (Ideal.div M ((448 : ℝ) : EReal)) * Ideal.div M ((448 : ℝ) : EReal)
      = min ((448 : ℝ) : EReal) (max ((-448 : ℝ) : EReal) (Ideal.div y (Ideal.div M ((448 : ℝ) : EReal)))) * Ideal.div M ((448 : ℝ) : EReal) := by
  have h448 : ((448 : ℝ) : EReal) ≠ 0 := by exact_mod_cast (by norm_num : (448 : ℝ) ≠ 0)
  have hd : Ideal.div M ((448 : ℝ) : EReal) = M * ((448 : ℝ) : EReal)⁻¹ := by unfold Ideal.div; rw [if_neg h448]
  rw [hd, ← EReal.coe_inv]
  have hM : 0 ≤ M := h0.trans h1
  induction M with
  | bot => exact absurd hM (by simp)
  | top =>
    rw [EReal.top_mul_coe_of_pos (by norm_num)]
    have : Ideal.div y ⊤ = 0 := by unfold Ideal.div; rw [if_neg (by simp)]; simp
    rw [this]
    rw [max_eq_right (by exact_mod_cast (by norm_num : (-448 : ℝ) ≤ 0)), min_eq_right (by exact_mod_cast (by norm_num : (0 : ℝ) ≤ 448))]
  | coe M =>
    have hM' : 0 ≤ M := by exact_mod_cast hM
    lift y to ℝ using ⟨ne_top_of_le_ne_top (EReal.coe_ne_top M) h1, fun h => by rw [h] at h0; exact absurd h0 (by simp)⟩
    have h0' : 0 ≤ y := by exact_mod_cast h0
    have h1' : y ≤ M := by exact_mod_cast h1
    rw [← EReal.coe_mul]
    rcases hM'.eq_or_lt with rfl | hp
    · rw [zero_mul, EReal.coe_zero, mul_zero, mul_zero]
    · have hne : ((M * (448 : ℝ)⁻¹ : ℝ) : EReal) ≠ 0 := by
        exact_mod_cast (by positivity : M * (448 : ℝ)⁻¹ ≠ 0)
      have hq : Ideal.div (y : EReal) ((M * (448 : ℝ)⁻¹ : ℝ) : EReal) = ((y * (M * (448 : ℝ)⁻¹)⁻¹ : ℝ) : EReal) := by
        unfold Ideal.div; rw [if_neg hne, ← EReal.coe_inv, ← EReal.coe_mul]
      rw [hq]
      have hq0 : 0 ≤ y * (M * (448 : ℝ)⁻¹)⁻¹ := by positivity
      have hq1 : y * (M * (448 : ℝ)⁻¹)⁻¹ ≤ 448 := by
        rw [← div_eq_mul_inv, div_le_iff₀ (by positivity)]
        linarith
      rw [max_eq_right (EReal.coe_le_coe_iff.2 (by linarith : (-448 : ℝ) ≤ _)), min_eq_right (by exact_mod_cast hq1)]

end Cert.Value

end
-- ==== Proof.KIValue.lean ====
module

public import proofs.«01_k».proof.Proof.KILaunch
public import proofs.«01_k».proof.Proof.VMath

/-!
# What the kernel computes, over the extended reals

A device's own largest value, the largest of all, and the result, by the products of the blocks.
-/

@[expose] public section

set_option maxRecDepth 16384

noncomputable section

namespace Cert.KernelIdeal.Pf

open Cert.KernelIdeal Cert.KernelIdeal.Gen Cert.Mesh Cert.Value
open Idealize.ShloMosaic
open Idealize.ShloMosaic.TcCoe

section Any
variable {F : FTy → Type} [FloatOps F]

/-- The largest value of a product. -/
def red (v : FVec F S256x128 .f32) : F .f32 :=
  extractAt ![0, 0, 0] (shapeCast S1x1x1 (multiReduction .maximumf [1, 2] S1 (shapeCast S1x256x128 v shapeCasts_S256x128_S1x256x128)
    0xFF800000#32 reduces_S1x256x128_S1 (.inl rfl) rfl) shapeCasts_S1_S1x1x1) inpos_S1x1x1_p0_0_0

variable (X : Dev nD → S256x4096.Idx → Elt F .bf16) (W : Dev nD → S4096x128.Idx → Elt F .bf16)

/-- The largest value of device `o`'s block's product, on device `c`. -/
def redO (c : Dev nD) (k : Pl) : F .f32 := red (k0_pay3 (X (org c k)) (W c))

theorem ownMax_eq (c : Dev nD) : ownMax X W c =
    (List.map (redO X W c) [4, 8, 1, 5, 9, 2, 6, 10, 3, 7, 11, 12, 13, 14, 15]).foldl Scalar.maximumf
      (Scalar.maximumf (Scalar.ofBits .f32 0x00000000#32) (redO X W c 0)) := by
  have h (k : Pl) : redO X W c k = red (k0_pay5 (bl X c k) (W c)) := by unfold redO; rw [pay5_up]
  have h0 : redO X W c 0 = red (k0_pay3 (X c) (W c)) := by unfold redO; rw [org_zero]
  simp only [List.map_cons, List.map_nil, List.foldl_cons, List.foldl_nil]
  rw [h0]
  simp only [h]
  rfl

end Any

theorem cast_at {s t : Shape} {α : Type} (x : s.Idx → α) (h : s.ShapeCasts t) (j : t.Idx) : shapeCast t x h j = x (Shape.reshapeEquiv h j) := rfl

theorem red_le (v : FVec Ideal S256x128 .f32) (a : EReal) : (red v : EReal) ≤ a ↔ ∀ i, (v i : EReal) ≤ a := by
  unfold red extractAt
  rw [cast_at, ← cast_all v shapeCasts_S256x128_S1x256x128 a]
  exact max_total_le (shapeCast S1x256x128 v shapeCasts_S256x128_S1x256x128) reduces_S1x256x128_S1 (by decide) (.inl rfl) rfl _ a

variable (X : Dev nD → S256x4096.Idx → Elt Ideal .bf16) (W : Dev nD → S4096x128.Idx → Elt Ideal .bf16)

theorem max_le' (x y : Ideal .f32) (a : EReal) : (Scalar.maximumf x y : EReal) ≤ a ↔ (x : EReal) ≤ a ∧ (y : EReal) ≤ a := max_le_iff

theorem fold_le (l : List (Ideal .f32)) (b : Ideal .f32) (a : EReal) :
    (List.foldl (Scalar.maximumf : Ideal .f32 → Ideal .f32 → Ideal .f32) b l : EReal) ≤ a ↔ (b : EReal) ≤ a ∧ ∀ x ∈ l, (x : EReal) ≤ a := by
  induction l generalizing b with
  | nil => simp
  | cons y l ih =>
    rw [List.foldl_cons, ih, max_le', List.forall_mem_cons, and_assoc]

theorem ownMax_le (c : Dev nD) (a : EReal) :
    (ownMax X W c : EReal) ≤ a ↔ (0 : EReal) ≤ a ∧ ∀ (o : Dev nD) (i : S256x128.Idx), (k0_pay3 (X o) (W c) i : EReal) ≤ a := by
  have hz : ((Scalar.ofBits .f32 0x00000000#32 : Ideal .f32) : EReal) = 0 := Ideal.ofBits_zero_f32
  rw [ownMax_eq, fold_le, max_le', hz, and_assoc]
  refine and_congr_right fun _ => ?_
  rw [List.forall_mem_map]
  have hr (k : Pl) : (redO X W c k : EReal) ≤ a ↔ ∀ i, (k0_pay3 (X (org c k)) (W c) i : EReal) ≤ a := red_le _ a
  simp only [hr]
  constructor
  · rintro ⟨h0, h⟩ o i
    obtain ⟨k, hk⟩ := oseq_surj c o
    have ho : org c (plOf c o) = o := (org_plOf c o).1
    have hm : ∀ k : Pl, k = 0 ∨ k ∈ ([4, 8, 1, 5, 9, 2, 6, 10, 3, 7, 11, 12, 13, 14, 15] : List Pl) := by decide
    rw [← ho]
    rcases hm (plOf c o) with e | e
    · rw [e]; exact h0 i
    · exact h _ e i
  · intro h
    exact ⟨fun i => h _ i, fun k _ i => h _ i⟩

/-- The largest values as they are sent. -/
abbrev aO (c : Dev nD) : S8x128.Idx → Elt Ideal .f32 := k0_pay36 (ownMax X W c)

theorem pay36_at {F : FTy → Type} [FloatOps F] (v : F .f32) (j : S8x128.Idx) : k0_pay36 v j = v := rfl
theorem mx_eq (e : Dev nD) (i) : first (aO X W e) i = ownMax X W e := by unfold first; exact pay36_at _ _

theorem allMax_eq (c : Dev nD) : allMax X (aO X W) W c
    = (List.map (fun d : Fin 15 => ownMax X W (mfrom c d)) [0, 1, 2, 3, 4, 5, 6, 7, 8, 9, 10, 11, 12, 13, 14]).foldl Scalar.maximumf (ownMax X W c) := by
  simp only [List.map_cons, List.map_nil, List.foldl_cons, List.foldl_nil]
  unfold allMax k0_pay42 k0_pay41 k0_pay40 k0_pay39 k0_pay38 k0_pay37 extractAt
  simp only [mx_eq]

theorem allMax_le (c : Dev nD) (a : EReal) :
    (allMax X (aO X W) W c : EReal) ≤ a ↔ (0 : EReal) ≤ a ∧ ∀ (e o : Dev nD) (i : S256x128.Idx), (k0_pay3 (X o) (W e) i : EReal) ≤ a := by
  rw [allMax_eq, fold_le, List.forall_mem_map]
  simp only [ownMax_le]
  constructor
  · rintro ⟨⟨h0, h1⟩, h2⟩
    refine ⟨h0, fun e => ?_⟩
    rcases mfrom_surj c e with rfl | ⟨d, rfl⟩
    · exact h1
    · exact (h2 d ((by decide : ∀ d : Fin 15, d ∈ ([0, 1, 2, 3, 4, 5, 6, 7, 8, 9, 10, 11, 12, 13, 14] : List (Fin 15))) d)).2
  · rintro ⟨h0, h⟩
    exact ⟨⟨h0, h c⟩, fun d _ => ⟨h0, h _⟩⟩

/-- A product, by sums. -/
theorem pay3_at (x : S256x4096.Idx → Elt Ideal .bf16) (w : S4096x128.Idx → Elt Ideal .bf16) (i : S256x128.Idx) :
    (k0_pay3 x w i : EReal) = max (∑ k : Fin 4096, (x (ix2 (i 0) k) : EReal) * (w (ix2 k (i 1)) : EReal)) 0 := by
  pointwise [k0_pay3]

end Cert.KernelIdeal.Pf

end
-- ==== Proof.KIRes.lean ====
module

public import proofs.«01_k».proof.Proof.KIValue

/-!
# The kernel's result array

The windows are the whole arrays, so a block read is the array.
-/

@[expose] public section

set_option maxRecDepth 16384

noncomputable section

namespace Cert.KernelIdeal.Pf

open Cert.KernelIdeal Cert.KernelIdeal.Gen Cert.Mesh Cert.Value
open Idealize.ShloMosaic
open Idealize.ShloMosaic.TcCoe
open Idealize.ShloMosaic.Pipeline (Dat Cfg Window)

variable {F : FTy → Type} [FloatOps F]
variable (m : (ℓ : Loc nD τ sig) → Buf (Elt F) ℓ) (ρ : Dev nD → PrngReg)

theorem xS_eq (c : Dev nD) : xS m c = m ((c : Thread nD τ).loc main_arg0) := by
  unfold xS iblk
  exact Memref.read_access_unit_zero (Elt F) main_arg0 (funext fun a => by fin_cases a <;> decide) (fun a => by fin_cases a <;> decide) _

theorem wS_eq (c : Dev nD) : wS m c = m ((c : Thread nD τ).loc main_arg1) := by
  unfold wS iblk
  exact Memref.read_access_unit_zero (Elt F) main_arg1 (funext fun a => by fin_cases a <;> decide) (fun a => by fin_cases a <;> decide) _

theorem finalA_o (c : Dev nD) : finalA m ρ c (2 : Fin 3) = oT m c := by
  have h : ((cfg0.win (2 : Fin 3)).blk t₀).view.read (Elt F) (finalA m ρ c (2 : Fin 3)) = oT m c := by
    unfold finalA
    rw [show cfg0.N = (t₀ : Fin cfg0.N).val + 1 from rfl, (dats m ρ 0 c).arrAt_succ (2 : Fin 3) t₀]
    rw [flush0_2 t₀, if_pos rfl]
    exact View.read_write_univ _ _
  rw [← h]
  exact (Memref.read_access_unit_zero (Elt F) main_v1 (funext fun a => by fin_cases a <;> decide) (fun a => by fin_cases a <;> decide) _).symm

/-- The run with the result named. -/
theorem run_res : θ_run defs (onTc (τ := τ) (main (F := F))) (s₀ m ρ) (fun r => ∀ c : Dev nD,
      r.2.mem ((c.tc : Thread nD τ).loc main_v1) = oT m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h.1 c 2).trans (finalA_o m ρ c), (h.1 c 0).trans (finalA_x m ρ c), (h.1 c 1).trans (finalA_w m ρ c)⟩) (run_main m ρ)

end Cert.KernelIdeal.Pf

end
-- ==== Proof.RValue.lean ====
module

public import proofs.«01_k».proof.Proof.Gen.ReferenceIdeal.Value
public import Idealize.ShloMosaic.Lib.StableHlo.ReadAt
public import proofs.«01_k».proof.Proof.VMath

/-!
# What the reference computes, over the extended reals

The product with its negative values put to zero, and the quantiser of the whole.
-/

@[expose] public section

set_option maxRecDepth 16384

noncomputable section

namespace Cert.ReferenceIdeal.Pf

open Cert.ReferenceIdeal Cert.ReferenceIdeal.Gen Cert.Value
open Idealize.ShloMosaic
open Idealize.ShloMosaic.TcCoe
open Idealize.ShloMosaic.Pipeline (Dat Cfg Window)

variable (m : (ℓ : Loc nD τ sig) → Buf (Elt Ideal) ℓ)

theorem cfg0_N : cfg0.N = 1 := by decide
def t₀ : Fin cfg0.N := ⟨0, by rw [cfg0_N]; decide⟩

/-- The product, its negative values put to zero. -/
def yR (x : S4096x4096.Idx → Elt Ideal .f32) (w : S4096x2048.Idx → Elt Ideal .f32) : S4096x2048.Idx → Elt Ideal .f32 :=
  fun j => max (∑ k : Fin 4096, (x (ix2 (j 0) k) : EReal) * (w (ix2 k (j 1)) : EReal)) (0 : EReal)

theorem V2_at (c : Dev nD) : V m c main_v2 = yR (m ((c : Thread nD τ).loc main_arg0)) (m ((c : Thread nD τ).loc main_arg1)) := by
  funext j
  unfold yR V
  after_reads_at

/-- The largest value. -/
def amax (y : FVec Ideal S4096x2048 .f32) : Ideal .f32 :=
  extractAt ![0, 0, 0] (shapeCast S1x1x1 (multiReduction .maximumf [1, 2] S1 (shapeCast S1x4096x2048 (absf y) shapeCasts_S4096x2048_S1x4096x2048)
    0xFF800000#32 reduces_S1x4096x2048_S1 (.inl rfl) rfl) shapeCasts_S1_S1x1x1) inpos_S1x1x1_p0_0_0

theorem cast_at {s t : Shape} {α : Type} (x : s.Idx → α) (h : s.ShapeCasts t) (j : t.Idx) : shapeCast t x h j = x (Shape.reshapeEquiv h j) := rfl

theorem amax_le (y : FVec Ideal S4096x2048 .f32) (a : EReal) : (amax y : EReal) ≤ a ↔ ∀ i, max (y i : EReal) (-(y i : EReal)) ≤ a := by
  unfold amax extractAt
  rw [cast_at]
  refine (max_total_le (shapeCast S1x4096x2048 (absf y) shapeCasts_S4096x2048_S1x4096x2048) reduces_S1x4096x2048_S1 (by decide) (.inl rfl) rfl _ a).trans ?_
  exact cast_all (absf y) shapeCasts_S4096x2048_S1x4096x2048 a

theorem rpay1_at (y : FVec Ideal S4096x2048 .f32) (j : S4096x2048.Idx) : k0_pay1 (F := Ideal) y j
    = min ((448 : ℝ) : EReal) (max ((-448 : ℝ) : EReal) (Ideal.div (y j) (Ideal.div (amax y) ((448 : ℝ) : EReal)))) * Ideal.div (amax y) ((448 : ℝ) : EReal) := by
  have hc : shapeCast S4096x2048 y shapeCasts_S4096x2048_S4096x2048 = y := shapeCast_self _ _
  rw [← ofBits_448, ← ofBits_neg_448]
  unfold k0_pay1
  simp only []
  rw [hc]
  rfl

theorem res_eq (c : Dev nD) : (dats m 0 c).arrAt 1 cfg0.N = k0_pay1 (V m c main_v2) := by
  have h := Value.blocks1 m c t₀ (by decide)
  rw [Value.flushed1] at h
  have hr (f : S4096x2048.Idx → Elt Ideal .f32) : ((cfg0.win 1).blk t₀).view.read (Elt Ideal) f = f :=
    Memref.read_access_unit_zero (Elt Ideal) main_v3 (funext fun a => by fin_cases a <;> decide) (fun a => by fin_cases a <;> decide) _
  have hi : iblk m c 0 t₀ = V m c main_v2 :=
    Memref.read_access_unit_zero (Elt Ideal) main_v2 (funext fun a => by fin_cases a <;> decide) (fun a => by fin_cases a <;> decide) _
  rw [hi] at h
  refine (hr _).symm.trans (h.trans ?_)
  show out0_1 (V m c main_v2) = _
  unfold out0_1
  rw [View.canon_cons_unit_zero (funext fun a => by fin_cases a <;> decide)]
  exact congrArg _ (View.ld_unit_zero (funext fun a => by fin_cases a <;> decide) _ _)

end Cert.ReferenceIdeal.Pf

end
-- ==== Proof.VEq.lean ====
module

public import proofs.«01_k».proof.Defs
public import proofs.«01_k».proof.Proof.KIRes
public import proofs.«01_k».proof.Proof.RValue

/-!
# The kernel and the reference compute the same function

Row block `o` of column block `e` of the product is what device `e` computes from device `o`'s block; so the devices'
common maximum is the maximum of the whole, and the two quantised results agree.
-/

@[expose] public section

set_option maxRecDepth 16384

noncomputable section

namespace Cert.Value

open Cert.KernelIdeal Cert.KernelIdeal.Gen Cert.KernelIdeal.Pf Cert.Mesh
open Cert.ReferenceIdeal.Pf (yR amax amax_le rpay1_at)
open Idealize.ShloMosaic
open Idealize.ShloMosaic.TcCoe

theorem kpay1_eq (v : Vec Ideal S256x4096 .f32) : (k0_pay1 v : S256x4096.Idx → EReal) = v := by
  unfold k0_pay1
  simp only []
  rw [shapeCast_self, shapeCast_self]
  rfl

theorem kpay2_eq (v : Vec Ideal S4096x128 .f32) : (k0_pay2 v : S4096x128.Idx → EReal) = v := by
  unfold k0_pay2
  simp only []
  rw [shapeCast_self, shapeCast_self]
  rfl

theorem kpay43_at (M : Ideal .f32) (y : Vec Ideal S4096x128 .f32) (j : S4096x128.Idx) :
    k0_pay43 M y j = Ideal.div (y j) (Ideal.div M ((448 : ℝ) : EReal)) * Ideal.div M ((448 : ℝ) : EReal) := by
  rw [← ofBits_448]
  unfold k0_pay43
  rw [shapeCast_self]
  rfl

variable (x : (⟨2, ![4096, 4096]⟩ : Shape).Idx → EReal) (w : (⟨2, ![4096, 2048]⟩ : Shape).Idx → EReal)

theorem rowDev_rowOf (o : Dev nD) (i : S256x128.Idx) : rowDev (rowOf o i) = o := by
  have h : (i 0).val < 256 := (i 0).isLt
  refine Fin.ext ?_
  show (256 * o.val + (i 0).val) / 256 = o.val
  omega

theorem rowIn_rowOf (o : Dev nD) (i : S256x128.Idx) : rowIn (rowOf o i) = i := by
  have h : (i 0).val < 256 := (i 0).isLt
  funext a
  fin_cases a
  · refine Fin.ext ?_
    show (256 * o.val + (i 0).val) % 256 = (i 0).val
    omega
  · exact Fin.ext (Nat.zero_add _)

/-- The index of the whole of device `e`'s index. -/
def gIdx (e : Dev nD) (j : S4096x128.Idx) : (⟨2, ![4096, 2048]⟩ : Shape).Idx :=
  (by decide : Layout.Tiles ⟨2, ![4096, 128]⟩ ⟨2, ![4096, 2048]⟩ 1 16).idx e j

section
variable (X : Dev nD → S256x4096.Idx → Elt Ideal .bf16) (W : Dev nD → S4096x128.Idx → Elt Ideal .bf16)
  (hX : ∀ c, (X c : S256x4096.Idx → EReal) = Layout.block ⟨2, ![256, 4096]⟩ ⟨2, ![4096, 4096]⟩ 0 16 c x)
  (hW : ∀ c, (W c : S4096x128.Idx → EReal) = Layout.block ⟨2, ![4096, 128]⟩ ⟨2, ![4096, 2048]⟩ 1 16 c w)
include hX hW

theorem pay3_yR (e : Dev nD) (j : S4096x128.Idx) :
    (k0_pay3 (X (rowDev j)) (W e) (rowIn j) : EReal) = yR x w (gIdx e j) := by
  rw [pay3_at]
  unfold yR
  refine congrArg (fun z : EReal => max z 0) (Finset.sum_congr rfl fun k _ => ?_)
  refine congrArg₂ (fun a b : EReal => a * b) ?_ ?_
  · rw [show (X (rowDev j) (ix2 (rowIn j 0) k) : EReal) = Layout.block ⟨2, ![256, 4096]⟩ ⟨2, ![4096, 4096]⟩ 0 16 (rowDev j) x (by decide) (ix2 (rowIn j 0) k) from
      congrFun (hX _) _, Layout.block_apply]
    refine congrArg x (funext fun a => ?_)
    fin_cases a
    · refine Fin.ext ?_
      show (j 0).val / 256 * 256 + (j 0).val % 256 = (j 0).val
      omega
    · rfl
  · rw [show (W e (ix2 k (rowIn j 1)) : EReal) = Layout.block ⟨2, ![4096, 128]⟩ ⟨2, ![4096, 2048]⟩ 1 16 e w (by decide) (ix2 k (rowIn j 1)) from
      congrFun (hW _) _, Layout.block_apply]
    refine congrArg w (funext fun a => ?_)
    fin_cases a <;> rfl

omit hX hW in
theorem gIdx_surj (i : (⟨2, ![4096, 2048]⟩ : Shape).Idx) : ∃ (e : Dev nD) (j : S4096x128.Idx), gIdx e j = i := by
  have h1 : (i 1).val < 2048 := (i 1).isLt
  refine ⟨⟨(i 1).val / 128, by show _ < 16; omega⟩, ix2 ⟨(i 0).val, (i 0).isLt⟩ ⟨(i 1).val % 128, by omega⟩, funext fun a => ?_⟩
  fin_cases a
  · rfl
  · refine Fin.ext ?_
    show (i 1).val / 128 * 128 + (i 1).val % 128 = (i 1).val
    omega

omit hX hW in
theorem yR_nonneg (i) : (0 : EReal) ≤ yR x w i := le_max_right _ _

omit hX hW in
theorem amax_yR (a : EReal) : (amax (yR x w) : EReal) ≤ a ↔ ∀ i, (yR x w i : EReal) ≤ a := by
  rw [amax_le]
  refine forall_congr' fun i => ?_
  have h0 := yR_nonneg x w i
  rw [max_eq_left ((EReal.neg_le_zero.mpr h0).trans h0)]

theorem max_agree (c : Dev nD) : (allMax X (aO X W) W c : EReal) = amax (yR x w) := by
  refine eq_of_forall_ge_iff fun a => ?_
  rw [allMax_le, amax_yR]
  constructor
  · rintro ⟨-, h⟩ i
    obtain ⟨e, j, rfl⟩ := gIdx_surj i
    rw [← pay3_yR x w X W hX hW e j]
    exact h _ _ _
  · intro h
    refine ⟨(yR_nonneg x w (gIdx 0 (ix2 0 0))).trans (h _), fun e o i => ?_⟩
    have hd : rowDev (rowOf o i) = o := rowDev_rowOf o i
    have hi : rowIn (rowOf o i) = i := rowIn_rowOf o i
    have h' := pay3_yR x w X W hX hW e (rowOf o i)
    rw [hd, hi] at h'
    rw [h']
    exact h _

theorem out_agree (c : Dev nD) (j : S4096x128.Idx) :
    outV X (aO X W) W c j = Cert.ReferenceIdeal.Gen.k0_pay1 (F := Ideal) (yR x w) (gIdx c j) := by
  unfold outV
  rw [kpay43_at, rpay1_at, ← max_agree x w X W hX hW c]
  have hy : (yAll X W c j : EReal) = yR x w (gIdx c j) := pay3_yR x w X W hX hW c j
  rw [hy]
  refine quant _ _ (yR_nonneg x w _) ?_
  rw [max_agree x w X W hX hW c]
  exact (amax_yR x w _).mp le_rfl _
end

theorem algebraic : Cert.algebraic_KernelIdeal_ReferenceIdeal := by
  intro m g m' g' _ hb
  refine ⟨Cert.ReferenceIdeal.Gen.k0_pay1 (F := Ideal) (yR (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1))), ?_, ?_⟩
  · refine (θ_run _ _ _).mono (fun r h c => ⟨(h c).1.trans ?_, (h c).2⟩) (run_res m g)
    funext j
    exact out_agree _ _ (xT m) (wT m)
      (fun c => (kpay1_eq _).trans ((xS_eq m c).trans (hb c).1))
      (fun c => (kpay2_eq _).trans ((wS_eq m c).trans (hb c).2)) c j
  · refine (θ_run _ _ _).mono (fun r h => ⟨(h 0).1.trans ?_, (h 0).2⟩) (Cert.ReferenceIdeal.Value.run_blocks m' g')
    rw [Cert.ReferenceIdeal.Pf.res_eq, Cert.ReferenceIdeal.Pf.V2_at]

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KLaunch
public import proofs.«01_k».proof.Proof.KILaunch
public import proofs.«01_k».proof.Proof.Gen.ReferenceIdeal.Value
public import proofs.«01_k».proof.Proof.VEq
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Pf.frame_all m ρ, fun m ρ _ => Cert.KernelIdeal.Pf.frame_all m ρ, fun m ρ _ => Cert.ReferenceIdeal.Gen.frame m ρ, trivial,
  Cert.Value.algebraic⟩

end Cert.Proof

end
